-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_top_logit_corner_nonneg [hPre_finite_top_logit_corner_nonneg : Cert.Pre_finite_top_logit_corner_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_finite_top_logit_corner_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_top_logit_corner_nonneg [hPre_finite_top_logit_corner_nonneg : Cert.Pre_finite_top_logit_corner_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_top_logit_corner_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_top_logit_corner_nonneg [hKernelIdeal : Cert.KernelIdeal.Facts] [hPre_finite_top_logit_corner_nonneg : Cert.Pre_finite_top_logit_corner_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_top_logit_corner_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_top_logit_corner_nonneg [hReferenceIdeal : Cert.ReferenceIdeal.Facts] [hPre_finite_top_logit_corner_nonneg : Cert.Pre_finite_top_logit_corner_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_top_logit_corner_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal_pre_finite_top_logit_corner_nonneg [hKernelIdeal : Cert.KernelIdeal.Facts] [hReferenceIdeal : Cert.ReferenceIdeal.Facts] [hPre_finite_top_logit_corner_nonneg : Cert.Pre_finite_top_logit_corner_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_top_logit_corner_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_finite_top_logit_corner_nonneg : Cert.Pre_finite_top_logit_corner_nonneg.Facts),
    quiescent_KernelIdeal (hKernelIdeal := hKernelIdeal)
    ∧ quiescent_KernelIdeal_pre_finite_top_logit_corner_nonneg (hKernelIdeal := hKernelIdeal) (hPre_finite_top_logit_corner_nonneg := hPre_finite_top_logit_corner_nonneg)
    ∧ quiescent_ReferenceIdeal (hReferenceIdeal := hReferenceIdeal)
    ∧ quiescent_ReferenceIdeal_pre_finite_top_logit_corner_nonneg (hReferenceIdeal := hReferenceIdeal) (hPre_finite_top_logit_corner_nonneg := hPre_finite_top_logit_corner_nonneg)
    ∧ algebraic_KernelIdeal_ReferenceIdeal_pre_finite_top_logit_corner_nonneg (hKernelIdeal := hKernelIdeal) (hReferenceIdeal := hReferenceIdeal) (hPre_finite_top_logit_corner_nonneg := hPre_finite_top_logit_corner_nonneg)
-- ==== Pre_finite_top_logit_corner_nonneg.lean ====
abbrev S4x5000x92 : Shape := ⟨3, ![4, 5000, 92]⟩
abbrev S4x5000x4 : Shape := ⟨3, ![4, 5000, 4]⟩
abbrev S4x2 : Shape := ⟨2, ![4, 2]⟩
abbrev S_ : Shape := ⟨0, ![]⟩
abbrev S4x5000 : Shape := ⟨2, ![4, 5000]⟩
abbrev S4x5000x1 : Shape := ⟨3, ![4, 5000, 1]⟩
abbrev S4 : Shape := ⟨1, ![4]⟩

class Facts : Prop where
  reducesTo_S4x5000x92_S4x5000_d2 : S4x5000x92.ReducesTo [2] S4x5000
  h_S_ : 0 < S_.numel
  slices_S4x5000x4_S4x5000x1_0_0_0 : S4x5000x4.Slices ![0, 0, 0] S4x5000x1
  slices_S4x5000x4_S4x5000x1_0_0_1 : S4x5000x4.Slices ![0, 0, 1] S4x5000x1
  slices_S4x5000x4_S4x5000x1_0_0_2 : S4x5000x4.Slices ![0, 0, 2] S4x5000x1
  slices_S4x5000x4_S4x5000x1_0_0_3 : S4x5000x4.Slices ![0, 0, 3] S4x5000x1
  bcast_S_S4x5000x1 : S_.BroadcastsInDim S4x5000x1 (![] : Fin 0 → Fin S4x5000x1.rank)
  concatenates_S4x5000x1_S4x5000x1_S4x5000x1_S4x5000x1_S4x5000x4_d2 : Shape.Concatenates [S4x5000x1, S4x5000x1, S4x5000x1, S4x5000x1] S4x5000x4 2
  reducesTo_S4x5000x4_S4_d1_2 : S4x5000x4.ReducesTo [1, 2] S4
  bcast_S_S4x5000 : S_.BroadcastsInDim S4x5000 (![] : Fin 0 → Fin S4x5000.rank)
  reducesTo_S4x5000_S_d0_1 : S4x5000.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_v0 : FVec F S4x5000 .f32) (main_v17 : FVec F S4x5000x4 .f32) (main_cst_4 : FVec F S_ .f32) : IVec S_ 1 :=
  let main_v18 : FVec F S4 .f32 := (fun x v => Host.reduce FloatOps.maximumf x v reducesTo_S4x5000x4_S4_d1_2 h_S_) main_v17 main_cst_4
  let main_v19 : FVec F S4x5000 .f32 := Host.absf main_v0
  let main_cst_5 : FVec F S_ .f32 := constant S_ .f32 0x7F800000#32
  let main_v20 : FVec F S4x5000 .f32 := broadcastInDim S4x5000 ![] bcast_S_S4x5000 main_cst_5
  let main_v21 : IVec S4x5000 1 := cmpf .olt main_v19 main_v20
  let main_c : IVec S_ 1 := constantI S_ 1 1#1
  let main_v22 : IVec S_ 1 := (fun x v => Host.reduce IntOp.andi x v reducesTo_S4x5000_S_d0_1 h_S_) main_v21 main_c
  let main_cst_6 : FVec F S_ .f32 := constant S_ .f32 0x00000000#32
  let main_v23 : FVec F S4 .f32 := broadcastInDim S4 ![] bcast_S_S4 main_cst_6
  let main_v24 : IVec S4 1 := cmpf .oge main_v18 main_v23
  let main_c_7 : IVec S_ 1 := constantI S_ 1 1#1
  let main_v25 : IVec S_ 1 := (fun x v => Host.reduce IntOp.andi x v reducesTo_S4_S_d0 h_S_) main_v24 main_c_7
  let main_v26 : IVec S_ 1 := andi main_v22 main_v25
  main_v26

def fn {F : FTy → Type} [FloatOps F] (main_arg0 : FVec F S4x5000x92 .f32) (main_arg1 : FVec F S4x5000x4 .f32) (main_arg2 : IVec S4x2 32) : IVec S_ 1 :=
  let main_cst : FVec F S_ .f32 := constant S_ .f32 0xFF800000#32
  let main_v0 : FVec F S4x5000 .f32 := (fun x v => Host.reduce FloatOps.maximumf x v reducesTo_S4x5000x92_S4x5000_d2 h_S_) main_arg0 main_cst
  let main_v1 : FVec F S4x5000x1 .f32 := (extractStridedSlice S4x5000x1 ![0, 0, 0] · slices_S4x5000x4_S4x5000x1_0_0_0) main_arg1
  let main_v2 : FVec F S4x5000x1 .f32 := (extractStridedSlice S4x5000x1 ![0, 0, 1] · slices_S4x5000x4_S4x5000x1_0_0_1) main_arg1
  let main_v3 : FVec F S4x5000x1 .f32 := (extractStridedSlice S4x5000x1 ![0, 0, 2] · slices_S4x5000x4_S4x5000x1_0_0_2) main_arg1
  let main_v4 : FVec F S4x5000x1 .f32 := (extractStridedSlice S4x5000x1 ![0, 0, 3] · slices_S4x5000x4_S4x5000x1_0_0_3) main_arg1
  let main_cst_0 : FVec F S_ .f32 := constant S_ .f32 0x3F000000#32
  let main_v5 : FVec F S4x5000x1 .f32 := broadcastInDim S4x5000x1 ![] bcast_S_S4x5000x1 main_cst_0
  let main_v6 : FVec F S4x5000x1 .f32 := mulf main_v5 main_v3
  let main_v7 : FVec F S4x5000x1 .f32 := subf main_v1 main_v6
  let main_cst_1 : FVec F S_ .f32 := constant S_ .f32 0x3F000000#32
  let main_v8 : FVec F S4x5000x1 .f32 := broadcastInDim S4x5000x1 ![] bcast_S_S4x5000x1 main_cst_1
  let main_v9 : FVec F S4x5000x1 .f32 := mulf main_v8 main_v4
  let main_v10 : FVec F S4x5000x1 .f32 := subf main_v2 main_v9
  let main_cst_2 : FVec F S_ .f32 := constant S_ .f32 0x3F000000#32
  let main_v11 : FVec F S4x5000x1 .f32 := broadcastInDim S4x5000x1 ![] bcast_S_S4x5000x1 main_cst_2
  let main_v12 : FVec F S4x5000x1 .f32 := mulf main_v11 main_v3
  let main_v13 : FVec F S4x5000x1 .f32 := addf main_v1 main_v12
  let main_cst_3 : FVec F S_ .f32 := constant S_ .f32 0x3F000000#32
  let main_v14 : FVec F S4x5000x1 .f32 := broadcastInDim S4x5000x1 ![] bcast_S_S4x5000x1 main_cst_3
  let main_v15 : FVec F S4x5000x1 .f32 := mulf main_v14 main_v4
  let main_v16 : FVec F S4x5000x1 .f32 := addf main_v2 main_v15
  let main_v17 : FVec F S4x5000x4 .f32 := concatenate S4x5000x4 2 [⟨S4x5000x1, main_v7⟩, ⟨S4x5000x1, main_v10⟩, ⟨S4x5000x1, main_v13⟩, ⟨S4x5000x1, main_v16⟩] concatenates_S4x5000x1_S4x5000x1_S4x5000x1_S4x5000x1_S4x5000x4_d2
  let main_cst_4 : FVec F S_ .f32 := constant S_ .f32 0xFF800000#32
  fn_part1 (F := F) main_v0 main_v17 main_cst_4
-- ==== KernelIdeal.lean ====
abbrev S4x5000x92 : Shape := ⟨3, ![4, 5000, 92]⟩
abbrev S4x5000x4 : Shape := ⟨3, ![4, 5000, 4]⟩
abbrev S4x2 : Shape := ⟨2, ![4, 2]⟩
abbrev S_ : Shape := ⟨0, ![]⟩
abbrev S4x5120x128 : Shape := ⟨3, ![4, 5120, 128]⟩
abbrev S4x4x5000 : Shape := ⟨3, ![4, 4, 5000]⟩
abbrev S4x8x5120 : Shape := ⟨3, ![4, 8, 5120]⟩
abbrev S4x1x128 : Shape := ⟨3, ![4, 1, 128]⟩
abbrev S4x8x128 : Shape := ⟨3, ![4, 8, 128]⟩
abbrev S4x1x100 : Shape := ⟨3, ![4, 1, 100]⟩
abbrev S4x100 : Shape := ⟨2, ![4, 100]⟩
abbrev S4x4x100 : Shape := ⟨3, ![4, 4, 100]⟩
abbrev S4x100x4 : Shape := ⟨3, ![4, 100, 4]⟩
abbrev S4x1 : Shape := ⟨2, ![4, 1]⟩
abbrev S4 : Shape := ⟨1, ![4]⟩
abbrev S4x4 : Shape := ⟨2, ![4, 4]⟩
abbrev S4x1x4 : Shape := ⟨3, ![4, 1, 4]⟩
abbrev S1x5120x128 : Shape := ⟨3, ![1, 5120, 128]⟩
abbrev S1x8x5120 : Shape := ⟨3, ![1, 8, 5120]⟩
abbrev S1x1x128 : Shape := ⟨3, ![1, 1, 128]⟩
abbrev S1x8x128 : Shape := ⟨3, ![1, 8, 128]⟩
abbrev S8x5120 : Shape := ⟨2, ![8, 5120]⟩
abbrev S5120x8 : Shape := ⟨2, ![5120, 8]⟩
abbrev S128x128 : Shape := ⟨2, ![128, 128]⟩
abbrev S128x1 : Shape := ⟨2, ![128, 1]⟩
abbrev S1x5120 : Shape := ⟨2, ![1, 5120]⟩
abbrev S5120x128 : Shape := ⟨2, ![5120, 128]⟩
abbrev S5120 : Shape := ⟨1, ![5120]⟩
abbrev S5120x1 : Shape := ⟨2, ![5120, 1]⟩
abbrev S128x2 : Shape := ⟨2, ![128, 2]⟩
abbrev S2x128 : Shape := ⟨2, ![2, 128]⟩
abbrev S1x128 : Shape := ⟨2, ![1, 128]⟩
abbrev S128x5120 : Shape := ⟨2, ![128, 5120]⟩
abbrev S128 : Shape := ⟨1, ![128]⟩
abbrev S128x8 : Shape := ⟨2, ![128, 8]⟩
abbrev S8x128 : Shape := ⟨2, ![8, 128]⟩
abbrev S4x5120 : Shape := ⟨2, ![4, 5120]⟩
abbrev S1x4x5120 : Shape := ⟨3, ![1, 4, 5120]⟩
abbrev S1 : Shape := ⟨1, ![1]⟩
abbrev S1x1x1 : Shape := ⟨3, ![1, 1, 1]⟩
abbrev S1x1024 : Shape := ⟨2, ![1, 1024]⟩
abbrev S128x1024 : Shape := ⟨2, ![128, 1024]⟩
abbrev S4x128 : Shape := ⟨2, ![4, 128]⟩
abbrev S1x128x1 : Shape := ⟨3, ![1, 128, 1]⟩
abbrev S1x1 : Shape := ⟨2, ![1, 1]⟩
abbrev S128x4 : Shape := ⟨2, ![128, 4]⟩
abbrev S1x4x128 : Shape := ⟨3, ![1, 4, 128]⟩

abbrev nBuf : Space → Nat
  | .hbm => 33
  | .vmem => 16
  | .smem => 0
  | _ => 0

abbrev bufTy : (tb : Table) → Fin (tcTables nBuf tb) → BufTy
  | .hbm, ⟨0, _⟩ => ⟨S4x5000x92, .f32⟩
  | .hbm, ⟨1, _⟩ => ⟨S4x5000x4, .f32⟩
  | .hbm, ⟨2, _⟩ => ⟨S4x2, .i32⟩
  | .hbm, ⟨3, _⟩ => ⟨S_, .i32⟩
  | .hbm, ⟨4, _⟩ => ⟨S_, .f32⟩
  | .hbm, ⟨5, _⟩ => ⟨S4x5120x128, .f32⟩
  | .hbm, ⟨6, _⟩ => ⟨S4x4x5000, .f32⟩
  | .hbm, ⟨7, _⟩ => ⟨S_, .i32⟩
  | .hbm, ⟨8, _⟩ => ⟨S_, .f32⟩
  | .hbm, ⟨9, _⟩ => ⟨S4x8x5120, .f32⟩
  | .hbm, ⟨10, _⟩ => ⟨S4x1x128, .f32⟩
  | .hbm, ⟨11, _⟩ => ⟨S4x1x128, .i32⟩
  | .hbm, ⟨12, _⟩ => ⟨S4x8x128, .f32⟩
  | .hbm, ⟨13, _⟩ => ⟨S4x1x100, .f32⟩
  | .hbm, ⟨14, _⟩ => ⟨S4x100, .f32⟩
  | .hbm, ⟨15, _⟩ => ⟨S4x1x100, .i32⟩
  | .hbm, ⟨16, _⟩ => ⟨S4x100, .i32⟩
  | .hbm, ⟨17, _⟩ => ⟨S4x4x100, .f32⟩
  | .hbm, ⟨18, _⟩ => ⟨S4x100x4, .f32⟩
  | .hbm, ⟨19, _⟩ => ⟨S4x1, .i32⟩
  | .hbm, ⟨20, _⟩ => ⟨S4, .i32⟩
  | .hbm, ⟨21, _⟩ => ⟨S4, .f32⟩
  | .hbm, ⟨22, _⟩ => ⟨S4x1, .i32⟩
  | .hbm, ⟨23, _⟩ => ⟨S4, .i32⟩
  | .hbm, ⟨24, _⟩ => ⟨S4, .f32⟩
  | .hbm, ⟨25, _⟩ => ⟨S4x1, .f32⟩
  | .hbm, ⟨26, _⟩ => ⟨S4x1, .f32⟩
  | .hbm, ⟨27, _⟩ => ⟨S4x1, .f32⟩
  | .hbm, ⟨28, _⟩ => ⟨S4x1, .f32⟩
  | .hbm, ⟨29, _⟩ => ⟨S4x4, .f32⟩
  | .hbm, ⟨30, _⟩ => ⟨S4x1x4, .f32⟩
  | .hbm, ⟨31, _⟩ => ⟨S4x100x4, .f32⟩
  | .hbm, ⟨32, _⟩ => ⟨S4x100x4, .f32⟩
  | .local _ .vmem, ⟨0, _⟩ => ⟨S1x5120x128, .f32⟩
  | .local _ .vmem, ⟨1, _⟩ => ⟨S1x5120x128, .f32⟩
  | .local _ .vmem, ⟨2, _⟩ => ⟨S1x8x5120, .f32⟩
  | .local _ .vmem, ⟨3, _⟩ => ⟨S1x8x5120, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .i32⟩
  | .local _ .vmem, ⟨7, _⟩ => ⟨S1x1x128, .i32⟩
  | .local _ .vmem, ⟨8, _⟩ => ⟨S1x8x128, .f32⟩
  | .local _ .vmem, ⟨9, _⟩ => ⟨S1x8x128, .f32⟩
  | .local _ .vmem, ⟨10, _⟩ => ⟨S8x5120, .f32⟩
  | .local _ .vmem, ⟨11, _⟩ => ⟨S8x5120, .f32⟩
  | .local _ .vmem, ⟨12, _⟩ => ⟨S5120x8, .f32⟩
  | .local _ .vmem, ⟨13, _⟩ => ⟨S8x5120, .f32⟩
  | .local _ .vmem, ⟨14, _⟩ => ⟨S5120x8, .f32⟩
  | .local _ .vmem, ⟨15, _⟩ => ⟨S8x5120, .f32⟩
  | _, _ => ⟨S4x5000x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_call0_v0 : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_call1_v0 : Ref sig .tc := ⟨.hbm, 8, rfl⟩
abbrev main_call0_v2 : Ref sig .tc := ⟨.hbm, 9, rfl⟩
abbrev main_call0_v3_0 : Ref sig .tc := ⟨.hbm, 10, rfl⟩
abbrev main_call0_v3_1 : Ref sig .tc := ⟨.hbm, 11, rfl⟩
abbrev main_call0_v3_2 : Ref sig .tc := ⟨.hbm, 12, rfl⟩
abbrev main_call0_v4 : Ref sig .tc := ⟨.hbm, 13, rfl⟩
abbrev main_v0_0 : Ref sig .tc := ⟨.hbm, 14, rfl⟩
abbrev main_call0_v6 : Ref sig .tc := ⟨.hbm, 15, rfl⟩
abbrev main_v0_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_v22 : Ref sig .tc := ⟨.hbm, 31, rfl⟩
abbrev main_v0_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c40_i32 : BitVec 32 := 40#32
  let v92 : BitVec 32 := Scalar.addi c0_i32 c40_i32
  let c1_i32 : BitVec 32 := 1#32
  ⟨c0_i32, v92, c1_i32⟩
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v221 : BitVec 32 := Scalar.muli arg12 c128_i32
  let v222 : Index := Scalar.indexCast v221
  let c0_116 : Index := 0#32
  ![v222.toNat, 0]
def k0_off2 (k0_t1 : Fin k0_t1_loop.trips) : Fin 2 → Nat :=
  let c4_118 : Index := 4#32
  let c0_i32 : BitVec 32 := 0#32
  let c1_i32 : BitVec 32 := 1#32
  let arg12 : BitVec 32 := Scf.iv c0_i32 c1_i32 k0_t1
  let c128_i32 : BitVec 32 := 128#32
  let v221 : BitVec 32 := Scalar.muli arg12 c128_i32
  let v225 : Index := Scalar.indexCast v221
  ![4, v225.toNat]
@[reducible] def k0_t2_loop : Scf.Loop 32 :=
  let c0_i32_31 : BitVec 32 := 0#32
  let c40_i32_32 : BitVec 32 := 40#32
  let v94 : BitVec 32 := Scalar.addi c0_i32_31 c40_i32_32
  let c1_i32_33 : BitVec 32 := 1#32
  ⟨c0_i32_31, v94, c1_i32_33⟩
def k0_off3 (k0_t2 : Fin k0_t2_loop.trips) : Fin 2 → Nat :=
  let c4_116 : Index := 4#32
  let c0_i32_31 : BitVec 32 := 0#32
  let c1_i32_33 : BitVec 32 := 1#32
  let arg12 : BitVec 32 := Scf.iv c0_i32_31 c1_i32_33 k0_t2
  let c128_i32 : BitVec 32 := 128#32
  let v221 : BitVec 32 := Scalar.muli arg12 c128_i32
  let v222 : Index := Scalar.indexCast v221
  ![4, v222.toNat]
def k0_off4 (k0_t2 : Fin k0_t2_loop.trips) : Fin 2 → Nat :=
  let c0_121 : Index := 0#32
  let c0_i32_31 : BitVec 32 := 0#32
  let c1_i32_33 : BitVec 32 := 1#32
  let arg12 : BitVec 32 := Scf.iv c0_i32_31 c1_i32_33 k0_t2
  let c128_i32 : BitVec 32 := 128#32
  let v221 : BitVec 32 := Scalar.muli arg12 c128_i32
  let v248 : Index := Scalar.indexCast v221
  ![0, v248.toNat]
@[reducible] def k0_t3_loop : Scf.Loop 32 :=
  let c0_i32_37 : BitVec 32 := 0#32
  let c40_i32_38 : BitVec 32 := 40#32
  let v96 : BitVec 32 := Scalar.addi c0_i32_37 c40_i32_38
  let c1_i32_39 : BitVec 32 := 1#32
  ⟨c0_i32_37, v96, c1_i32_39⟩
def k0_off5 (k0_t3 : Fin k0_t3_loop.trips) : Fin 2 → Nat :=
  let c0_i32_37 : BitVec 32 := 0#32
  let c1_i32_39 : BitVec 32 := 1#32
  let arg12 : BitVec 32 := Scf.iv c0_i32_37 c1_i32_39 k0_t3
  let c128_i32 : BitVec 32 := 128#32
  let v221 : BitVec 32 := Scalar.muli arg12 c128_i32
  let v232 : Index := Scalar.indexCast v221
  let c0_119 : Index := 0#32
  ![v232.toNat, 0]
def k0_off6 (k0_t3 : Fin k0_t3_loop.trips) : Fin 2 → Nat :=
  let c0_121 : Index := 0#32
  let c0_i32_37 : BitVec 32 := 0#32
  let c1_i32_39 : BitVec 32 := 1#32
  let arg12 : BitVec 32 := Scf.iv c0_i32_37 c1_i32_39 k0_t3
  let c128_i32 : BitVec 32 := 128#32
  let v221 : BitVec 32 := Scalar.muli arg12 c128_i32
  let v237 : Index := Scalar.indexCast v221
  ![0, v237.toNat]
@[reducible] def k0_t4_loop : Scf.Loop 32 :=
  let c0_i32_60 : BitVec 32 := 0#32
  let c40_i32_61 : BitVec 32 := 40#32
  let v141 : BitVec 32 := Scalar.addi c0_i32_60 c40_i32_61
  let c1_i32_62 : BitVec 32 := 1#32
  ⟨c0_i32_60, v141, c1_i32_62⟩
def k0_off7 (k0_t4 : Fin k0_t4_loop.trips) : Fin 2 → Nat :=
  let c0_i32_60 : BitVec 32 := 0#32
  let c1_i32_62 : BitVec 32 := 1#32
  let arg12 : BitVec 32 := Scf.iv c0_i32_60 c1_i32_62 k0_t4
  let c128_i32 : BitVec 32 := 128#32
  let v221 : BitVec 32 := Scalar.muli arg12 c128_i32
  let v222 : Index := Scalar.indexCast v221
  let c0_116 : Index := 0#32
  ![v222.toNat, 0]
@[reducible] def k0_t5_loop (k0_t4 : Fin k0_t4_loop.trips) : Scf.Loop 32 :=
  let c0_i32_127 : BitVec 32 := 0#32
  let c0_i32_60 : BitVec 32 := 0#32
  let c1_i32_62 : BitVec 32 := 1#32
  let arg12 : BitVec 32 := Scf.iv c0_i32_60 c1_i32_62 k0_t4
  let c128_i32 : BitVec 32 := 128#32
  let v221 : BitVec 32 := Scalar.muli arg12 c128_i32
  let c1024_i32 : BitVec 32 := 1024#32
  let v239 : BitVec 32 := Scalar.addi v221 c1024_i32
  let c1_i32_118 : BitVec 32 := 1#32
  let v240 : BitVec 32 := Scalar.subi v239 c1_i32_118
  let c0_i32_120 : BitVec 32 := 0#32
  let v242 : BitVec 1 := Scalar.cmpi .sgt v240 c0_i32_120
  let v243 : BitVec 32 := Scalar.extui v242
  let c0_i32_121 : BitVec 32 := 0#32
  let v244 : BitVec 1 := Scalar.cmpi .slt v240 c0_i32_121
  let v245 : BitVec 32 := Scalar.extui v244
  let v246 : BitVec 32 := Scalar.subi v243 v245
  let c1024_i32_119 : BitVec 32 := 1024#32
  let c0_i32_122 : BitVec 32 := 0#32
  let v247 : BitVec 1 := Scalar.cmpi .sgt c1024_i32_119 c0_i32_122
  let v248 : BitVec 32 := Scalar.extui v247
  let c0_i32_123 : BitVec 32 := 0#32
  let v249 : BitVec 1 := Scalar.cmpi .slt c1024_i32_119 c0_i32_123
  let v250 : BitVec 32 := Scalar.extui v249
  let v251 : BitVec 32 := Scalar.subi v248 v250
  let v252 : BitVec 1 := Scalar.cmpi .ne v246 v251
  let v253 : BitVec 32 := Scalar.remsi v240 c1024_i32_119
  let c0_i32_124 : BitVec 32 := 0#32
  let v254 : BitVec 1 := Scalar.cmpi .ne v253 c0_i32_124
  let v255 : BitVec 1 := Scalar.andi v252 v254
  let v241 : BitVec 32 := Scalar.divsi v240 c1024_i32_119
  let c1_i32_125 : BitVec 32 := 1#32
  let v256 : BitVec 32 := Scalar.subi v241 c1_i32_125
  let v257 : BitVec 32 := Scalar.select v255 v256 v241
  let v259 : BitVec 32 := Scalar.subi v257 c0_i32_127
  let c1_i32_128 : BitVec 32 := 1#32
  let v261 : BitVec 32 := Scalar.divsi v259 c1_i32_128
  let v262 : BitVec 32 := Scalar.muli v261 c1_i32_128
  let v263 : BitVec 32 := Scalar.addi c0_i32_127 v262
  let c1_i32_129 : BitVec 32 := 1#32
  ⟨c0_i32_127, v263, c1_i32_129⟩
def k0_off8 (k0_t4 : Fin k0_t4_loop.trips) (k0_t5 : Fin (k0_t5_loop k0_t4).trips) : Fin 2 → Nat :=
  let c0_142 : Index := 0#32
  let c0_i32_127 : BitVec 32 := 0#32
  let c1_i32_129 : BitVec 32 := 1#32
  let arg13 : BitVec 32 := Scf.iv c0_i32_127 c1_i32_129 k0_t5
  let c1024_i32_141 : BitVec 32 := 1024#32
  let v318 : BitVec 32 := Scalar.muli arg13 c1024_i32_141
  let v319 : Index := Scalar.indexCast v318
  ![0, v319.toNat]
def k0_off9 (k0_t4 : Fin k0_t4_loop.trips) (k0_t5 : Fin (k0_t5_loop k0_t4).trips) : Fin 2 → Nat :=
  let c1_143 : Index := 1#32
  let c0_i32_127 : BitVec 32 := 0#32
  let c1_i32_129 : BitVec 32 := 1#32
  let arg13 : BitVec 32 := Scf.iv c0_i32_127 c1_i32_129 k0_t5
  let c1024_i32_141 : BitVec 32 := 1024#32
  let v318 : BitVec 32 := Scalar.muli arg13 c1024_i32_141
  let v321 : Index := Scalar.indexCast v318
  ![1, v321.toNat]
def k0_off10 (k0_t4 : Fin k0_t4_loop.trips) (k0_t5 : Fin (k0_t5_loop k0_t4).trips) : Fin 2 → Nat :=
  let c2_144 : Index := 2#32
  let c0_i32_127 : BitVec 32 := 0#32
  let c1_i32_129 : BitVec 32 := 1#32
  let arg13 : BitVec 32 := Scf.iv c0_i32_127 c1_i32_129 k0_t5
  let c1024_i32_141 : BitVec 32 := 1024#32
  let v318 : BitVec 32 := Scalar.muli arg13 c1024_i32_141
  let v323 : Index := Scalar.indexCast v318
  ![2, v323.toNat]
def k0_off11 (k0_t4 : Fin k0_t4_loop.trips) (k0_t5 : Fin (k0_t5_loop k0_t4).trips) : Fin 2 → Nat :=
  let c3_145 : Index := 3#32
  let c0_i32_127 : BitVec 32 := 0#32
  let c1_i32_129 : BitVec 32 := 1#32
  let arg13 : BitVec 32 := Scf.iv c0_i32_127 c1_i32_129 k0_t5
  let c1024_i32_141 : BitVec 32 := 1024#32
  let v318 : BitVec 32 := Scalar.muli arg13 c1024_i32_141
  let v325 : Index := Scalar.indexCast v318
  ![3, v325.toNat]
def k0_off12 (k0_t4 : Fin k0_t4_loop.trips) (k0_t5 : Fin (k0_t5_loop k0_t4).trips) : Fin 2 → Nat :=
  let c4_146 : Index := 4#32
  let c0_i32_127 : BitVec 32 := 0#32
  let c1_i32_129 : BitVec 32 := 1#32
  let arg13 : BitVec 32 := Scf.iv c0_i32_127 c1_i32_129 k0_t5
  let c1024_i32_141 : BitVec 32 := 1024#32
  let v318 : BitVec 32 := Scalar.muli arg13 c1024_i32_141
  let v327 : Index := Scalar.indexCast v318
  ![4, v327.toNat]
@[reducible] def k0_t6_loop (k0_t4 : Fin k0_t4_loop.trips) : Scf.Loop 32 :=
  let c0_i32_127 : BitVec 32 := 0#32
  let c0_i32_60 : BitVec 32 := 0#32
  let c1_i32_62 : BitVec 32 := 1#32
  let arg12 : BitVec 32 := Scf.iv c0_i32_60 c1_i32_62 k0_t4
  let c128_i32 : BitVec 32 := 128#32
  let v221 : BitVec 32 := Scalar.muli arg12 c128_i32
  let c1024_i32 : BitVec 32 := 1024#32
  let v239 : BitVec 32 := Scalar.addi v221 c1024_i32
  let c1_i32_118 : BitVec 32 := 1#32
  let v240 : BitVec 32 := Scalar.subi v239 c1_i32_118
  let c0_i32_120 : BitVec 32 := 0#32
  let v242 : BitVec 1 := Scalar.cmpi .sgt v240 c0_i32_120
  let v243 : BitVec 32 := Scalar.extui v242
  let c0_i32_121 : BitVec 32 := 0#32
  let v244 : BitVec 1 := Scalar.cmpi .slt v240 c0_i32_121
  let v245 : BitVec 32 := Scalar.extui v244
  let v246 : BitVec 32 := Scalar.subi v243 v245
  let c1024_i32_119 : BitVec 32 := 1024#32
  let c0_i32_122 : BitVec 32 := 0#32
  let v247 : BitVec 1 := Scalar.cmpi .sgt c1024_i32_119 c0_i32_122
  let v248 : BitVec 32 := Scalar.extui v247
  let c0_i32_123 : BitVec 32 := 0#32
  let v249 : BitVec 1 := Scalar.cmpi .slt c1024_i32_119 c0_i32_123
  let v250 : BitVec 32 := Scalar.extui v249
  let v251 : BitVec 32 := Scalar.subi v248 v250
  let v252 : BitVec 1 := Scalar.cmpi .ne v246 v251
  let v253 : BitVec 32 := Scalar.remsi v240 c1024_i32_119
  let c0_i32_124 : BitVec 32 := 0#32
  let v254 : BitVec 1 := Scalar.cmpi .ne v253 c0_i32_124
  let v255 : BitVec 1 := Scalar.andi v252 v254
  let v241 : BitVec 32 := Scalar.divsi v240 c1024_i32_119
  let c1_i32_125 : BitVec 32 := 1#32
  let v256 : BitVec 32 := Scalar.subi v241 c1_i32_125
  let v257 : BitVec 32 := Scalar.select v255 v256 v241
  let v259 : BitVec 32 := Scalar.subi v257 c0_i32_127
  let c1_i32_128 : BitVec 32 := 1#32
  let v261 : BitVec 32 := Scalar.divsi v259 c1_i32_128
  let v262 : BitVec 32 := Scalar.muli v261 c1_i32_128
  let v263 : BitVec 32 := Scalar.addi c0_i32_127 v262
  let v260 : BitVec 32 := Scalar.addi c0_i32_127 v259
  let c1_i32_130 : BitVec 32 := 1#32
  ⟨v263, v260, c1_i32_130⟩
def k0_off13 (k0_t4 : Fin k0_t4_loop.trips) (k0_t6 : Fin (k0_t6_loop k0_t4).trips) : Fin 2 → Nat :=
  let c0_142 : Index := 0#32
  let c0_i32_127 : BitVec 32 := 0#32
  let c0_i32_60 : BitVec 32 := 0#32
  let c1_i32_62 : BitVec 32 := 1#32
  let arg12 : BitVec 32 := Scf.iv c0_i32_60 c1_i32_62 k0_t4
  let c128_i32 : BitVec 32 := 128#32
  let v221 : BitVec 32 := Scalar.muli arg12 c128_i32
  let c1024_i32 : BitVec 32 := 1024#32
  let v239 : BitVec 32 := Scalar.addi v221 c1024_i32
  let c1_i32_118 : BitVec 32 := 1#32
  let v240 : BitVec 32 := Scalar.subi v239 c1_i32_118
  let c0_i32_120 : BitVec 32 := 0#32
  let v242 : BitVec 1 := Scalar.cmpi .sgt v240 c0_i32_120
  let v243 : BitVec 32 := Scalar.extui v242
  let c0_i32_121 : BitVec 32 := 0#32
  let v244 : BitVec 1 := Scalar.cmpi .slt v240 c0_i32_121
  let v245 : BitVec 32 := Scalar.extui v244
  let v246 : BitVec 32 := Scalar.subi v243 v245
  let c1024_i32_119 : BitVec 32 := 1024#32
  let c0_i32_122 : BitVec 32 := 0#32
  let v247 : BitVec 1 := Scalar.cmpi .sgt c1024_i32_119 c0_i32_122
  let v248 : BitVec 32 := Scalar.extui v247
  let c0_i32_123 : BitVec 32 := 0#32
  let v249 : BitVec 1 := Scalar.cmpi .slt c1024_i32_119 c0_i32_123
  let v250 : BitVec 32 := Scalar.extui v249
  let v251 : BitVec 32 := Scalar.subi v248 v250
  let v252 : BitVec 1 := Scalar.cmpi .ne v246 v251
  let v253 : BitVec 32 := Scalar.remsi v240 c1024_i32_119
  let c0_i32_124 : BitVec 32 := 0#32
  let v254 : BitVec 1 := Scalar.cmpi .ne v253 c0_i32_124
  let v255 : BitVec 1 := Scalar.andi v252 v254
  let v241 : BitVec 32 := Scalar.divsi v240 c1024_i32_119
  let c1_i32_125 : BitVec 32 := 1#32
  let v256 : BitVec 32 := Scalar.subi v241 c1_i32_125
  let v257 : BitVec 32 := Scalar.select v255 v256 v241
  let v259 : BitVec 32 := Scalar.subi v257 c0_i32_127
  let c1_i32_128 : BitVec 32 := 1#32
  let v261 : BitVec 32 := Scalar.divsi v259 c1_i32_128
  let v262 : BitVec 32 := Scalar.muli v261 c1_i32_128
  let v263 : BitVec 32 := Scalar.addi c0_i32_127 v262
  let c1_i32_130 : BitVec 32 := 1#32
  let arg13 : BitVec 32 := Scf.iv v263 c1_i32_130 k0_t6
  let c1024_i32_141 : BitVec 32 := 1024#32
  let v318 : BitVec 32 := Scalar.muli arg13 c1024_i32_141
  let v319 : Index := Scalar.indexCast v318
  ![0, v319.toNat]
def k0_off14 (k0_t4 : Fin k0_t4_loop.trips) (k0_t6 : Fin (k0_t6_loop k0_t4).trips) : Fin 2 → Nat :=
  let c1_143 : Index := 1#32
  let c0_i32_127 : BitVec 32 := 0#32
  let c0_i32_60 : BitVec 32 := 0#32
  let c1_i32_62 : BitVec 32 := 1#32
  let arg12 : BitVec 32 := Scf.iv c0_i32_60 c1_i32_62 k0_t4
  let c128_i32 : BitVec 32 := 128#32
  let v221 : BitVec 32 := Scalar.muli arg12 c128_i32
  let c1024_i32 : BitVec 32 := 1024#32
  let v239 : BitVec 32 := Scalar.addi v221 c1024_i32
  let c1_i32_118 : BitVec 32 := 1#32
  let v240 : BitVec 32 := Scalar.subi v239 c1_i32_118
  let c0_i32_120 : BitVec 32 := 0#32
  let v242 : BitVec 1 := Scalar.cmpi .sgt v240 c0_i32_120
  let v243 : BitVec 32 := Scalar.extui v242
  let c0_i32_121 : BitVec 32 := 0#32
  let v244 : BitVec 1 := Scalar.cmpi .slt v240 c0_i32_121
  let v245 : BitVec 32 := Scalar.extui v244
  let v246 : BitVec 32 := Scalar.subi v243 v245
  let c1024_i32_119 : BitVec 32 := 1024#32
  let c0_i32_122 : BitVec 32 := 0#32
  let v247 : BitVec 1 := Scalar.cmpi .sgt c1024_i32_119 c0_i32_122
  let v248 : BitVec 32 := Scalar.extui v247
  let c0_i32_123 : BitVec 32 := 0#32
  let v249 : BitVec 1 := Scalar.cmpi .slt c1024_i32_119 c0_i32_123
  let v250 : BitVec 32 := Scalar.extui v249
  let v251 : BitVec 32 := Scalar.subi v248 v250
  let v252 : BitVec 1 := Scalar.cmpi .ne v246 v251
  let v253 : BitVec 32 := Scalar.remsi v240 c1024_i32_119
  let c0_i32_124 : BitVec 32 := 0#32
  let v254 : BitVec 1 := Scalar.cmpi .ne v253 c0_i32_124
  let v255 : BitVec 1 := Scalar.andi v252 v254
  let v241 : BitVec 32 := Scalar.divsi v240 c1024_i32_119
  let c1_i32_125 : BitVec 32 := 1#32
  let v256 : BitVec 32 := Scalar.subi v241 c1_i32_125
  let v257 : BitVec 32 := Scalar.select v255 v256 v241
  let v259 : BitVec 32 := Scalar.subi v257 c0_i32_127
  let c1_i32_128 : BitVec 32 := 1#32
  let v261 : BitVec 32 := Scalar.divsi v259 c1_i32_128
  let v262 : BitVec 32 := Scalar.muli v261 c1_i32_128
  let v263 : BitVec 32 := Scalar.addi c0_i32_127 v262
  let c1_i32_130 : BitVec 32 := 1#32
  let arg13 : BitVec 32 := Scf.iv v263 c1_i32_130 k0_t6
  let c1024_i32_141 : BitVec 32 := 1024#32
  let v318 : BitVec 32 := Scalar.muli arg13 c1024_i32_141
  let v321 : Index := Scalar.indexCast v318
  ![1, v321.toNat]
def k0_off15 (k0_t4 : Fin k0_t4_loop.trips) (k0_t6 : Fin (k0_t6_loop k0_t4).trips) : Fin 2 → Nat :=
  let c2_144 : Index := 2#32
  let c0_i32_127 : BitVec 32 := 0#32
  let c0_i32_60 : BitVec 32 := 0#32
  let c1_i32_62 : BitVec 32 := 1#32
  let arg12 : BitVec 32 := Scf.iv c0_i32_60 c1_i32_62 k0_t4
  let c128_i32 : BitVec 32 := 128#32
  let v221 : BitVec 32 := Scalar.muli arg12 c128_i32
  let c1024_i32 : BitVec 32 := 1024#32
  let v239 : BitVec 32 := Scalar.addi v221 c1024_i32
  let c1_i32_118 : BitVec 32 := 1#32
  let v240 : BitVec 32 := Scalar.subi v239 c1_i32_118
  let c0_i32_120 : BitVec 32 := 0#32
  let v242 : BitVec 1 := Scalar.cmpi .sgt v240 c0_i32_120
  let v243 : BitVec 32 := Scalar.extui v242
  let c0_i32_121 : BitVec 32 := 0#32
  let v244 : BitVec 1 := Scalar.cmpi .slt v240 c0_i32_121
  let v245 : BitVec 32 := Scalar.extui v244
  let v246 : BitVec 32 := Scalar.subi v243 v245
  let c1024_i32_119 : BitVec 32 := 1024#32
  let c0_i32_122 : BitVec 32 := 0#32
  let v247 : BitVec 1 := Scalar.cmpi .sgt c1024_i32_119 c0_i32_122
  let v248 : BitVec 32 := Scalar.extui v247
  let c0_i32_123 : BitVec 32 := 0#32
  let v249 : BitVec 1 := Scalar.cmpi .slt c1024_i32_119 c0_i32_123
  let v250 : BitVec 32 := Scalar.extui v249
  let v251 : BitVec 32 := Scalar.subi v248 v250
  let v252 : BitVec 1 := Scalar.cmpi .ne v246 v251
  let v253 : BitVec 32 := Scalar.remsi v240 c1024_i32_119
  let c0_i32_124 : BitVec 32 := 0#32
  let v254 : BitVec 1 := Scalar.cmpi .ne v253 c0_i32_124
  let v255 : BitVec 1 := Scalar.andi v252 v254
  let v241 : BitVec 32 := Scalar.divsi v240 c1024_i32_119
  let c1_i32_125 : BitVec 32 := 1#32
  let v256 : BitVec 32 := Scalar.subi v241 c1_i32_125
  let v257 : BitVec 32 := Scalar.select v255 v256 v241
  let v259 : BitVec 32 := Scalar.subi v257 c0_i32_127
  let c1_i32_128 : BitVec 32 := 1#32
  let v261 : BitVec 32 := Scalar.divsi v259 c1_i32_128
  let v262 : BitVec 32 := Scalar.muli v261 c1_i32_128
  let v263 : BitVec 32 := Scalar.addi c0_i32_127 v262
  let c1_i32_130 : BitVec 32 := 1#32
  let arg13 : BitVec 32 := Scf.iv v263 c1_i32_130 k0_t6
  let c1024_i32_141 : BitVec 32 := 1024#32
  let v318 : BitVec 32 := Scalar.muli arg13 c1024_i32_141
  let v323 : Index := Scalar.indexCast v318
  ![2, v323.toNat]
def k0_off16 (k0_t4 : Fin k0_t4_loop.trips) (k0_t6 : Fin (k0_t6_loop k0_t4).trips) : Fin 2 → Nat :=
  let c3_145 : Index := 3#32
  let c0_i32_127 : BitVec 32 := 0#32
  let c0_i32_60 : BitVec 32 := 0#32
  let c1_i32_62 : BitVec 32 := 1#32
  let arg12 : BitVec 32 := Scf.iv c0_i32_60 c1_i32_62 k0_t4
  let c128_i32 : BitVec 32 := 128#32
  let v221 : BitVec 32 := Scalar.muli arg12 c128_i32
  let c1024_i32 : BitVec 32 := 1024#32
  let v239 : BitVec 32 := Scalar.addi v221 c1024_i32
  let c1_i32_118 : BitVec 32 := 1#32
  let v240 : BitVec 32 := Scalar.subi v239 c1_i32_118
  let c0_i32_120 : BitVec 32 := 0#32
  let v242 : BitVec 1 := Scalar.cmpi .sgt v240 c0_i32_120
  let v243 : BitVec 32 := Scalar.extui v242
  let c0_i32_121 : BitVec 32 := 0#32
  let v244 : BitVec 1 := Scalar.cmpi .slt v240 c0_i32_121
  let v245 : BitVec 32 := Scalar.extui v244
  let v246 : BitVec 32 := Scalar.subi v243 v245
  let c1024_i32_119 : BitVec 32 := 1024#32
  let c0_i32_122 : BitVec 32 := 0#32
  let v247 : BitVec 1 := Scalar.cmpi .sgt c1024_i32_119 c0_i32_122
  let v248 : BitVec 32 := Scalar.extui v247
  let c0_i32_123 : BitVec 32 := 0#32
  let v249 : BitVec 1 := Scalar.cmpi .slt c1024_i32_119 c0_i32_123
  let v250 : BitVec 32 := Scalar.extui v249
  let v251 : BitVec 32 := Scalar.subi v248 v250
  let v252 : BitVec 1 := Scalar.cmpi .ne v246 v251
  let v253 : BitVec 32 := Scalar.remsi v240 c1024_i32_119
  let c0_i32_124 : BitVec 32 := 0#32
  let v254 : BitVec 1 := Scalar.cmpi .ne v253 c0_i32_124
  let v255 : BitVec 1 := Scalar.andi v252 v254
  let v241 : BitVec 32 := Scalar.divsi v240 c1024_i32_119
  let c1_i32_125 : BitVec 32 := 1#32
  let v256 : BitVec 32 := Scalar.subi v241 c1_i32_125
  let v257 : BitVec 32 := Scalar.select v255 v256 v241
  let v259 : BitVec 32 := Scalar.subi v257 c0_i32_127
  let c1_i32_128 : BitVec 32 := 1#32
  let v261 : BitVec 32 := Scalar.divsi v259 c1_i32_128
  let v262 : BitVec 32 := Scalar.muli v261 c1_i32_128
  let v263 : BitVec 32 := Scalar.addi c0_i32_127 v262
  let c1_i32_130 : BitVec 32 := 1#32
  let arg13 : BitVec 32 := Scf.iv v263 c1_i32_130 k0_t6
  let c1024_i32_141 : BitVec 32 := 1024#32
  let v318 : BitVec 32 := Scalar.muli arg13 c1024_i32_141
  let v325 : Index := Scalar.indexCast v318
  ![3, v325.toNat]
def k0_off17 (k0_t4 : Fin k0_t4_loop.trips) (k0_t6 : Fin (k0_t6_loop k0_t4).trips) : Fin 2 → Nat :=
  let c4_146 : Index := 4#32
  let c0_i32_127 : BitVec 32 := 0#32
  let c0_i32_60 : BitVec 32 := 0#32
  let c1_i32_62 : BitVec 32 := 1#32
  let arg12 : BitVec 32 := Scf.iv c0_i32_60 c1_i32_62 k0_t4
  let c128_i32 : BitVec 32 := 128#32
  let v221 : BitVec 32 := Scalar.muli arg12 c128_i32
  let c1024_i32 : BitVec 32 := 1024#32
  let v239 : BitVec 32 := Scalar.addi v221 c1024_i32
  let c1_i32_118 : BitVec 32 := 1#32
  let v240 : BitVec 32 := Scalar.subi v239 c1_i32_118
  let c0_i32_120 : BitVec 32 := 0#32
  let v242 : BitVec 1 := Scalar.cmpi .sgt v240 c0_i32_120
  let v243 : BitVec 32 := Scalar.extui v242
  let c0_i32_121 : BitVec 32 := 0#32
  let v244 : BitVec 1 := Scalar.cmpi .slt v240 c0_i32_121
  let v245 : BitVec 32 := Scalar.extui v244
  let v246 : BitVec 32 := Scalar.subi v243 v245
  let c1024_i32_119 : BitVec 32 := 1024#32
  let c0_i32_122 : BitVec 32 := 0#32
  let v247 : BitVec 1 := Scalar.cmpi .sgt c1024_i32_119 c0_i32_122
  let v248 : BitVec 32 := Scalar.extui v247
  let c0_i32_123 : BitVec 32 := 0#32
  let v249 : BitVec 1 := Scalar.cmpi .slt c1024_i32_119 c0_i32_123
  let v250 : BitVec 32 := Scalar.extui v249
  let v251 : BitVec 32 := Scalar.subi v248 v250
  let v252 : BitVec 1 := Scalar.cmpi .ne v246 v251
  let v253 : BitVec 32 := Scalar.remsi v240 c1024_i32_119
  let c0_i32_124 : BitVec 32 := 0#32
  let v254 : BitVec 1 := Scalar.cmpi .ne v253 c0_i32_124
  let v255 : BitVec 1 := Scalar.andi v252 v254
  let v241 : BitVec 32 := Scalar.divsi v240 c1024_i32_119
  let c1_i32_125 : BitVec 32 := 1#32
  let v256 : BitVec 32 := Scalar.subi v241 c1_i32_125
  let v257 : BitVec 32 := Scalar.select v255 v256 v241
  let v259 : BitVec 32 := Scalar.subi v257 c0_i32_127
  let c1_i32_128 : BitVec 32 := 1#32
  let v261 : BitVec 32 := Scalar.divsi v259 c1_i32_128
  let v262 : BitVec 32 := Scalar.muli v261 c1_i32_128
  let v263 : BitVec 32 := Scalar.addi c0_i32_127 v262
  let c1_i32_130 : BitVec 32 := 1#32
  let arg13 : BitVec 32 := Scf.iv v263 c1_i32_130 k0_t6
  let c1024_i32_141 : BitVec 32 := 1024#32
  let v318 : BitVec 32 := Scalar.muli arg13 c1024_i32_141
  let v327 : Index := Scalar.indexCast v318
  ![4, v327.toNat]
def k0_off18 (k0_t4 : Fin k0_t4_loop.trips) : Fin 2 → Nat :=
  let c0_131 : Index := 0#32
  let c0_i32_60 : BitVec 32 := 0#32
  let c1_i32_62 : BitVec 32 := 1#32
  let arg12 : BitVec 32 := Scf.iv c0_i32_60 c1_i32_62 k0_t4
  let c128_i32 : BitVec 32 := 128#32
  let v221 : BitVec 32 := Scalar.muli arg12 c128_i32
  let v266 : Index := Scalar.indexCast v221
  ![0, v266.toNat]
def k0_off19 (k0_t4 : Fin k0_t4_loop.trips) : Fin 2 → Nat :=
  let c4_132 : Index := 4#32
  let c0_i32_60 : BitVec 32 := 0#32
  let c1_i32_62 : BitVec 32 := 1#32
  let arg12 : BitVec 32 := Scf.iv c0_i32_60 c1_i32_62 k0_t4
  let c128_i32 : BitVec 32 := 128#32
  let v221 : BitVec 32 := Scalar.muli arg12 c128_i32
  let v272 : Index := Scalar.indexCast v221
  ![4, v272.toNat]
def k0_off20 (k0_t4 : Fin k0_t4_loop.trips) : Fin 2 → Nat :=
  let c1_137 : Index := 1#32
  let c0_i32_60 : BitVec 32 := 0#32
  let c1_i32_62 : BitVec 32 := 1#32
  let arg12 : BitVec 32 := Scf.iv c0_i32_60 c1_i32_62 k0_t4
  let c128_i32 : BitVec 32 := 128#32
  let v221 : BitVec 32 := Scalar.muli arg12 c128_i32
  let v308 : Index := Scalar.indexCast v221
  ![1, v308.toNat]
@[reducible] def k0_t7_loop : Scf.Loop 32 :=
  let c0_i32_68 : BitVec 32 := 0#32
  let c40_i32_69 : BitVec 32 := 40#32
  let v151 : BitVec 32 := Scalar.addi c0_i32_68 c40_i32_69
  let c1_i32_70 : BitVec 32 := 1#32
  ⟨c0_i32_68, v151, c1_i32_70⟩
def k0_off21 (k0_t7 : Fin k0_t7_loop.trips) : Fin 2 → Nat :=
  let c1_116 : Index := 1#32
  let c0_i32_68 : BitVec 32 := 0#32
  let c1_i32_70 : BitVec 32 := 1#32
  let arg12 : BitVec 32 := Scf.iv c0_i32_68 c1_i32_70 k0_t7
  let c128_i32 : BitVec 32 := 128#32
  let v221 : BitVec 32 := Scalar.muli arg12 c128_i32
  let v222 : Index := Scalar.indexCast v221
  ![1, v222.toNat]
def k0_off22 (k0_t7 : Fin k0_t7_loop.trips) : Fin 2 → Nat :=
  let c4_119 : Index := 4#32
  let c0_i32_68 : BitVec 32 := 0#32
  let c1_i32_70 : BitVec 32 := 1#32
  let arg12 : BitVec 32 := Scf.iv c0_i32_68 c1_i32_70 k0_t7
  let c128_i32 : BitVec 32 := 128#32
  let v221 : BitVec 32 := Scalar.muli arg12 c128_i32
  let v229 : Index := Scalar.indexCast v221
  ![4, v229.toNat]
@[reducible] def k0_t8_loop : Scf.Loop 32 :=
  let c0_i32_75 : BitVec 32 := 0#32
  let c40_i32_76 : BitVec 32 := 40#32
  let v157 : BitVec 32 := Scalar.addi c0_i32_75 c40_i32_76
  let c1_i32_77 : BitVec 32 := 1#32
  ⟨c0_i32_75, v157, c1_i32_77⟩
def k0_off23 (k0_t8 : Fin k0_t8_loop.trips) : Fin 2 → Nat :=
  let c0_i32_75 : BitVec 32 := 0#32
  let c1_i32_77 : BitVec 32 := 1#32
  let arg12 : BitVec 32 := Scf.iv c0_i32_75 c1_i32_77 k0_t8
  let c128_i32 : BitVec 32 := 128#32
  let v221 : BitVec 32 := Scalar.muli arg12 c128_i32
  let v222 : Index := Scalar.indexCast v221
  let c6_116 : Index := 6#32
  ![v222.toNat, 6]
def k0_off24 (k0_t8 : Fin k0_t8_loop.trips) : Fin 2 → Nat :=
  let c1_117 : Index := 1#32
  let c0_i32_75 : BitVec 32 := 0#32
  let c1_i32_77 : BitVec 32 := 1#32
  let arg12 : BitVec 32 := Scf.iv c0_i32_75 c1_i32_77 k0_t8
  let c128_i32 : BitVec 32 := 128#32
  let v221 : BitVec 32 := Scalar.muli arg12 c128_i32
  let v224 : Index := Scalar.indexCast v221
  ![1, v224.toNat]
@[reducible] def k0_t9_loop : Scf.Loop 32 :=
  let c0_i32_82 : BitVec 32 := 0#32
  let c40_i32_83 : BitVec 32 := 40#32
  let v160 : BitVec 32 := Scalar.addi c0_i32_82 c40_i32_83
  let c1_i32_84 : BitVec 32 := 1#32
  ⟨c0_i32_82, v160, c1_i32_84⟩
def k0_off25 (k0_t9 : Fin k0_t9_loop.trips) : Fin 2 → Nat :=
  let c3_116 : Index := 3#32
  let c0_i32_82 : BitVec 32 := 0#32
  let c1_i32_84 : BitVec 32 := 1#32
  let arg12 : BitVec 32 := Scf.iv c0_i32_82 c1_i32_84 k0_t9
  let c128_i32 : BitVec 32 := 128#32
  let v221 : BitVec 32 := Scalar.muli arg12 c128_i32
  let v222 : Index := Scalar.indexCast v221
  ![3, v222.toNat]
def k0_off26 (k0_t9 : Fin k0_t9_loop.trips) : Fin 2 → Nat :=
  let c5_119 : Index := 5#32
  let c0_i32_82 : BitVec 32 := 0#32
  let c1_i32_84 : BitVec 32 := 1#32
  let arg12 : BitVec 32 := Scf.iv c0_i32_82 c1_i32_84 k0_t9
  let c128_i32 : BitVec 32 := 128#32
  let v221 : BitVec 32 := Scalar.muli arg12 c128_i32
  let v229 : Index := Scalar.indexCast v221
  ![5, v229.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x5000x92 : Shape := ⟨3, ![4, 5000, 92]⟩
abbrev S4x5000x4 : Shape := ⟨3, ![4, 5000, 4]⟩
abbrev S4x2 : Shape := ⟨2, ![4, 2]⟩
abbrev S_ : Shape := ⟨0, ![]⟩
abbrev S4x5000 : Shape := ⟨2, ![4, 5000]⟩
abbrev S4x5000x1 : Shape := ⟨3, ![4, 5000, 1]⟩
abbrev S4x5000x91 : Shape := ⟨3, ![4, 5000, 91]⟩
abbrev S4 : Shape := ⟨1, ![4]⟩
abbrev S4x1 : Shape := ⟨2, ![4, 1]⟩
abbrev S4x1x5000 : Shape := ⟨3, ![4, 1, 5000]⟩
abbrev S4x5000x5000 : Shape := ⟨3, ![4, 5000, 5000]⟩
abbrev S5000 : Shape := ⟨1, ![5000]⟩
abbrev S1x5000 : Shape := ⟨2, ![1, 5000]⟩
abbrev S4x100 : Shape := ⟨2, ![4, 100]⟩
abbrev S4x100x1 : Shape := ⟨3, ![4, 100, 1]⟩
abbrev S4x100x4 : Shape := ⟨3, ![4, 100, 4]⟩
abbrev S4x4 : Shape := ⟨2, ![4, 4]⟩
abbrev S4x1x4 : Shape := ⟨3, ![4, 1, 4]⟩

abbrev nBuf : Space → Nat
  | .hbm => 237
  | .vmem => 0
  | .smem => 0
  | _ => 0

abbrev hbmTy0_0 (i : Nat) : BufTy := match i % 128 with
  | 0 => ⟨S4x5000x92, .f32⟩
  | 1 => ⟨S4x5000x4, .f32⟩
  | 2 => ⟨S4x2, .i32⟩
  | 3 => ⟨S_, .f32⟩
  | 4 => ⟨S4x5000, .f32⟩
  | 5 => ⟨S_, .f32⟩
  | 6 => ⟨S4x5000, .f32⟩
  | 7 => ⟨S4x5000, .f32⟩
  | 8 => ⟨S4x5000x1, .f32⟩
  | 9 => ⟨S4x5000x92, .f32⟩
  | 10 => ⟨S4x5000x92, .f32⟩
  | 11 => ⟨S4x5000x92, .f32⟩
  | 12 => ⟨S_, .f32⟩
  | 13 => ⟨S4x5000, .f32⟩
  | 14 => ⟨S4x5000x1, .f32⟩
  | 15 => ⟨S4x5000x92, .f32⟩
  | 16 => ⟨S4x5000x92, .f32⟩
  | 17 => ⟨S4x5000x91, .f32⟩
  | 18 => ⟨S_, .f32⟩
  | 19 => ⟨S4x5000, .f32⟩
  | 20 => ⟨S4x5000x91, .f32⟩
  | 21 => ⟨S4x5000x91, .i32⟩
  | 22 => ⟨S_, .f32⟩
  | 23 => ⟨S_, .i32⟩
  | 24 => ⟨S4x5000, .f32⟩
  | 25 => ⟨S4x5000, .i32⟩
  | 26 => ⟨S4x5000x1, .f32⟩
  | 27 => ⟨S4x5000x1, .f32⟩
  | 28 => ⟨S4x5000x1, .f32⟩
  | 29 => ⟨S4x5000x1, .f32⟩
  | 30 => ⟨S_, .f32⟩
  | 31 => ⟨S4x5000x1, .f32⟩
  | 32 => ⟨S4x5000x1, .f32⟩
  | 33 => ⟨S4x5000x1, .f32⟩
  | 34 => ⟨S_, .f32⟩
  | 35 => ⟨S4x5000x1, .f32⟩
  | 36 => ⟨S4x5000x1, .f32⟩
  | 37 => ⟨S4x5000x1, .f32⟩
  | 38 => ⟨S_, .f32⟩
  | 39 => ⟨S4x5000x1, .f32⟩
  | 40 => ⟨S4x5000x1, .f32⟩
  | 41 => ⟨S4x5000x1, .f32⟩
  | 42 => ⟨S_, .f32⟩
  | 43 => ⟨S4x5000x1, .f32⟩
  | 44 => ⟨S4x5000x1, .f32⟩
  | 45 => ⟨S4x5000x1, .f32⟩
  | 46 => ⟨S4x5000x4, .f32⟩
  | 47 => ⟨S_, .f32⟩
  | 48 => ⟨S4, .f32⟩
  | 49 => ⟨S4x5000, .f32⟩
  | 50 => ⟨S4x1, .f32⟩
  | 51 => ⟨S_, .f32⟩
  | 52 => ⟨S4x1, .f32⟩
  | 53 => ⟨S4x1, .f32⟩
  | 54 => ⟨S4x5000, .f32⟩
  | 55 => ⟨S4x5000, .f32⟩
  | 56 => ⟨S4x5000x1, .f32⟩
  | 57 => ⟨S4x5000x4, .f32⟩
  | 58 => ⟨S4x5000x4, .f32⟩
  | 59 => ⟨S4x5000, .f32⟩
  | 60 => ⟨S4x5000, .i32⟩
  | 61 => ⟨S4x5000, .f32⟩
  | 62 => ⟨S4x5000, .i32⟩
  | 63 => ⟨S4x5000x1, .i32⟩
  | 64 => ⟨S_, .i32⟩
  | 65 => ⟨S4x5000x1, .i32⟩
  | 66 => ⟨S4x5000x1, .i1⟩
  | 67 => ⟨S_, .i32⟩
  | 68 => ⟨S4x5000x1, .i32⟩
  | 69 => ⟨S4x5000x1, .i32⟩
  | 70 => ⟨S4x5000x1, .i32⟩
  | 71 => ⟨S4x5000x4, .f32⟩
  | 72 => ⟨S4x5000x1, .f32⟩
  | 73 => ⟨S4x5000, .f32⟩
  | 74 => ⟨S4x5000x1, .f32⟩
  | 75 => ⟨S4x5000, .f32⟩
  | 76 => ⟨S4x5000x1, .f32⟩
  | 77 => ⟨S4x5000, .f32⟩
  | 78 => ⟨S4x5000x1, .f32⟩
  | 79 => ⟨S4x5000, .f32⟩
  | 80 => ⟨S4x5000, .f32⟩
  | 81 => ⟨S4x5000, .f32⟩
  | 82 => ⟨S4x5000, .f32⟩
  | 83 => ⟨S4x5000x1, .f32⟩
  | 84 => ⟨S4x1x5000, .f32⟩
  | 85 => ⟨S4x5000x5000, .f32⟩
  | 86 => ⟨S4x5000x5000, .f32⟩
  | 87 => ⟨S4x5000x5000, .f32⟩
  | 88 => ⟨S4x5000x1, .f32⟩
  | 89 => ⟨S4x1x5000, .f32⟩
  | 90 => ⟨S4x5000x5000, .f32⟩
  | 91 => ⟨S4x5000x5000, .f32⟩
  | 92 => ⟨S4x5000x5000, .f32⟩
  | 93 => ⟨S4x5000x1, .f32⟩
  | 94 => ⟨S4x1x5000, .f32⟩
  | 95 => ⟨S4x5000x5000, .f32⟩
  | 96 => ⟨S4x5000x5000, .f32⟩
  | 97 => ⟨S4x5000x5000, .f32⟩
  | 98 => ⟨S4x5000x1, .f32⟩
  | 99 => ⟨S4x1x5000, .f32⟩
  | 100 => ⟨S4x5000x5000, .f32⟩
  | 101 => ⟨S4x5000x5000, .f32⟩
  | 102 => ⟨S4x5000x5000, .f32⟩
  | 103 => ⟨S4x5000x5000, .f32⟩
  | 104 => ⟨S_, .f32⟩
  | 105 => ⟨S4x5000x5000, .f32⟩
  | 106 => ⟨S4x5000x5000, .f32⟩
  | 107 => ⟨S4x5000x5000, .f32⟩
  | 108 => ⟨S_, .f32⟩
  | 109 => ⟨S4x5000x5000, .f32⟩
  | 110 => ⟨S4x5000x5000, .f32⟩
  | 111 => ⟨S4x5000x5000, .f32⟩
  | 112 => ⟨S4x5000x1, .f32⟩
  | 113 => ⟨S4x1x5000, .f32⟩
  | 114 => ⟨S4x5000x5000, .f32⟩
  | 115 => ⟨S4x5000x5000, .f32⟩
  | 116 => ⟨S4x5000x5000, .f32⟩
  | 117 => ⟨S4x5000x5000, .f32⟩
  | 118 => ⟨S_, .f32⟩
  | 119 => ⟨S4x5000x5000, .f32⟩
  | 120 => ⟨S4x5000x5000, .f32⟩
  | 121 => ⟨S4x5000x5000, .f32⟩
  | 122 => ⟨S5000, .i32⟩
  | 123 => ⟨S_, .i1⟩
  | 124 => ⟨S4x5000, .i1⟩
  | 125 => ⟨S_, .i32⟩
  | 126 => ⟨S_, .i32⟩
  | 127 => ⟨S4x5000x5000, .f32⟩
  | _ => ⟨S4x5000x92, .f32⟩

abbrev hbmTy0_1 (i : Nat) : BufTy := match i % 128 with
  | 0 => ⟨S5000, .i32⟩
  | 1 => ⟨S_, .i32⟩
  | 2 => ⟨S_, .i32⟩
  | 3 => ⟨S4x5000, .i1⟩
  | 4 => ⟨S_, .i32⟩
  | 5 => ⟨S_, .i1⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S4x1x5000, .f32⟩
  | 17 => ⟨S4x5000, .f32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S4x1, .i1⟩
  | 26 => ⟨S_, .i32⟩
  | 27 => ⟨S5000, .i32⟩
  | 28 => ⟨S5000, .i1⟩
  | 29 => ⟨S1x5000, .i1⟩
  | 30 => ⟨S_, .f32⟩
  | 31 => ⟨S4x5000, .f32⟩
  | 32 => ⟨S4x5000, .i1⟩
  | 33 => ⟨S4x5000, .i1⟩
  | 34 => ⟨S4x5000, .i1⟩
  | 35 => ⟨S4x1, .i1⟩
  | 36 => ⟨S4x5000, .i1⟩
  | 37 => ⟨S4x5000, .i1⟩
  | 38 => ⟨S4x5000, .i1⟩
  | 39 => ⟨S_, .i32⟩
  | 40 => ⟨S_, .i32⟩
  | 41 => ⟨S4x5000, .i1⟩
  | 42 => ⟨S4x5000, .i32⟩
  | 43 => ⟨S4x5000, .i32⟩
  | 44 => ⟨S4x5000, .i32⟩
  | 45 => ⟨S_, .i32⟩
  | 46 => ⟨S4x5000, .i32⟩
  | 47 => ⟨S4x5000, .i1⟩
  | 48 => ⟨S_, .i32⟩
  | 49 => ⟨S4x5000, .i32⟩
  | 50 => ⟨S4x5000, .i32⟩
  | 51 => ⟨S4x5000, .i32⟩
  | 52 => ⟨S4x5000x1, .i32⟩
  | 53 => ⟨S4x5000, .i1⟩
  | 54 => ⟨S5000, .i32⟩
  | 55 => ⟨S_, .i32⟩
  | 56 => ⟨S5000, .i32⟩
  | 57 => ⟨S5000, .i32⟩
  | 58 => ⟨S4x5000, .i32⟩
  | 59 => ⟨S4x5000, .i32⟩
  | 60 => ⟨S4x5000, .i32⟩
  | 61 => ⟨S4x5000, .i32⟩
  | 62 => ⟨S4x5000, .i32⟩
  | 63 => ⟨S4x100, .i32⟩
  | 64 => ⟨S_, .f32⟩
  | 65 => ⟨S4x5000, .f32⟩
  | 66 => ⟨S4x5000, .f32⟩
  | 67 => ⟨S4x5000, .f32⟩
  | 68 => ⟨S_, .i32⟩
  | 69 => ⟨S4x100, .i32⟩
  | 70 => ⟨S4x100, .i1⟩
  | 71 => ⟨S_, .i32⟩
  | 72 => ⟨S4x100, .i32⟩
  | 73 => ⟨S4x100, .i32⟩
  | 74 => ⟨S4x100, .i32⟩
  | 75 => ⟨S4x100x1, .i32⟩
  | 76 => ⟨S4x100, .f32⟩
  | 77 => ⟨S_, .i32⟩
  | 78 => ⟨S4x100, .i32⟩
  | 79 => ⟨S4x100, .i1⟩
  | 80 => ⟨S_, .i32⟩
  | 81 => ⟨S4x100, .i32⟩
  | 82 => ⟨S4x100, .i32⟩
  | 83 => ⟨S4x100, .i32⟩
  | 84 => ⟨S4x100x1, .i32⟩
  | 85 => ⟨S4x100, .i32⟩
  | 86 => ⟨S4x100x1, .i32⟩
  | 87 => ⟨S_, .i32⟩
  | 88 => ⟨S4x100x1, .i32⟩
  | 89 => ⟨S4x100x1, .i1⟩
  | 90 => ⟨S_, .i32⟩
  | 91 => ⟨S4x100x1, .i32⟩
  | 92 => ⟨S4x100x1, .i32⟩
  | 93 => ⟨S4x100x1, .i32⟩
  | 94 => ⟨S4x100x4, .f32⟩
  | 95 => ⟨S4x1, .i32⟩
  | 96 => ⟨S4, .i32⟩
  | 97 => ⟨S4, .f32⟩
  | 98 => ⟨S4x1, .i32⟩
  | 99 => ⟨S4, .i32⟩
  | 100 => ⟨S4, .f32⟩
  | 101 => ⟨S4x1, .f32⟩
  | 102 => ⟨S4x1, .f32⟩
  | 103 => ⟨S4x1, .f32⟩
  | 104 => ⟨S4x1, .f32⟩
  | 105 => ⟨S4x4, .f32⟩
  | 106 => ⟨S4x1x4, .f32⟩
  | 107 => ⟨S4x100x4, .f32⟩
  | 108 => ⟨S4x100x4, .f32⟩
  | _ => ⟨S4x5000x92, .f32⟩

abbrev hbmTy (i : Nat) : BufTy := match i / 128 with
  | 0 => hbmTy0_0 i
  | 1 => hbmTy0_1 i
  | _ => ⟨S4x5000x92, .f32⟩

abbrev bufTy : (tb : Table) → Fin (tcTables nBuf tb) → BufTy
  | .hbm, ⟨i, _⟩ => hbmTy i
  | _, _ => ⟨S4x5000x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call1_v0 : Ref sig .tc := ⟨.hbm, 60, rfl⟩
abbrev main_call1_v1_0 : Ref sig .tc := ⟨.hbm, 61, rfl⟩
abbrev main_v43 : Ref sig .tc := ⟨.hbm, 62, rfl⟩
abbrev main_v44 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_9 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_10 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_11 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c : Ref sig .tc := ⟨.hbm, 123, rfl⟩
abbrev main_v94 : Ref sig .tc := ⟨.hbm, 124, rfl⟩
abbrev main_c_12 : Ref sig .tc := ⟨.hbm, 125, rfl⟩
abbrev main_c_13 : Ref sig .tc := ⟨.hbm, 126, rfl⟩
abbrev main_v95_0 : Ref sig .tc := ⟨.hbm, 127, rfl⟩
abbrev main_v95_1 : Ref sig .tc := ⟨.hbm, 128, rfl⟩
abbrev main_v95_2 : Ref sig .tc := ⟨.hbm, 129, rfl⟩
abbrev main_v95_3 : Ref sig .tc := ⟨.hbm, 130, rfl⟩
abbrev main_v95_4 : Ref sig .tc := ⟨.hbm, 131, rfl⟩
abbrev main_while0c_c_20 : Ref sig .tc := ⟨.hbm, 132, rfl⟩
abbrev main_while0c_v126 : Ref sig .tc := ⟨.hbm, 133, rfl⟩
abbrev main_while0b_c_20 : Ref sig .tc := ⟨.hbm, 134, rfl⟩
abbrev main_while0b_v126 : Ref sig .tc := ⟨.hbm, 135, rfl⟩
abbrev main_while0b_call3_c : Ref sig .tc := ⟨.hbm, 136, rfl⟩
abbrev main_while0b_call3_v0 : Ref sig .tc := ⟨.hbm, 137, rfl⟩
abbrev main_while0b_call3_v1 : Ref sig .tc := ⟨.hbm, 138, rfl⟩
abbrev main_while0b_call3_c_0 : Ref sig .tc := ⟨.hbm, 139, rfl⟩
abbrev main_while0b_call3_v2 : Ref sig .tc := ⟨.hbm, 140, rfl⟩
abbrev main_while0b_call3_v3 : Ref sig .tc := ⟨.hbm, 141, rfl⟩
abbrev main_while0b_call3_c_1 : Ref sig .tc := ⟨.hbm, 142, rfl⟩
abbrev main_while0b_call3_c_2 : Ref sig .tc := ⟨.hbm, 143, rfl⟩
abbrev main_while0b_call3_v4 : Ref sig .tc := ⟨.hbm, 144, rfl⟩
abbrev main_while0b_v127 : Ref sig .tc := ⟨.hbm, 145, rfl⟩
abbrev main_while0b_call4_c : Ref sig .tc := ⟨.hbm, 146, rfl⟩
abbrev main_while0b_call4_v0 : Ref sig .tc := ⟨.hbm, 147, rfl⟩
abbrev main_while0b_call4_v1 : Ref sig .tc := ⟨.hbm, 148, rfl⟩
abbrev main_while0b_call4_c_0 : Ref sig .tc := ⟨.hbm, 149, rfl⟩
abbrev main_while0b_call4_v2 : Ref sig .tc := ⟨.hbm, 150, rfl⟩
abbrev main_while0b_call4_v3 : Ref sig .tc := ⟨.hbm, 151, rfl⟩
abbrev main_while0b_call4_c_1 : Ref sig .tc := ⟨.hbm, 152, rfl⟩
abbrev main_while0b_v128 : Ref sig .tc := ⟨.hbm, 153, rfl⟩
abbrev main_while0b_v129 : Ref sig .tc := ⟨.hbm, 154, rfl⟩
abbrev main_while0b_v130 : Ref sig .tc := ⟨.hbm, 155, rfl⟩
abbrev main_while0b_v131 : Ref sig .tc := ⟨.hbm, 156, rfl⟩
abbrev main_while0b_v132 : Ref sig .tc := ⟨.hbm, 157, rfl⟩
abbrev main_while0b_cst_21 : Ref sig .tc := ⟨.hbm, 158, rfl⟩
abbrev main_while0b_v133 : Ref sig .tc := ⟨.hbm, 159, rfl⟩
abbrev main_while0b_v134 : Ref sig .tc := ⟨.hbm, 160, rfl⟩
abbrev main_while0b_v135 : Ref sig .tc := ⟨.hbm, 161, rfl⟩
abbrev main_while0b_v136 : Ref sig .tc := ⟨.hbm, 162, rfl⟩
abbrev main_while0b_v137 : Ref sig .tc := ⟨.hbm, 163, rfl⟩
abbrev main_while0b_v138 : Ref sig .tc := ⟨.hbm, 164, rfl⟩
abbrev main_while0b_v139 : Ref sig .tc := ⟨.hbm, 165, rfl⟩
abbrev main_while0b_v140 : Ref sig .tc := ⟨.hbm, 166, rfl⟩
abbrev main_while0b_c_22 : Ref sig .tc := ⟨.hbm, 167, rfl⟩
abbrev main_while0b_v141 : Ref sig .tc := ⟨.hbm, 168, rfl⟩
abbrev main_v96 : Ref sig .tc := ⟨.hbm, 169, rfl⟩
abbrev main_call5_v0 : Ref sig .tc := ⟨.hbm, 170, rfl⟩
abbrev main_call5_v1_0 : Ref sig .tc := ⟨.hbm, 171, rfl⟩
abbrev main_v97 : Ref sig .tc := ⟨.hbm, 172, rfl⟩
abbrev main_call6_c : Ref sig .tc := ⟨.hbm, 173, rfl⟩
abbrev main_call6_v0 : Ref sig .tc := ⟨.hbm, 174, rfl⟩
abbrev main_call6_v1 : Ref sig .tc := ⟨.hbm, 175, rfl⟩
abbrev main_call6_c_0 : Ref sig .tc := ⟨.hbm, 176, rfl⟩
abbrev main_call6_v2 : Ref sig .tc := ⟨.hbm, 177, rfl⟩
abbrev main_call6_v3 : Ref sig .tc := ⟨.hbm, 178, rfl⟩
abbrev main_call6_v4 : Ref sig .tc := ⟨.hbm, 179, rfl⟩
abbrev main_call6_v5 : Ref sig .tc := ⟨.hbm, 180, rfl⟩
abbrev main_v98 : Ref sig .tc := ⟨.hbm, 181, rfl⟩
abbrev main_v99 : Ref sig .tc := ⟨.hbm, 182, rfl⟩
abbrev main_c_14 : Ref sig .tc := ⟨.hbm, 183, rfl⟩
abbrev main_v100 : Ref sig .tc := ⟨.hbm, 184, rfl⟩
abbrev main_v101 : Ref sig .tc := ⟨.hbm, 185, rfl⟩
abbrev main_call7_v0 : Ref sig .tc := ⟨.hbm, 186, rfl⟩
abbrev main_v102 : Ref sig .tc := ⟨.hbm, 187, rfl⟩
abbrev main_call8_v0 : Ref sig .tc := ⟨.hbm, 188, rfl⟩
abbrev main_call8_v1_0 : Ref sig .tc := ⟨.hbm, 189, rfl⟩
abbrev main_v103 : Ref sig .tc := ⟨.hbm, 190, rfl⟩
abbrev main_v104 : Ref sig .tc := ⟨.hbm, 191, rfl⟩
abbrev main_cst_15 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_call10_c : Ref sig .tc := ⟨.hbm, 196, rfl⟩
abbrev main_call10_v0 : Ref sig .tc := ⟨.hbm, 197, rfl⟩
abbrev main_call10_v1 : Ref sig .tc := ⟨.hbm, 198, rfl⟩
abbrev main_call10_c_0 : Ref sig .tc := ⟨.hbm, 199, rfl⟩
abbrev main_call10_v2 : Ref sig .tc := ⟨.hbm, 200, rfl⟩
abbrev main_call10_v3 : Ref sig .tc := ⟨.hbm, 201, rfl⟩
abbrev main_call10_v4 : Ref sig .tc := ⟨.hbm, 202, rfl⟩
abbrev main_call10_v5 : Ref sig .tc := ⟨.hbm, 203, rfl⟩
abbrev main_v108 : Ref sig .tc := ⟨.hbm, 204, rfl⟩
abbrev main_call11_c : Ref sig .tc := ⟨.hbm, 205, rfl⟩
abbrev main_call11_v0 : Ref sig .tc := ⟨.hbm, 206, rfl⟩
abbrev main_call11_v1 : Ref sig .tc := ⟨.hbm, 207, rfl⟩
abbrev main_call11_c_0 : Ref sig .tc := ⟨.hbm, 208, rfl⟩
abbrev main_call11_v2 : Ref sig .tc := ⟨.hbm, 209, rfl⟩
abbrev main_call11_v3 : Ref sig .tc := ⟨.hbm, 210, rfl⟩
abbrev main_call11_v4 : Ref sig .tc := ⟨.hbm, 211, rfl⟩
abbrev main_call11_v5 : Ref sig .tc := ⟨.hbm, 212, rfl⟩
abbrev main_v109 : Ref sig .tc := ⟨.hbm, 213, rfl⟩
abbrev main_v110 : Ref sig .tc := ⟨.hbm, 214, rfl⟩
abbrev main_call12_c : Ref sig .tc := ⟨.hbm, 215, rfl⟩
abbrev main_call12_v0 : Ref sig .tc := ⟨.hbm, 216, rfl⟩
abbrev main_call12_v1 : Ref sig .tc := ⟨.hbm, 217, rfl⟩
abbrev main_call12_c_0 : Ref sig .tc := ⟨.hbm, 218, rfl⟩
abbrev main_call12_v2 : Ref sig .tc := ⟨.hbm, 219, rfl⟩
abbrev main_call12_v3 : Ref sig .tc := ⟨.hbm, 220, rfl⟩
abbrev main_call12_v4 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩

abbrev nD : Nat := 1
abbrev τ : Topo := Topo.v7x

variable {F : FTy → Type} [FloatOps F]

abbrev main_while0_count : Scf.Loop 32 := ⟨0#32, 5000#32, 1#32⟩
-- ==== Proof.Nms.Mem.lean ====
/-
  Buffers read as arrays of natural coordinates. A memref owned at `arr A` reads `A a b` at row `a` and column `b`;
  a load through a unit-stride rectangle reads the shifted array, a store puts the payload's array over the rectangle.
-/
module

public import Idealize.ShloMosaic.Lib.Memref
public import Idealize.ShloMosaic.Lib.VecWindow
public import Idealize.ShloMosaic.Lib.Exec
public import Idealize.ShloMosaic.Lib.Pointwise.Index

@[expose] public section

noncomputable section

namespace Cert.Proof.Nms

open Idealize.ShloMosaic
open Idealize.SL Idealize.SL.RA Idealize.SL.BI
open scoped Idealize.SL.BI
open Idealize.SL.BI.BIBase Idealize.SL.BI.Laws Idealize.SL.ProofMode Idealize.SL.Sem

/-- A matrix given by a function of the natural coordinates. -/
def arr {α : Type} {R C : ℕ} (A : ℕ → ℕ → α) : (⟨2, ![R, C]⟩ : Shape).Idx → α :=
  fun y => A (y 0).val (y 1).val

@[simp] theorem arr_ix2 {α : Type} {R C : ℕ} (A : ℕ → ℕ → α) (a : Fin R) (b : Fin C) :
    arr A (Idealize.ShloMosaic.ix2 a b) = A a b := rfl

/-- Two matrices that agree at every pair of coordinates are equal. -/
theorem ext_ix2 {α : Type} {R C : ℕ} {x y : (⟨2, ![R, C]⟩ : Shape).Idx → α}
    (h : ∀ (a : Fin R) (b : Fin C), x (Idealize.ShloMosaic.ix2 a b) = y (Idealize.ShloMosaic.ix2 a b)) : x = y := by
  funext i; rw [eq_ix2 i]; exact h _ _

/-- Two arrays agreeing inside the extents give the same matrix. -/
theorem arr_congr {α : Type} {R C : ℕ} {A B : ℕ → ℕ → α} (h : ∀ a b, a < R → b < C → A a b = B a b) :
    (arr A : (⟨2, ![R, C]⟩ : Shape).Idx → α) = arr B := by
  funext y; exact h _ _ (y 0).isLt (y 1).isLt

/-- Every matrix is given by some function of the natural coordinates. -/
theorem exists_arr {α : Type} [Nonempty α] {R C : ℕ} (x : (⟨2, ![R, C]⟩ : Shape).Idx → α) : ∃ A, x = arr A := by
  refine ⟨fun a b => if h : a < R ∧ b < C then x (Idealize.ShloMosaic.ix2 ⟨a, h.1⟩ ⟨b, h.2⟩) else Classical.arbitrary α, ?_⟩
  refine ext_ix2 fun a b => ?_
  simp [arr_ix2, a.isLt, b.isLt]

/-- `A` with `W` over the `h × w` window at `(o0, o1)`. -/
def putA {α : Type} (o0 o1 h w : ℕ) (W A : ℕ → ℕ → α) : ℕ → ℕ → α := fun a b =>
  if (o0 ≤ a ∧ a < o0 + h) ∧ (o1 ≤ b ∧ b < o1 + w) then W (a - o0) (b - o1) else A a b

/-- A window of a matrix given by coordinates is the shifted array. -/
theorem window_arr {α : Type} {R C h w o0 o1 : ℕ} (A : ℕ → ℕ → α) (inb) :
    VecWindow.window (s := ⟨2, ![R, C]⟩) (arr A) ![o0, o1] (⟨2, ![h, w]⟩ : Shape).size inb
      = (arr (fun a b => A (o0 + a) (o1 + b)) : (⟨2, ![h, w]⟩ : Shape).Idx → α) := by
  funext y
  show A (((Rect.unit (s := ⟨2, ![R, C]⟩) ![o0, o1] (⟨2, ![h, w]⟩ : Shape).size inb).emb y) 0).val _ = A _ _
  rw [Rect.emb_apply, Rect.emb_apply]
  show A (o0 + 1 * (y 0).val) (o1 + 1 * (y 1).val) = A (o0 + (y 0).val) (o1 + (y 1).val)
  rw [one_mul, one_mul]

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ)
  (bd : Option 𝒱.V) {Γ : PendingWaitsCtx sig Ix} (E : Set Name)
variable {α : Type} {Q : α → sProp (MT nD τ sig Ix Val Name U Lvl)}

/-- A load through a unit-stride rectangle of a matrix owned at `arr A`: the program continues at the shifted array. -/
theorem wp_ld {cs : CoreSpace} {e : EltTy} {R C h w : ℕ} {m : Memref sig c.2.kind cs ⟨2, ![R, C]⟩ e} {q : PosShare TreeShare}
    {A : ℕ → ℕ → Val e} {off : Fin 2 → ℕ} (o0 o1 : ℕ) (ho : off = ![o0, o1])
    {inb : ∀ a, off a + (⟨2, ![h, w]⟩ : Shape).size a ≤ (⟨2, ![R, C]⟩ : Shape).size a}
    {hl : m.view.LoadsAt (Rect.unit (s := ⟨2, ![R, C]⟩) off (⟨2, ![h, w]⟩ : Shape).size inb).toLoadRect}
    {k : ((⟨2, ![h, w]⟩ : Shape).Idx → Val e) → Prog (TpuEff nD τ sig Val Λ c.2) α} :
    owns c m q (arr A)
      ⊢ iprop((owns c m q (arr A) -∗ wp frame (wpE' defs 𝒱 c bd Γ) E (k (arr fun a b => A (o0 + a) (o1 + b))) Q)
        -∗ wp frame (wpE' defs 𝒱 c bd Γ) E (.op (.load m (Rect.unit (s := ⟨2, ![R, C]⟩) off (⟨2, ![h, w]⟩ : Shape).size inb).toLoadRect hl) k) Q) := by
  subst ho
  unfold owns
  iintro ⟨%f, %hf, H⟩ Hk
  iapply (wp_load 𝒱 c bd E (m := m) (View.setOn_subset_set _ _)) $$ H
  iintro H
  have hv : m.view.readAt Val (Rect.unit (s := ⟨2, ![R, C]⟩) ![o0, o1] (⟨2, ![h, w]⟩ : Shape).size inb).toLoadRect f
      = arr (R := h) (C := w) fun a b => A (o0 + a) (o1 + b) := by
    rw [View.readAt_unit m.view f inb rfl inb, hf, window_arr]
  rw [hv]
  iapply Hk
  iexists f; isplitr; · ipureintro; exact hf
  iexact H

/-- A load of a whole memref owned at `X` reads `X`. -/
theorem wp_ld_full {cs : CoreSpace} {e : EltTy} {s : Shape} {m : Memref sig c.2.kind cs s e} {q : PosShare TreeShare}
    {X : s.Idx → Val e} {off : Fin s.rank → ℕ} {inb : ∀ a, off a + s.size a ≤ s.size a}
    {hl : m.view.LoadsAt (Rect.unit (s := s) off s.size inb).toLoadRect}
    {k : (s.Idx → Val e) → Prog (TpuEff nD τ sig Val Λ c.2) α} :
    owns c m q X
      ⊢ iprop((owns c m q X -∗ wp frame (wpE' defs 𝒱 c bd Γ) E (k X) Q)
        -∗ wp frame (wpE' defs 𝒱 c bd Γ) E (.op (.load m (Rect.unit (s := s) off s.size inb).toLoadRect hl) k) Q) := by
  unfold owns
  iintro ⟨%f, %hf, H⟩ Hk
  iapply (wp_load 𝒱 c bd E (m := m) (View.setOn_subset_set _ _)) $$ H
  iintro H
  have hv : m.view.readAt Val (Rect.unit (s := s) off s.size inb).toLoadRect f = X := by
    rw [View.readAt_full, hf]
  rw [hv]
  iapply Hk
  iexists f; isplitr; · ipureintro; exact hf
  iexact H

/-- A load through any unit-stride rectangle whose value is not used again. -/
theorem wp_ld_any {cs : CoreSpace} {e : EltTy} {s : Shape} {m : Memref sig c.2.kind cs s e} {q : PosShare TreeShare}
    {X : s.Idx → Val e} {r : LoadRect s} {hl : m.view.LoadsAt r}
    {k : (r.shape.Idx → Val e) → Prog (TpuEff nD τ sig Val Λ c.2) α} :
    owns c m q X
      ⊢ iprop((∀ v, owns c m q X -∗ wp frame (wpE' defs 𝒱 c bd Γ) E (k v) Q)
        -∗ wp frame (wpE' defs 𝒱 c bd Γ) E (.op (.load m r hl) k) Q) := by
  unfold owns
  iintro ⟨%f, %hf, H⟩ Hk
  iapply (wp_load 𝒱 c bd E (m := m) (View.setOn_subset_set _ _)) $$ H
  iintro H
  iapply Hk
  iexists f; isplitr; · ipureintro; exact hf
  iexact H

/-- A store through a unit-stride rectangle of a memref owned at `X` leaves `X` with the payload put over the window. -/
theorem wp_st_put {cs : CoreSpace} {e : EltTy} {s : Shape} {m : Memref sig c.2.kind cs s e}
    {X : s.Idx → Val e} {off size : Fin s.rank → ℕ} {inb : ∀ a, off a + size a ≤ s.size a}
    {pw : (Rect.unit (s := s) off size inb).shape.Idx → Val e} {hx hm}
    {k : PUnit → Prog (TpuEff nD τ sig Val Λ c.2) α} :
    owns c m fullShare X
      ⊢ iprop((owns c m fullShare (VecWindow.put X off size pw) -∗ wp frame (wpE' defs 𝒱 c bd Γ) E (k ⟨⟩) Q)
        -∗ wp frame (wpE' defs 𝒱 c bd Γ) E (.op (.store m (Rect.unit (s := s) off size inb) pw Finset.univ hx hm) k) Q) := by
  unfold owns
  iintro ⟨%f, %hf, H⟩ Hk
  iapply (wp_store 𝒱 c bd E (m := m) (r := Rect.unit (s := s) off size inb) (Mk := Finset.univ)
    (View.set_slice_subset m.view _)) $$ H
  iintro H
  iapply Hk
  iexists _; isplitr; swap; · iexact H
  ipureintro
  rw [← hf]
  funext y
  unfold VecWindow.put
  split
  · rename_i hy
    have he : (Rect.unit (s := s) off size inb).emb (Rect.unitLocal (s := s) (off := off) (size := size) y hy) = y := by
      funext a; refine Fin.ext ?_
      rw [Rect.emb_apply]
      show off a + 1 * ((y a).val - off a) = (y a).val
      have := hy a; omega
    conv_lhs => rw [← he]
    exact View.read_slice_write_emb _ _ _ (Finset.mem_univ _)
  · rename_i hy
    refine View.read_slice_write_of_not_mem _ _ _ _ ?_
    intro hmem
    obtain ⟨x, -, hx'⟩ := Finset.mem_map.mp hmem
    refine hy fun a => ?_
    have e0 : ((Rect.unit (s := s) off size inb).emb x a).val = (y a).val := congrArg Fin.val (congrFun hx' a)
    rw [Rect.emb_apply] at e0
    have e1 : off a + 1 * (x a).val = (y a).val := e0
    have h1 : (x a).val < size a := (x a).isLt
    omega

/-- A store through a unit-stride rectangle of a matrix owned at `arr A`, the payload being `arr W`. -/
theorem wp_st {cs : CoreSpace} {e : EltTy} {R C h w : ℕ} {m : Memref sig c.2.kind cs ⟨2, ![R, C]⟩ e}
    {A : ℕ → ℕ → Val e} {off : Fin 2 → ℕ} (o0 o1 : ℕ) (ho : off = ![o0, o1])
    {inb : ∀ a, off a + (⟨2, ![h, w]⟩ : Shape).size a ≤ (⟨2, ![R, C]⟩ : Shape).size a}
    {pw : (⟨2, ![h, w]⟩ : Shape).Idx → Val e} (W : ℕ → ℕ → Val e) (hW : pw = arr W) {hx hm}
    {k : PUnit → Prog (TpuEff nD τ sig Val Λ c.2) α} :
    owns c m fullShare (arr A)
      ⊢ iprop((owns c m fullShare (arr (putA o0 o1 h w W A)) -∗ wp frame (wpE' defs 𝒱 c bd Γ) E (k ⟨⟩) Q)
        -∗ wp frame (wpE' defs 𝒱 c bd Γ) E (.op (.store m (Rect.unit (s := ⟨2, ![R, C]⟩) off (⟨2, ![h, w]⟩ : Shape).size inb) pw Finset.univ hx hm) k) Q) := by
  subst ho hW
  have hv : VecWindow.put (s := ⟨2, ![R, C]⟩) (arr A) ![o0, o1] (⟨2, ![h, w]⟩ : Shape).size (arr (R := h) (C := w) W)
      = arr (putA o0 o1 h w W A) := by
    funext y
    unfold VecWindow.put
    show _ = putA o0 o1 h w W A (y 0).val (y 1).val
    unfold putA
    by_cases hy : ∀ a : Fin 2, (![o0, o1] : Fin 2 → ℕ) a ≤ (y a).val ∧ (y a).val < (![o0, o1] : Fin 2 → ℕ) a + (⟨2, ![h, w]⟩ : Shape).size a
    · rw [dif_pos hy, if_pos ⟨hy 0, hy 1⟩]; rfl
    · rw [dif_neg hy, if_neg (fun h => hy fun a => by fin_cases a; exacts [h.1, h.2])]; rfl
  rw [← hv]
  exact wp_st_put 𝒱 c bd E

/-- A store over a whole memref leaves the payload. -/
theorem wp_st_full {cs : CoreSpace} {e : EltTy} {s : Shape} {m : Memref sig c.2.kind cs s e}
    {X : s.Idx → Val e} {off : Fin s.rank → ℕ} (ho : ∀ a, off a = 0) {inb : ∀ a, off a + s.size a ≤ s.size a}
    {pw : s.Idx → Val e} {hx hm}
    {k : PUnit → Prog (TpuEff nD τ sig Val Λ c.2) α} :
    owns c m fullShare X
      ⊢ iprop((owns c m fullShare pw -∗ wp frame (wpE' defs 𝒱 c bd Γ) E (k ⟨⟩) Q)
        -∗ wp frame (wpE' defs 𝒱 c bd Γ) E (.op (.store m (Rect.unit (s := s) off s.size inb) pw Finset.univ hx hm) k) Q) := by
  have hv : VecWindow.put X off s.size pw = pw := by
    funext y
    unfold VecWindow.put
    rw [dif_pos (fun a => by rw [ho a]; exact ⟨Nat.zero_le _, by rw [Nat.zero_add]; exact (y a).isLt⟩)]
    refine congrArg pw (funext fun a => Fin.ext ?_)
    show (y a).val - off a = (y a).val
    rw [ho a, Nat.sub_zero]
  have h := wp_st_put (defs := defs) (Γ := Γ) (Q := Q) 𝒱 c bd E (m := m) (X := X) (off := off) (size := s.size) (inb := inb) (pw := pw)
    (hx := hx) (hm := hm) (k := k)
  rw [hv] at h
  exact h

end Rules

end Cert.Proof.Nms

end
-- ==== Proof.Nms.Spec.lean ====
/-
  The mathematics the kernel computes: indicators as extended reals, the rank of a score (its place in the stable
  descending order), suppression by an earlier unsuppressed box, and counts.
-/
module

public import Idealize.ShloMosaic.PureOps.Ideal
public import Idealize.ShloMosaic.PureOps.Ideal.Laws
public import Idealize.ShloMosaic.Lib.IdealHost
public import Mathlib.Algebra.BigOperators.Fin

@[expose] public section

set_option maxRecDepth 16384

noncomputable section

namespace Cert.Proof.Nms

open Idealize.ShloMosaic

/-! ### Indicators -/

/-- The indicator of a proposition. -/
def ind (P : Prop) : EReal := @ite _ P (Classical.propDecidable P) 1 0

/-- The indicator of what holds is one, -/
theorem ind_true {P : Prop} (h : P) : ind P = 1 := by unfold ind; exact if_pos h
/-- of what does not, zero. -/
theorem ind_false {P : Prop} (h : ¬P) : ind P = 0 := by unfold ind; exact if_neg h
/-- Equivalent properties have one indicator. -/
theorem ind_congr {P Q : Prop} (h : P ↔ Q) : ind P = ind Q := by rw [propext h]

/-- One half, the threshold the kernel compares indicators with. -/
def half : EReal := Ideal.ofBits .f32 1056964608#32

/-- The float one half. -/
theorem half_eq : half = ((1 / 2 : ℝ) : EReal) := by
  unfold half
  simp [Ideal.ofBits, Ideal.ieee, -EReal.coe_mul]; norm_num

/-- It is positive -/
theorem half_pos : 0 < half := by rw [half_eq]; exact EReal.coe_pos.mpr (by norm_num)
/-- and below one. -/
theorem half_lt_one : half < 1 := by
  rw [half_eq, ← EReal.coe_one]; exact EReal.coe_lt_coe_iff.mpr (by norm_num)

/-- The float of minus infinity. -/
theorem bot_bits : Ideal.ofBits .f32 4286578688#32 = ⊥ := by
  simp [Ideal.ofBits, Ideal.ieee]

/-- One less an indicator is the indicator of the negation. -/
theorem one_sub_ind (P : Prop) : (1 : EReal) - ind P = ind ¬P := by
  by_cases h : P
  · rw [ind_true h, ind_false (not_not.mpr h)]
    rw [← EReal.coe_one, ← EReal.coe_sub]; simp
  · rw [ind_false h, ind_true h]; simp

/-- The larger of two indicators is the indicator of either. -/
theorem max_ind (P Q : Prop) : max (ind P) (ind Q) = ind (P ∨ Q) := by
  by_cases h : P <;> by_cases h' : Q <;> simp [ind, h, h']

/-- The product of two indicators is the indicator of both. -/
theorem ind_mul (P Q : Prop) : ind P * ind Q = ind (P ∧ Q) := by
  by_cases h : P <;> by_cases h' : Q <;> simp [ind, h, h']

/-- An indicator below one half is zero. -/
theorem ind_lt_half (P : Prop) : ind P < half ↔ ¬P := by
  by_cases h : P
  · rw [ind_true h]; exact ⟨fun h' => absurd h' (not_lt.mpr half_lt_one.le), fun h' => absurd h h'⟩
  · rw [ind_false h]; exact ⟨fun _ => h, fun _ => half_pos⟩

/-- An indicator above one half is one. -/
theorem half_lt_ind (P : Prop) : half < ind P ↔ P := by
  by_cases h : P
  · rw [ind_true h]; exact ⟨fun _ => h, fun _ => half_lt_one⟩
  · rw [ind_false h]; exact ⟨fun h' => absurd h' (not_lt.mpr half_pos.le), fun h' => absurd h' h⟩

/-- Equal indicators are of equivalent properties. -/
theorem ind_inj {P Q : Prop} (h : ind P = ind Q) : P ↔ Q := by
  rw [← half_lt_ind P, h, half_lt_ind]

/-- A whole number is a real one. -/
theorem natCast_real (n : ℕ) : ((n : ℕ) : EReal) = ((n : ℝ) : EReal) := rfl

/-- Whole numbers are ordered as before, -/
theorem natCast_lt {a b : ℕ} : ((a : ℕ) : EReal) < (b : EReal) ↔ a < b := by
  rw [natCast_real, natCast_real, EReal.coe_lt_coe_iff, Nat.cast_lt]
/-- weakly too, -/
theorem natCast_le {a b : ℕ} : ((a : ℕ) : EReal) ≤ (b : EReal) ↔ a ≤ b := by
  rw [natCast_real, natCast_real, EReal.coe_le_coe_iff, Nat.cast_le]
/-- and stay different. -/
theorem natCast_inj {a b : ℕ} : ((a : ℕ) : EReal) = (b : EReal) ↔ a = b := by
  rw [natCast_real, natCast_real, EReal.coe_eq_coe_iff, Nat.cast_inj]

open Classical in
/-- A sum of indicators counts. -/
theorem sum_ind {n : ℕ} (P : Fin n → Prop) :
    ∑ j, ind (P j) = (((Finset.univ.filter P).card : ℕ) : EReal) := by
  have h : ∀ j, ind (P j) = ((if P j then 1 else 0 : ℕ) : EReal) := fun j => by
    by_cases h : P j <;> simp [ind, h]
  simp only [h]
  rw [← Nat.cast_sum, Finset.card_filter]

/-- A sum of indicators is above one half when one of them is one. -/
theorem half_lt_sum_ind {n : ℕ} (P : Fin n → Prop) : half < ∑ j, ind (P j) ↔ ∃ j, P j := by
  classical
  rw [sum_ind]
  constructor
  · intro h
    by_contra hne
    have : (Finset.univ.filter P).card = 0 := by
      rw [Finset.card_eq_zero, Finset.filter_eq_empty_iff]; exact fun j _ hj => hne ⟨j, hj⟩
    rw [this] at h
    exact absurd h (not_lt.mpr (by simpa using half_pos.le))
  · rintro ⟨j, hj⟩
    have : 1 ≤ (Finset.univ.filter P).card := Finset.card_pos.mpr ⟨j, by simpa using hj⟩
    exact lt_of_lt_of_le half_lt_one (by exact_mod_cast natCast_le.mpr this)

/-- The largest of indicators is the indicator that one property holds. -/
theorem fold_max_ind {ι : Type} [Fintype ι] [Nonempty ι] (P : ι → Prop) :
    Finset.fold max ⊥ (fun j => ind (P j)) Finset.univ = ind (∃ j, P j) := by
  apply le_antisymm
  · rw [Finset.fold_max_le]
    refine ⟨bot_le, fun j _ => ?_⟩
    by_cases h : P j
    · rw [ind_true h, ind_true ⟨j, h⟩]
    · rw [ind_false h]; by_cases h' : ∃ j, P j
      · rw [ind_true h']; exact zero_le_one
      · rw [ind_false h']
  · rw [Finset.le_fold_max]
    by_cases h : ∃ j, P j
    · obtain ⟨j, hj⟩ := h
      exact Or.inr ⟨j, Finset.mem_univ _, by rw [ind_true hj, ind_true ⟨j, hj⟩]⟩
    · obtain ⟨j⟩ := (inferInstance : Nonempty ι)
      refine Or.inr ⟨j, Finset.mem_univ _, ?_⟩
      rw [ind_false h, ind_false (fun h' => h ⟨j, h'⟩)]

/-- A sum against the indicator of one index picks that index's term. -/
theorem sum_mul_ind {n : ℕ} (f : Fin n → EReal) (b : Fin n) : ∑ x : Fin n, f x * ind ((x : ℕ) = (b : ℕ)) = f b := by
  rw [Finset.sum_eq_single b]
  · rw [ind_true rfl, mul_one]
  · intro x _ hx; rw [ind_false (fun h => hx (Fin.ext h)), mul_zero]
  · intro h; exact absurd (Finset.mem_univ _) h

/-- A sum against the indicator of one place picks that place. -/
theorem sum_ind_mul {n : ℕ} (f : Fin n → EReal) (b : Fin n) : ∑ x : Fin n, ind ((b : ℕ) = (x : ℕ)) * f x = f b := by
  rw [Finset.sum_eq_single b]
  · rw [ind_true rfl, one_mul]
  · intro x _ hx; rw [ind_false (fun h => hx (Fin.ext h.symm)), zero_mul]
  · intro h; exact absurd (Finset.mem_univ _) h

/-- A sum against the indicator of a condition that one index alone meets. -/
theorem sum_ind_mul_of {n : ℕ} (P : Fin n → Prop) (f : Fin n → EReal) (b : Fin n) (h : ∀ x, P x ↔ x = b) :
    ∑ x : Fin n, ind (P x) * f x = f b := by
  rw [Finset.sum_eq_single b]
  · rw [ind_true ((h b).mpr rfl), one_mul]
  · intro x _ hx; rw [ind_false (fun h' => hx ((h x).mp h')), zero_mul]
  · intro h; exact absurd (Finset.mem_univ _) h

/-! ### Counts -/

open Classical in
/-- How many numbers below `n` satisfy `P`. -/
def cnt (P : ℕ → Prop) (n : ℕ) : ℕ := ((Finset.range n).filter P).card

open Classical in
/-- The count over one more place. -/
theorem cnt_succ (P : ℕ → Prop) (n : ℕ) : cnt P (n + 1) = cnt P n + (if P n then 1 else 0) := by
  unfold cnt
  rw [Finset.range_add_one, Finset.filter_insert]
  split
  · rw [Finset.card_insert_of_notMem (by simp)]
  · rfl

/-- The count over no place. -/
theorem cnt_zero (P : ℕ → Prop) : cnt P 0 = 0 := by simp [cnt]

/-- The count grows. -/
theorem cnt_mono (P : ℕ → Prop) : Monotone (cnt P) := by
  refine monotone_nat_of_le_succ fun n => ?_
  rw [cnt_succ]; omega

/-- The count is at most the number of places. -/
theorem cnt_le (P : ℕ → Prop) (n : ℕ) : cnt P n ≤ n := by
  induction n with
  | zero => rw [cnt_zero]
  | succ n ih => rw [cnt_succ]; split <;> omega

open Classical in
/-- The count is the size of the set counted. -/
theorem cnt_eq_card {n : ℕ} (P : ℕ → Prop) : cnt P n = (Finset.univ.filter fun j : Fin n => P j).card := by
  unfold cnt
  refine (Finset.card_bij (fun (j : Fin n) _ => j.val) ?_ ?_ ?_).symm
  · intro a ha; simpa using ha
  · intro a _ b _ h; exact Fin.ext h
  · intro b hb; rw [Finset.mem_filter, Finset.mem_range] at hb
    exact ⟨⟨b, hb.1⟩, by simpa using hb.2, rfl⟩

/-- A sum of indicators is a count. -/
theorem sum_ind_cnt {n : ℕ} (P : ℕ → Prop) : ∑ j : Fin n, ind (P j) = ((cnt P n : ℕ) : EReal) := by
  classical
  rw [sum_ind, cnt_eq_card]

/-- The count up to and including place `r` of the window that starts at `base`. -/
theorem cnt_window (P : ℕ → Prop) (base n r : ℕ) (hr : r < n) :
    (∑ j : Fin n, ind (P (base + j)) * ind (j.val ≤ r)) + ((cnt P base : ℕ) : EReal) = ((cnt P (base + r + 1) : ℕ) : EReal) := by
  have h1 : ∀ j : Fin n, ind (P (base + j)) * ind (j.val ≤ r) = ind ((fun i => P (base + i) ∧ i ≤ r) j.val) :=
    fun j => ind_mul _ _
  rw [Finset.sum_congr rfl fun j _ => h1 j, sum_ind_cnt (fun i => P (base + i) ∧ i ≤ r), ← Nat.cast_add]
  congr 1
  have h2 : ∀ m, m ≤ r + 1 → cnt (fun i => P (base + i) ∧ i ≤ r) m + cnt P base = cnt P (base + m) := by
    intro m
    induction m with
    | zero => intro _; rw [cnt_zero, Nat.zero_add, Nat.add_zero]
    | succ m ih =>
      intro hm
      rw [cnt_succ, ← Nat.add_assoc base, cnt_succ, ← ih (by omega)]
      by_cases h : P (base + m)
      · rw [if_pos ⟨h, by omega⟩, if_pos h]; omega
      · rw [if_neg (fun h' => h h'.1), if_neg h]; omega
  have h3 : ∀ m, r + 1 ≤ m → cnt (fun i => P (base + i) ∧ i ≤ r) m = cnt (fun i => P (base + i) ∧ i ≤ r) (r + 1) := by
    intro m hm
    induction m, hm using Nat.le_induction with
    | base => rfl
    | succ m hm ih => rw [cnt_succ, ih, if_neg (by omega), Nat.add_zero]
  rw [h3 n hr, h2 (r + 1) le_rfl]; rfl

/-! ### The rank of a score -/

open Classical in
/-- The place of `c` in the descending order of the scores, equal scores in index order. -/
def rank (s : ℕ → EReal) (c : ℕ) : ℕ :=
  ((Finset.range 5120).filter fun j => s c < s j ∨ (s j = s c ∧ j < c)).card

/-- `j` comes before `c`. -/
def before (s : ℕ → EReal) (j c : ℕ) : Prop := s c < s j ∨ (s j = s c ∧ j < c)

/-- No box comes before itself. -/
theorem before_irrefl (s : ℕ → EReal) (c : ℕ) : ¬ before s c c := by
  rintro (h | ⟨-, h⟩)
  · exact lt_irrefl _ h
  · exact Nat.lt_irrefl _ h

/-- Coming before is transitive. -/
theorem before_trans {s : ℕ → EReal} {a b c : ℕ} (h : before s a b) (h' : before s b c) : before s a c := by
  rcases h with h | ⟨h, h2⟩ <;> rcases h' with h' | ⟨h', h2'⟩
  · exact Or.inl (h'.trans h)
  · exact Or.inl (h' ▸ h)
  · exact Or.inl (h ▸ h')
  · exact Or.inr ⟨h.trans h', h2.trans h2'⟩

/-- Of two boxes one comes before. -/
theorem before_total (s : ℕ → EReal) {a b : ℕ} (h : a ≠ b) : before s a b ∨ before s b a := by
  rcases lt_trichotomy (s a) (s b) with h' | h' | h'
  · exact Or.inr (Or.inl h')
  · rcases Nat.lt_or_gt_of_ne h with h2 | h2
    · exact Or.inl (Or.inr ⟨h', h2⟩)
    · exact Or.inr (Or.inr ⟨h'.symm, h2⟩)
  · exact Or.inl (Or.inl h')

/-- A box that comes before has the smaller rank. -/
theorem rank_lt_of_before {s : ℕ → EReal} {a b : ℕ} (ha : a < 5120) (h : before s a b) : rank s a < rank s b := by
  classical
  unfold rank
  apply Finset.card_lt_card
  rw [Finset.ssubset_iff_of_subset]
  · exact ⟨a, Finset.mem_filter.mpr ⟨Finset.mem_range.mpr ha, h⟩, fun h' => before_irrefl s a (Finset.mem_filter.mp h').2⟩
  · intro j hj
    rw [Finset.mem_filter] at hj ⊢
    exact ⟨hj.1, before_trans (s := s) hj.2 h⟩

/-- Ranks are ordered as the boxes are. -/
theorem rank_lt_iff {s : ℕ → EReal} {a b : ℕ} (ha : a < 5120) (hb : b < 5120) : rank s a < rank s b ↔ before s a b := by
  refine ⟨fun h => ?_, rank_lt_of_before ha⟩
  by_cases hab : a = b
  · subst hab; exact absurd h (Nat.lt_irrefl _)
  · rcases before_total s hab with h' | h'
    · exact h'
    · exact absurd (rank_lt_of_before hb h') (by omega)

/-- Ranks are below 5120. -/
theorem rank_lt (s : ℕ → EReal) {c : ℕ} (hc : c < 5120) : rank s c < 5120 := by
  classical
  unfold rank
  have : ((Finset.range 5120).filter fun j => s c < s j ∨ (s j = s c ∧ j < c)) ⊂ Finset.range 5120 := by
    rw [Finset.ssubset_iff_of_subset (Finset.filter_subset _ _)]
    exact ⟨c, Finset.mem_range.mpr hc, fun h' => before_irrefl s c (Finset.mem_filter.mp h').2⟩
  simpa using Finset.card_lt_card this

/-- No two boxes have one rank. -/
theorem rank_inj {s : ℕ → EReal} {a b : ℕ} (ha : a < 5120) (hb : b < 5120) (h : rank s a = rank s b) : a = b := by
  by_contra hab
  rcases before_total s hab with h' | h'
  · exact absurd (rank_lt_of_before ha h') (by omega)
  · exact absurd (rank_lt_of_before hb h') (by omega)

/-- Every place below 5120 is some index's rank. -/
theorem rank_surj (s : ℕ → EReal) {p : ℕ} (hp : p < 5120) : ∃ c, c < 5120 ∧ rank s c = p := by
  let f : Fin 5120 → Fin 5120 := fun c => ⟨rank s c, rank_lt s c.isLt⟩
  have hinj : Function.Injective f := fun a b h => Fin.ext (rank_inj a.isLt b.isLt (congrArg Fin.val h))
  obtain ⟨c, hc⟩ := (Finite.injective_iff_surjective.mp hinj) ⟨p, hp⟩
  exact ⟨c, c.isLt, congrArg Fin.val hc⟩

open Classical in
/-- The index at place `p` of the order. -/
def sg (s : ℕ → EReal) (p : ℕ) : ℕ := if h : ∃ c, c < 5120 ∧ rank s c = p then h.choose else 0

/-- Every rank is some box's. -/
theorem sg_spec (s : ℕ → EReal) {p : ℕ} (hp : p < 5120) : sg s p < 5120 ∧ rank s (sg s p) = p := by
  unfold sg
  rw [dif_pos (rank_surj s hp)]
  exact (rank_surj s hp).choose_spec
/-- That box is among the 5120 -/
theorem sg_lt (s : ℕ → EReal) {p : ℕ} (hp : p < 5120) : sg s p < 5120 := (sg_spec s hp).1
/-- and has that rank. -/
theorem rank_sg (s : ℕ → EReal) {p : ℕ} (hp : p < 5120) : rank s (sg s p) = p := (sg_spec s hp).2
/-- The box of a box's rank is the box. -/
theorem sg_rank (s : ℕ → EReal) {c : ℕ} (hc : c < 5120) : sg s (rank s c) = c :=
  rank_inj (sg_lt s (rank_lt s hc)) hc (rank_sg s (rank_lt s hc))
/-- A box has a rank when it is that rank's box. -/
theorem rank_eq_iff (s : ℕ → EReal) {c p : ℕ} (hc : c < 5120) (hp : p < 5120) : rank s c = p ↔ c = sg s p :=
  ⟨fun h => by rw [← h, sg_rank s hc], fun h => by rw [h, rank_sg s hp]⟩

/-- The two sums the kernel adds give the rank. -/
theorem rank_sum (s : ℕ → EReal) (c : ℕ) :
    (∑ j : Fin 5120, ind (s c < s j)) + (∑ j : Fin 5120, ind (s j = s c ∧ j.val < c)) = ((rank s c : ℕ) : EReal) := by
  classical
  rw [sum_ind_cnt (fun j => s c < s j), sum_ind_cnt (fun j => s j = s c ∧ j < c), ← Nat.cast_add]
  congr 1
  unfold cnt rank
  rw [Finset.filter_or, Finset.card_union_of_disjoint]
  · congr
  rw [Finset.disjoint_filter]
  rintro j - h ⟨h', -⟩
  exact absurd h (by rw [h']; exact lt_irrefl _)

/-! ### Suppression -/

/-- Place `p` is suppressed: it lies beyond the boxes, or an earlier unsuppressed box overlaps it. -/
def supp (O : ℕ → ℕ → Prop) (p : ℕ) : Prop := 5000 ≤ p ∨ ∃ q, ∃ _h : q < p, ¬ supp O q ∧ O p q
termination_by p

/-- A rank is suppressed when it is past the boxes or an unsuppressed smaller rank overlaps it. -/
theorem supp_iff (O : ℕ → ℕ → Prop) (p : ℕ) : supp O p ↔ (5000 ≤ p ∨ ∃ q, q < p ∧ ¬ supp O q ∧ O p q) := by
  rw [supp]; simp only [exists_prop]

/-- Smallest union the kernel divides by. -/
def eps : EReal := Ideal.ofBits .f32 814313567#32
/-- The overlap above which a box suppresses another. -/
def thr : EReal := Ideal.ofBits .f32 1060320051#32

/-- The area of box `p`. -/
def area (B : ℕ → ℕ → EReal) (p : ℕ) : EReal := (B 2 p - B 0 p) * (B 3 p - B 1 p)
/-- The intersection of boxes `p` and `q`. -/
def inter (B : ℕ → ℕ → EReal) (p q : ℕ) : EReal :=
  max (min (B 2 p) (B 2 q) - max (B 0 p) (B 0 q)) 0 * max (min (B 3 p) (B 3 q) - max (B 1 p) (B 1 q)) 0
/-- Boxes `p` and `q` overlap by more than the threshold. -/
def ovr (B : ℕ → ℕ → EReal) (p q : ℕ) : Prop :=
  thr < Ideal.div (inter B p q) (max (area B p + area B q - inter B p q) eps)

/-! ### What the kernel keeps in its buffers, from the eight rows `D` (corners, score, label, index, zero) -/

/-- Row `r` in the order of the scores. -/
def srt (D : ℕ → ℕ → EReal) (r p : ℕ) : EReal := D r (sg (D 4) p)
/-- The largest coordinate. -/
def mc (D : ℕ → ℕ → EReal) : EReal :=
  Finset.fold max ⊥ (fun x : Fin 4 × Fin 5120 => D x.1 x.2) Finset.univ
/-- The sorted corners moved by the label times the largest coordinate plus one. -/
def ob (D : ℕ → ℕ → EReal) (r p : ℕ) : EReal := srt D r p + srt D 5 p * (mc D + 1)
/-- Suppression in the sorted order. -/
def sup (D : ℕ → ℕ → EReal) : ℕ → Prop := supp (ovr (ob D))
/-- Index `c` survives. -/
def kp (D : ℕ → ℕ → EReal) (c : ℕ) : Prop := ¬ sup D (rank (D 4) c)
/-- How many survive. -/
def ktot (D : ℕ → ℕ → EReal) : ℕ := cnt (fun p => ¬ sup D p) 5120
/-- Output place `k` of row `r`: the `k`-th survivor in sorted order. -/
def outP (D : ℕ → ℕ → EReal) (k r : ℕ) : EReal :=
  ∑ p : Fin 5120, ind (¬ sup D p ∧ cnt (fun p => ¬ sup D p) (p + 1) = k + 1) * srt D r p
/-- Output place `k` of row `r`: the non-survivor number `k - ktot` in index order. -/
def outQ (D : ℕ → ℕ → EReal) (k r : ℕ) : EReal :=
  ∑ c : Fin 5120, ind (¬ kp D c ∧ cnt (fun c => ¬ kp D c) (c + 1) + ktot D = k + 1) * D r c

/-! ### The fixpoint inside one tile -/

/-- One step of the tile's iteration: `I` what earlier tiles suppress, `M` the overlaps inside the tile. -/
def tstep (I : ℕ → EReal) (M : ℕ → ℕ → EReal) (a : ℕ → EReal) (r : ℕ) : EReal :=
  max (I r) (ind (half < ∑ j : Fin 128, M r j * (1 - a j)))

/-- What earlier tiles and the padding suppress of place `base + r`. -/
def tinit (O : ℕ → ℕ → Prop) (base r : ℕ) : EReal :=
  ind ((∃ q, q < base ∧ ¬ supp O q ∧ O (base + r) q) ∨ 5000 ≤ base + r)
/-- The overlaps inside the tile, strictly below the diagonal. -/
def tmat (O : ℕ → ℕ → Prop) (base r j : ℕ) : EReal := ind (O (base + r) (base + j) ∧ j < r)

/-- Where the iterate is right below `r`, the next iterate is right at `r`. -/
theorem tstep_right (O : ℕ → ℕ → Prop) (base : ℕ) (a : ℕ → EReal) (r : ℕ) (hr : r < 128)
    (ha : ∀ j, j < r → a j = ind (supp O (base + j))) :
    tstep (tinit O base) (tmat O base) a r = ind (supp O (base + r)) := by
  unfold tstep tinit tmat
  have h1 : ∀ j : Fin 128, ind (O (base + r) (base + j) ∧ j.val < r) * (1 - a j)
      = ind ((O (base + r) (base + j) ∧ j.val < r) ∧ ¬ supp O (base + j)) := by
    intro j
    by_cases hj : j.val < r
    · rw [ha j hj, one_sub_ind, ind_mul]
    · rw [ind_false (fun h => hj h.2), zero_mul, ind_false (fun h => hj h.1.2)]
  simp only [h1]
  rw [ind_congr (half_lt_sum_ind _), max_ind]
  refine ind_congr ?_
  rw [supp_iff O (base + r)]
  constructor
  · rintro ((⟨q, hq, hs, ho⟩ | h) | ⟨j, ⟨ho, hj⟩, hs⟩)
    · exact Or.inr ⟨q, by omega, hs, ho⟩
    · exact Or.inl h
    · exact Or.inr ⟨base + j, by omega, hs, ho⟩
  · rintro (h | ⟨q, hq, hs, ho⟩)
    · exact Or.inl (Or.inr h)
    · by_cases hb : q < base
      · exact Or.inl (Or.inl ⟨q, hb, hs, ho⟩)
      · refine Or.inr ⟨⟨q - base, by omega⟩, ?_⟩
        have : base + (q - base) = q := by omega
        simp only [this]
        exact ⟨⟨ho, by omega⟩, hs⟩

/-- A fixed point of the step is the suppression of the tile. -/
theorem tstep_fix (O : ℕ → ℕ → Prop) (base : ℕ) (a : ℕ → EReal)
    (h : ∀ r, r < 128 → tstep (tinit O base) (tmat O base) a r = a r) :
    ∀ r, r < 128 → a r = ind (supp O (base + r)) := by
  intro r
  induction r using Nat.strong_induction_on with
  | _ r ih =>
    intro hr
    rw [← h r hr]
    exact tstep_right O base a r hr fun j hj => ih j hj (by omega)

end Cert.Proof.Nms

end
-- ==== Proof.Nms.Pay.lean ====
/-
  What each payload of the kernel computes, in the terms of `Spec.lean`: a payload on matrices given by functions of the
  coordinates is the matrix of a function of the coordinates.
-/
module

public import proofs.«01_k».proof.Proof.Gen.KernelIdeal.Skeleton
public import proofs.«01_k».proof.Proof.Nms.Mem
public import proofs.«01_k».proof.Proof.Nms.Spec
public import Idealize.ShloMosaic.Lib.Pipeline.ValueKit
public import Idealize.ShloMosaic.Lib.WordCmp

@[expose] public section

set_option maxRecDepth 16384

noncomputable section

namespace Cert.Proof.Nms

open Idealize.ShloMosaic Cert.KernelIdeal Cert.KernelIdeal.Gen
open Idealize.ShloMosaic.WordCmp (cmpi_eq_eq cmpi_slt_eq cmpi_sle_eq toInt_ofNat_of_lt)

/-! ### Words and truth values as extended reals -/

/-- A truth value as a float is its indicator. -/
theorem sito_ofBool (P : Prop) [Decidable P] :
    FloatOps.sitofp (F := Ideal) FTy.f32 (BitVec.setWidth 32 (BitVec.ofBool (decide P))) = ind P := by
  by_cases h : P
  · rw [ind_true h, decide_eq_true h]
    show (((BitVec.setWidth 32 (BitVec.ofBool true)).toInt : ℝ) : EReal) = 1
    have : (BitVec.setWidth 32 (BitVec.ofBool true)).toInt = 1 := by decide
    rw [this]; simp
  · rw [ind_false h, decide_eq_false h]
    show (((BitVec.setWidth 32 (BitVec.ofBool false)).toInt : ℝ) : EReal) = 0
    have : (BitVec.setWidth 32 (BitVec.ofBool false)).toInt = 0 := by decide
    rw [this]; simp

/-- The conjunction of two truth values. -/
theorem andi_ofBool (P Q : Prop) [Decidable P] [Decidable Q] :
    IntOp.andi (BitVec.ofBool (decide P)) (BitVec.ofBool (decide Q)) = BitVec.ofBool (decide (P ∧ Q)) := by
  by_cases h : P <;> by_cases h' : Q <;> simp [h, h'] <;> decide

/-- Equality of small words is equality of numbers. -/
theorem cmp_eq {n m : ℕ} (a : Fin n) (b : Fin m) (hn : n ≤ 100000) (hm : m ≤ 100000) :
    IntOp.cmpi .eq (BitVec.ofNat 32 a) (BitVec.ofNat 32 b) = BitVec.ofBool (decide ((a : ℕ) = (b : ℕ))) := by
  have ha := a.isLt; have hb := b.isLt
  rw [cmpi_eq_eq]; congr 1; rw [decide_eq_decide]
  constructor
  · intro h
    have := congrArg BitVec.toNat h
    rw [BitVec.toNat_ofNat, BitVec.toNat_ofNat, Nat.mod_eq_of_lt (by omega), Nat.mod_eq_of_lt (by omega)] at this
    exact this
  · intro h; rw [h]

/-- Order of small words is order of numbers. -/
theorem cmp_slt {n m : ℕ} (a : Fin n) (b : Fin m) (hn : n ≤ 100000) (hm : m ≤ 100000) :
    IntOp.cmpi .slt (BitVec.ofNat 32 a) (BitVec.ofNat 32 b) = BitVec.ofBool (decide ((a : ℕ) < (b : ℕ))) := by
  have ha := a.isLt; have hb := b.isLt
  rw [cmpi_slt_eq, toInt_ofNat_of_lt (by omega), toInt_ofNat_of_lt (by omega)]; congr 1; rw [decide_eq_decide]; omega

/-- Weak order of small words is weak order of numbers. -/
theorem cmp_sle {n m : ℕ} (a : Fin n) (b : Fin m) (hn : n ≤ 100000) (hm : m ≤ 100000) :
    IntOp.cmpi .sle (BitVec.ofNat 32 a) (BitVec.ofNat 32 b) = BitVec.ofBool (decide ((a : ℕ) ≤ (b : ℕ))) := by
  have ha := a.isLt; have hb := b.isLt
  rw [cmpi_sle_eq, toInt_ofNat_of_lt (by omega), toInt_ofNat_of_lt (by omega)]; congr 1; rw [decide_eq_decide]; omega

/-- A small word as a float is its number. -/
theorem sito_nat {n : ℕ} (a : Fin n) (hn : n ≤ 100000) :
    FloatOps.sitofp (F := Ideal) FTy.f32 (BitVec.ofNat 32 a) = ((a : ℕ) : EReal) := by
  show (((BitVec.ofNat 32 a).toInt : ℝ) : EReal) = _
  have ha := a.isLt
  rw [toInt_ofNat_of_lt (by omega), natCast_real]; norm_cast

/-- The word of a tile's first rank. -/
theorem word_base (t : ℕ) (ht : t < 40) :
    (Scalar.muli (Scf.iv 0#32 1#32 t) 128#32).toInt = ((128 * t : ℕ) : ℤ) := by
  have h : ∀ t : Fin 40, (Scalar.muli (Scf.iv 0#32 1#32 t.val) 128#32).toInt = ((128 * t.val : ℕ) : ℤ) := by decide +kernel
  exact h ⟨t, ht⟩

/-- A tile's first rank as a float. -/
theorem sito_base (t : ℕ) (ht : t < 40) :
    (((Scalar.muli (Scf.iv 0#32 1#32 t) 128#32).toInt : ℝ) : EReal) = ((128 * t : ℕ) : EReal) := by
  rw [word_base t ht, natCast_real]; norm_cast

/-- The identity matrix, the column of row numbers and the row of column numbers, as the kernel builds them. -/
theorem pay18_eq : k0_pay18 (F := Ideal) = arr fun a b => ind (a = b) := by
  refine ext_ix2 fun a b => ?_
  pointwise [k0_pay18]
  rw [cmp_eq _ _ (by norm_num) (by norm_num), sito_ofBool]; rfl
/-- The column of the numbers 0 to 127. -/
theorem pay19_eq : k0_pay19 (F := Ideal) = arr fun a _ => ((a : ℕ) : EReal) := by
  refine ext_ix2 fun a b => ?_
  pointwise [k0_pay19]
  rw [sito_nat _ (by norm_num)]; rfl
/-- The row of the numbers 0 to 5119. -/
theorem pay20_eq : k0_pay20 (F := Ideal) = arr fun _ b => ((b : ℕ) : EReal) := by
  refine ext_ix2 fun a b => ?_
  pointwise [k0_pay20]
  rw [sito_nat _ (by norm_num)]; rfl

/-- The identity matrix of a tile. -/
abbrev M4 : FVec Ideal S128x128 .f32 := arr fun a b => ind (a = b)
/-- The column of the numbers 0 to 127. -/
abbrev C6 : FVec Ideal S128x1 .f32 := arr fun a _ => ((a : ℕ) : EReal)
/-- The row of the numbers 0 to 5119. -/
abbrev R8 : FVec Ideal S1x5120 .f32 := arr fun _ b => ((b : ℕ) : EReal)

/-! ### The rows -/

/-- The table's sixth row holds the places. -/
theorem pay39_eq : k0_pay39 (F := Ideal) R8 = R8 := by
  refine ext_ix2 fun a b => ?_
  pointwise [k0_pay39]
/-- The table's seventh row is zero. -/
theorem pay40_eq : k0_pay40 (F := Ideal) = arr fun _ _ => 0 := by
  refine ext_ix2 fun a b => ?_
  pointwise [k0_pay40]; simp
/-- The mask of boxes kept starts from zero. -/
theorem pay66_eq : k0_pay66 (F := Ideal) = arr fun _ _ => 0 := by
  refine ext_ix2 fun a b => ?_
  pointwise [k0_pay66]; simp
/-- The count of boxes alive starts from zero. -/
theorem pay62_eq : k0_pay62 (F := Ideal) = arr fun _ _ => 0 := by
  refine ext_ix2 fun a b => ?_
  pointwise [k0_pay62]; simp
/-- The count of boxes not kept starts from zero. -/
theorem pay68_eq : k0_pay68 (F := Ideal) = arr fun _ _ => 0 := by
  refine ext_ix2 fun a b => ?_
  pointwise [k0_pay68]; simp
/-- The suppression from earlier chunks starts from zero. -/
theorem pay13_eq : k0_pay13 (F := Ideal) = arr fun _ _ => 0 := by
  refine ext_ix2 fun a b => ?_
  pointwise [k0_pay13]; simp

/-- The float 5000. -/
theorem five_thousand : Ideal.ofBits .f32 1167867904#32 = ((5000 : ℕ) : EReal) := by
  rw [natCast_real]; simp [Ideal.ofBits, Ideal.ieee, -EReal.coe_mul]; norm_num

/-- The row that marks the places past the last box. -/
theorem pay59_eq : k0_pay59 (F := Ideal) R8 = arr fun _ b => ind (5000 ≤ b) := by
  refine ext_ix2 fun a b => ?_
  pointwise [k0_pay59]
  rw [sito_ofBool, five_thousand]
  exact ind_congr natCast_le

/-- The transposition by the identity. -/
theorem pay41_eq (A : ℕ → ℕ → EReal) : k0_pay41 (F := Ideal) M4 (arr A) = arr fun a b => A b a := by
  refine ext_ix2 fun a b => ?_
  pointwise [k0_pay41]
  simp only [M4, C6, R8, arr_ix2]
  exact sum_mul_ind (fun x => A x a) b

/-- A tile's suppression, transposed by the identity into a row. -/
theorem pay60_eq (A : ℕ → ℕ → EReal) :
    k0_pay60 (F := Ideal) M4 (arr A) (constant (F := Ideal) S1x128 .f32 0x00000000#32) = arr fun a b => A b a := by
  refine ext_ix2 fun a b => ?_
  pointwise [k0_pay60]
  simp only [M4, C6, R8, arr_ix2]
  exact sum_mul_ind (fun x => A x a) b

/-- The ranks of one tile. -/
theorem pay42_eq (t : Fin k0_t2_loop.trips) (ht : t.val < 40) (A B : ℕ → ℕ → EReal) (s : ℕ → EReal)
    (hA : ∀ b, b < 5120 → A 0 b = s b) (hB : ∀ b, b < 128 → B 0 b = s (128 * t.val + b)) :
    k0_pay42 (F := Ideal) M4 C6 R8 (arr A) t (arr B) = arr fun _ b => ((rank s (128 * t.val + b) : ℕ) : EReal) := by
  refine ext_ix2 fun a b => ?_
  pointwise [k0_pay42]
  simp only [andi_ofBool, sito_ofBool]
  simp only [M4, C6, R8, arr_ix2, sito_base t.val ht]
  refine (sum_mul_ind _ b).trans ?_
  rw [sum_ind_mul (fun x : Fin 128 => B ((0 : Fin 1) : ℕ) x) b, ← rank_sum]
  refine congrArg₂ _ (Finset.sum_congr rfl fun x _ => ?_) (Finset.sum_congr rfl fun x _ => ?_)
  · exact ind_congr (by rw [Fin.val_zero, hA _ x.isLt, hB _ b.isLt])
  · refine ind_congr ?_
    rw [Fin.val_zero, hA _ x.isLt, hB _ b.isLt, ← Nat.cast_add, natCast_lt]

/-- The sorted columns of one tile, and the same rows. -/
theorem pay43_at (t : Fin k0_t3_loop.trips) (ht : t.val < 40) (A B D : ℕ → ℕ → EReal)
    (hA : ∀ b, b < 5120 → A 0 b = ((rank (D 4) b : ℕ) : EReal)) (hB : ∀ r b, r < 8 → b < 5120 → B r b = D r b) :
    k0_pay43 (F := Ideal) C6 (arr A) t (arr B) = arr fun a r => srt D r (128 * t.val + a) := by
  refine ext_ix2 fun a b => ?_
  pointwise [k0_pay43]
  simp only [andi_ofBool, sito_ofBool]
  simp only [M4, C6, R8, arr_ix2, sito_base t.val ht]
  have hp : 128 * t.val + a.val < 5120 := by have := a.isLt; omega
  refine (sum_ind_mul_of _ (fun x : Fin 5120 => B b x) ⟨sg (D 4) (128 * t.val + a), sg_lt _ hp⟩ fun x => ?_).trans ?_
  · rw [Fin.val_zero, hA _ x.isLt, ← Nat.cast_add, natCast_inj, rank_eq_iff _ x.isLt hp, Fin.ext_iff]
  · exact hB _ _ b.isLt (sg_lt _ hp)

/-- A tile of the sorted table: the boxes whose ranks are the tile's. -/
theorem pay44_eq (t : Fin k0_t3_loop.trips) (ht : t.val < 40) (A B D : ℕ → ℕ → EReal)
    (hA : ∀ b, b < 5120 → A 0 b = ((rank (D 4) b : ℕ) : EReal)) (hB : ∀ r b, r < 8 → b < 5120 → B r b = D r b) :
    k0_pay44 (F := Ideal) C6 (arr A) t (arr B) = arr fun a r => srt D r (128 * t.val + a) := by
  refine ext_ix2 fun a b => ?_
  unfold k0_pay44
  rw [pay43_at t ht A B D hA hB]
  pointwise []

/-- The same tile, transposed. -/
theorem pay45_eq (t : Fin k0_t3_loop.trips) (ht : t.val < 40) (A B D : ℕ → ℕ → EReal)
    (hA : ∀ b, b < 5120 → A 0 b = ((rank (D 4) b : ℕ) : EReal)) (hB : ∀ r b, r < 8 → b < 5120 → B r b = D r b) :
    k0_pay45 (F := Ideal) M4 C6 (arr A) t (arr B) = arr fun r p => srt D r (128 * t.val + p) := by
  refine ext_ix2 fun a b => ?_
  unfold k0_pay45
  rw [pay43_at t ht A B D hA hB]
  pointwise []
  simp only [M4, C6, R8, arr_ix2]
  exact sum_mul_ind (fun x => srt D a (128 * t.val + x)) b

/-- The largest corner of the table. -/
theorem pay46_eq (A D : ℕ → ℕ → EReal) (hA : ∀ r b, r < 4 → b < 5120 → A r b = D r b) :
    k0_pay46 (F := Ideal) (arr A) = mc D := by
  pointwise [k0_pay46]
  rw [bot_bits]
  unfold mc
  congr 1
  funext x
  exact hA _ _ x.1.isLt x.2.isLt

/-- The float 1. -/
theorem one_bits : Ideal.ofBits .f32 1065353216#32 = 1 := by
  rw [show (1 : EReal) = ((1 : ℝ) : EReal) by norm_cast]
  simp [Ideal.ofBits, Ideal.ieee, -EReal.coe_mul]; norm_num

/-- The distance between classes: the largest corner and one more. -/
theorem pay48_eq (A D : ℕ → ℕ → EReal) (hA : ∀ r b, r < 4 → b < 5120 → A r b = D r b) :
    k0_pay48 (F := Ideal) (arr A) = arr fun _ _ => mc D + 1 := by
  refine ext_ix2 fun a b => ?_
  pointwise [k0_pay48]
  rw [pay46_eq A D hA]; rfl

/-! ### The moved boxes -/

section Boxes
variable (X D : ℕ → ℕ → EReal) (hX : ∀ r b, r < 8 → b < 5120 → X r b = srt D r b)
include hX

/-- The first corner of the boxes in rank order, moved apart by class, -/
theorem pay54_eq : k0_pay54 (F := Ideal) (arr X) (k0_pay47 (F := Ideal) (arr X)) (arr fun _ _ => mc D + 1) = arr fun _ b => ob D 0 b := by
  refine ext_ix2 fun a b => ?_
  pointwise [k0_pay54, k0_pay50, k0_pay49, k0_pay47]
  simp only [M4, C6, R8, arr_ix2, ob, ← hX 0 b (by norm_num) b.isLt, ← hX 5 b (by norm_num) b.isLt]; rfl
/-- the second, -/
theorem pay55_eq : k0_pay55 (F := Ideal) (arr X) (k0_pay47 (F := Ideal) (arr X)) (arr fun _ _ => mc D + 1) = arr fun _ b => ob D 1 b := by
  refine ext_ix2 fun a b => ?_
  pointwise [k0_pay55, k0_pay51, k0_pay49, k0_pay47]
  simp only [M4, C6, R8, arr_ix2, ob, ← hX 1 b (by norm_num) b.isLt, ← hX 5 b (by norm_num) b.isLt]; rfl
/-- the third -/
theorem pay56_eq : k0_pay56 (F := Ideal) (arr X) (k0_pay47 (F := Ideal) (arr X)) (arr fun _ _ => mc D + 1) = arr fun _ b => ob D 2 b := by
  refine ext_ix2 fun a b => ?_
  pointwise [k0_pay56, k0_pay52, k0_pay49, k0_pay47]
  simp only [M4, C6, R8, arr_ix2, ob, ← hX 2 b (by norm_num) b.isLt, ← hX 5 b (by norm_num) b.isLt]; rfl
/-- and the fourth. -/
theorem pay57_eq : k0_pay57 (F := Ideal) (arr X) (k0_pay47 (F := Ideal) (arr X)) (arr fun _ _ => mc D + 1) = arr fun _ b => ob D 3 b := by
  refine ext_ix2 fun a b => ?_
  pointwise [k0_pay57, k0_pay53, k0_pay49, k0_pay47]
  simp only [M4, C6, R8, arr_ix2, ob, ← hX 3 b (by norm_num) b.isLt, ← hX 5 b (by norm_num) b.isLt]; rfl
/-- Their areas. -/
theorem pay58_eq : k0_pay58 (F := Ideal) (arr X) (k0_pay47 (F := Ideal) (arr X)) (arr fun _ _ => mc D + 1) = arr fun _ b => area (ob D) b := by
  refine ext_ix2 fun a b => ?_
  pointwise [k0_pay58, k0_pay50, k0_pay51, k0_pay52, k0_pay53, k0_pay49, k0_pay47]
  simp only [M4, C6, R8, arr_ix2, ob, area, ← hX 0 b (by norm_num) b.isLt, ← hX 1 b (by norm_num) b.isLt,
    ← hX 2 b (by norm_num) b.isLt, ← hX 3 b (by norm_num) b.isLt, ← hX 5 b (by norm_num) b.isLt]; rfl
end Boxes

section Cols
variable (A D : ℕ → ℕ → EReal) (base : ℕ) (hA : ∀ a r, a < 128 → r < 8 → A a r = srt D r (base + a))
include hA

/-- The first corner of a tile's boxes, moved apart by class, -/
theorem pay8_eq : k0_pay8 (F := Ideal) (mc D) (arr A) = arr fun a _ => ob D 0 (base + a) := by
  refine ext_ix2 fun a b => ?_
  pointwise [k0_pay8, k0_pay7]
  simp only [M4, C6, R8, arr_ix2, ob, ← hA a 0 a.isLt (by norm_num), ← hA a 5 a.isLt (by norm_num)]; rfl
/-- the second, -/
theorem pay9_eq : k0_pay9 (F := Ideal) (mc D) (arr A) = arr fun a _ => ob D 1 (base + a) := by
  refine ext_ix2 fun a b => ?_
  pointwise [k0_pay9, k0_pay7]
  simp only [M4, C6, R8, arr_ix2, ob, ← hA a 1 a.isLt (by norm_num), ← hA a 5 a.isLt (by norm_num)]; rfl
/-- the third -/
theorem pay10_eq : k0_pay10 (F := Ideal) (mc D) (arr A) = arr fun a _ => ob D 2 (base + a) := by
  refine ext_ix2 fun a b => ?_
  pointwise [k0_pay10, k0_pay7]
  simp only [M4, C6, R8, arr_ix2, ob, ← hA a 2 a.isLt (by norm_num), ← hA a 5 a.isLt (by norm_num)]; rfl
/-- and the fourth. -/
theorem pay11_eq : k0_pay11 (F := Ideal) (mc D) (arr A) = arr fun a _ => ob D 3 (base + a) := by
  refine ext_ix2 fun a b => ?_
  pointwise [k0_pay11, k0_pay7]
  simp only [M4, C6, R8, arr_ix2, ob, ← hA a 3 a.isLt (by norm_num), ← hA a 5 a.isLt (by norm_num)]; rfl
/-- Their areas. -/
theorem pay12_eq : k0_pay12 (F := Ideal) (mc D) (arr A) = arr fun a _ => area (ob D) (base + a) := by
  refine ext_ix2 fun a b => ?_
  pointwise [k0_pay12, k0_pay11, k0_pay10, k0_pay9, k0_pay8, k0_pay7]
  simp only [M4, C6, R8, arr_ix2, ob, area, ← hA a 0 a.isLt (by norm_num), ← hA a 1 a.isLt (by norm_num),
    ← hA a 2 a.isLt (by norm_num), ← hA a 3 a.isLt (by norm_num), ← hA a 5 a.isLt (by norm_num)]; rfl
end Cols

end Cert.Proof.Nms

end
-- ==== Proof.Nms.Pay2.lean ====
/-
  The payloads of the suppression loop and of the selection, in the terms of `Spec.lean`.
-/
module

public import proofs.«01_k».proof.Proof.Nms.Pay

@[expose] public section

set_option maxRecDepth 16384

noncomputable section

namespace Cert.Proof.Nms

open Idealize.ShloMosaic Cert.KernelIdeal Cert.KernelIdeal.Gen
open Idealize.ShloMosaic.WordCmp (cmpi_eq_eq cmpi_slt_eq cmpi_sle_eq toInt_ofNat_of_lt)

/-- The columns of a chunk that lie before the tile. -/
theorem chunk_slt (t4 t5 x : ℕ) (h4 : t4 < 40) (h5 : t5 < 5) (hx : x < 1024) :
    IntOp.cmpi .slt (IntOp.addi (Scalar.muli (Scf.iv 0#32 1#32 t5) 1024#32) (BitVec.ofNat 32 x)) (Scalar.muli (Scf.iv 0#32 1#32 t4) 128#32)
      = BitVec.ofBool (decide (1024 * t5 + x < 128 * t4)) := by
  rw [cmpi_slt_eq, word_base t4 h4]
  have h : IntOp.addi (Scalar.muli (Scf.iv 0#32 1#32 t5) 1024#32) (BitVec.ofNat 32 x) = BitVec.ofNat 32 (1024 * t5 + x) := by
    have h1 : ∀ t : Fin 5, Scalar.muli (Scf.iv 0#32 1#32 t.val) 1024#32 = BitVec.ofNat 32 (1024 * t.val) := by decide +kernel
    rw [h1 ⟨t5, h5⟩]
    show BitVec.ofNat 32 _ + BitVec.ofNat 32 _ = _
    rw [← BitVec.ofNat_add]
  rw [h, toInt_ofNat_of_lt (by omega)]
  congr 1; rw [decide_eq_decide]; omega

/-- Three truth values joined, as a float. -/
theorem sito_andi3 (P Q R : Prop) [Decidable P] [Decidable Q] [Decidable R] :
    FloatOps.sitofp (F := Ideal) FTy.f32 (BitVec.setWidth 32 (IntOp.andi (IntOp.andi (BitVec.ofBool (decide P))
      (BitVec.ofBool (decide Q))) (BitVec.ofBool (decide R)))) = ind ((P ∧ Q) ∧ R) := by
  rw [andi_ofBool, andi_ofBool, sito_ofBool]

/-- What the tile's boxes are suppressed by among the earlier columns below `n`. -/
def upto (B : ℕ → ℕ → EReal) (base n a : ℕ) : EReal :=
  ind (∃ q, q < n ∧ q < base ∧ ¬ supp (ovr B) q ∧ ovr B (base + a) q)

/-- One chunk's part in what suppresses a tile: an unsuppressed earlier box of the chunk that overlaps. -/
theorem pay14_eq (t4 : Fin k0_t4_loop.trips) (t5 : Fin (k0_t5_loop t4).trips) (h4 : t4.val < 40) (h5 : t5.val < 5)
    (B I0 I1 I2 I3 I4 J : ℕ → ℕ → EReal)
    (hI0 : ∀ b, b < 1024 → I0 0 b = B 0 (1024 * t5.val + b)) (hI1 : ∀ b, b < 1024 → I1 0 b = B 1 (1024 * t5.val + b))
    (hI2 : ∀ b, b < 1024 → I2 0 b = B 2 (1024 * t5.val + b)) (hI3 : ∀ b, b < 1024 → I3 0 b = B 3 (1024 * t5.val + b))
    (hI4 : ∀ b, b < 1024 → I4 0 b = area B (1024 * t5.val + b))
    (hJ : ∀ b, b < 1024 → 1024 * t5.val + b < 128 * t4.val → J 0 b = ind (supp (ovr B) (1024 * t5.val + b))) :
    k0_pay14 (F := Ideal) (arr fun a _ => upto B (128 * t4.val) (1024 * t5.val) a) (arr J)
      (k0_pay5 (F := Ideal) (iota .tc S1x1024 32 [1] iota_S1x1024_d1_w32) t4 (Scalar.muli (Scf.iv 0#32 1#32 t4.val) 128#32)
        (arr fun a _ => B 0 (128 * t4.val + a)) (arr fun a _ => B 1 (128 * t4.val + a)) (arr fun a _ => B 2 (128 * t4.val + a))
        (arr fun a _ => B 3 (128 * t4.val + a)) (arr fun a _ => area B (128 * t4.val + a))
        0#32 1#32 t5 (arr I0) (arr I1) (arr I2) (arr I3) (arr I4)) (Scalar.ofBits .f32 0x3F000000#32)
      = arr fun a _ => upto B (128 * t4.val) (1024 * (t5.val + 1)) a := by
  refine ext_ix2 fun a b => ?_
  pointwise [k0_pay14, k0_pay5]
  have hx : ∀ x : Fin 1024, IntOp.cmpi .slt (IntOp.addi (Scalar.muli (Scf.iv 0#32 1#32 t5.val) 1024#32) (BitVec.ofNat 32 x.val))
      (Scalar.muli (Scf.iv 0#32 1#32 t4.val) 128#32) = BitVec.ofBool (decide (1024 * t5.val + x.val < 128 * t4.val)) :=
    fun x => chunk_slt _ _ _ h4 h5 x.isLt
  simp only [hx, bot_bits]
  refine (congrArg₂ max rfl ((Finset.fold_congr fun x _ => sito_andi3 _ _ _).trans (fold_max_ind _))).trans ?_
  refine (max_ind (∃ q, q < 1024 * t5.val ∧ q < 128 * t4.val ∧ ¬ supp (ovr B) q ∧ ovr B (128 * t4.val + a.val) q) _).trans ?_
  refine ind_congr ?_
  constructor
  · rintro (⟨q, h1, h2, h3⟩ | ⟨x, ⟨h1, h2⟩, h3⟩)
    · exact ⟨q, by omega, h2, h3⟩
    · refine ⟨1024 * t5.val + x.val, by have := x.isLt; omega, h2, ?_, ?_⟩
      · have h3' : J 0 x.val < half := h3
        rw [hJ _ x.isLt h2, ind_lt_half] at h3'; exact h3'
      · unfold ovr inter thr eps
        have e0 := hI0 _ x.isLt; have e1 := hI1 _ x.isLt; have e2 := hI2 _ x.isLt; have e3 := hI3 _ x.isLt
        have e4 := hI4 _ x.isLt
        rw [← e0, ← e1, ← e2, ← e3, ← e4]; exact h1
  · rintro ⟨q, h1, h2, h3, h4'⟩
    by_cases hq : q < 1024 * t5.val
    · exact Or.inl ⟨q, hq, h2, h3, h4'⟩
    · refine Or.inr ⟨⟨q - 1024 * t5.val, by omega⟩, ?_⟩
      have hq' : 1024 * t5.val + (q - 1024 * t5.val) = q := by omega
      have hb : q - 1024 * t5.val < 1024 := by omega
      refine ⟨⟨?_, ?_⟩, ?_⟩
      · unfold ovr inter thr eps at h4'
        have e0 := hI0 _ hb; have e1 := hI1 _ hb; have e2 := hI2 _ hb; have e3 := hI3 _ hb
        have e4 := hI4 _ hb
        rw [hq'] at e0 e1 e2 e3 e4
        rw [← e0, ← e1, ← e2, ← e3, ← e4] at h4'; exact h4'
      · show 1024 * t5.val + (q - 1024 * t5.val) < _
        rw [hq']; exact h2
      · show J 0 (q - 1024 * t5.val) < half
        rw [hJ _ hb (by rw [hq']; exact h2), hq', ind_lt_half]; exact h3

/-- The overlaps inside the tile. -/
theorem pay16_eq (B I J : ℕ → ℕ → EReal) (base : ℕ)
    (hI : ∀ r b, r < 4 → b < 128 → I r b = B r (base + b)) (hJ : ∀ b, b < 128 → J 0 b = area B (base + b)) :
    k0_pay16 (F := Ideal) (arr fun a _ => B 0 (base + a)) (arr fun a _ => B 1 (base + a)) (arr fun a _ => B 2 (base + a))
        (arr fun a _ => B 3 (base + a)) (arr fun a _ => area B (base + a)) (arr I) (arr J)
      = arr fun a b => tmat (ovr B) base a b := by
  refine ext_ix2 fun a b => ?_
  pointwise [k0_pay16]
  rw [cmp_slt _ _ (by norm_num) (by norm_num), andi_ofBool, sito_ofBool]
  simp only [arr_ix2]
  unfold tmat ovr inter thr eps
  refine ind_congr (and_congr ?_ Iff.rfl)
  have e0 := hI 0 _ (by norm_num) b.isLt; have e1 := hI 1 _ (by norm_num) b.isLt
  have e2 := hI 2 _ (by norm_num) b.isLt; have e3 := hI 3 _ (by norm_num) b.isLt
  have e4 := hJ _ b.isLt
  rw [← e0, ← e1, ← e2, ← e3, ← e4]; rfl

/-- What the iteration of a tile starts from. -/
theorem pay17_eq (B J : ℕ → ℕ → EReal) (base n : ℕ) (hn : base ≤ n)
    (hJ : ∀ b, b < 128 → J 0 b = ind (5000 ≤ base + b)) :
    k0_pay17 (F := Ideal) M4 (arr fun a _ => upto B base n a) (arr J) = arr fun a _ => tinit (ovr B) base a := by
  refine ext_ix2 fun a b => ?_
  pointwise [k0_pay17]
  simp only [M4, arr_ix2]
  rw [sum_ind_mul (fun x : Fin 128 => J b.val x) a, Fin.fin_one_eq_zero b, Fin.val_zero, hJ _ a.isLt]
  unfold upto tinit
  rw [max_ind]
  refine ind_congr (or_congr (exists_congr fun q => ?_) Iff.rfl)
  constructor
  · rintro ⟨-, h⟩; exact h
  · rintro ⟨h1, h⟩; exact ⟨by omega, h1, h⟩

/-- One step of the tile's iteration. -/
theorem pay3_eq (M I A : ℕ → ℕ → EReal) :
    k0_pay3 (F := Ideal) (arr M) (arr I) (arr A) = arr fun a b => tstep (fun r => I r b) M (fun r => A r b) a := by
  refine ext_ix2 fun a b => ?_
  pointwise [k0_pay3]
  rw [sito_ofBool]; rfl

/-- The word of a truth value is 1 when it holds. -/
theorem ofBool_decide_one (P : Prop) [Decidable P] : BitVec.ofBool (decide P) = 1#1 ↔ P := by
  by_cases h : P <;> simp [h]

/-- The tile's loop goes on while an entry changes. -/
theorem pay4_flag (M I A : ℕ → ℕ → EReal) :
    Scalar.cmpf .ogt (k0_pay4 (F := Ideal) (arr M) (arr I) (arr A)) (Scalar.ofBits .f32 0x00000000#32) = 1#1
      ↔ ∃ r, r < 128 ∧ tstep (fun r => I r 0) M (fun r => A r 0) r ≠ A r 0 := by
  unfold k0_pay4
  rw [pay3_eq]
  pointwise []
  rw [ofBool_decide_one, bot_bits]
  have hi : ∀ (P : Prop) [Decidable P], (if P then (1 : EReal) else 0) = ind P := fun P _ => by
    by_cases h : P
    · rw [if_pos h, ind_true h]
    · rw [if_neg h, ind_false h]
  refine (iff_of_eq (congrArg (fun z : EReal => 0 < z) ((Finset.fold_congr (g := fun x : Fin 128 × Fin 1 =>
    ind (tstep (fun r => I r 0) M (fun r => A r 0) x.1.val ≠ A x.1.val 0)) fun x _ => hi _).trans (fold_max_ind _)))).trans ?_
  constructor
  · intro h
    by_cases h' : ∃ x : Fin 128 × Fin 1, tstep (fun r => I r 0) M (fun r => A r 0) x.1 ≠ A x.1 0
    · obtain ⟨x, hx⟩ := h'; exact ⟨x.1, x.1.isLt, hx⟩
    · rw [ind_false h'] at h; exact absurd h (lt_irrefl _)
  · rintro ⟨r, hr, h⟩
    rw [ind_true ⟨(⟨r, hr⟩, 0), h⟩]; exact zero_lt_one

/-- The running count of the survivors of a tile. -/
theorem pay63_at (A C : ℕ → ℕ → EReal) (P : ℕ → Prop) (base : ℕ)
    (hA : ∀ b, b < 128 → A 0 b = ind (¬ P (base + b))) (hC : C 0 0 = ((cnt P base : ℕ) : EReal)) :
    k0_pay63 (F := Ideal) (arr C) (arr A) = arr fun _ b => ((cnt P (base + b + 1) : ℕ) : EReal) := by
  refine ext_ix2 fun a b => ?_
  pointwise [k0_pay63, k0_pay61]
  simp only [cmp_sle _ _ (show 128 ≤ 100000 by norm_num) (show 128 ≤ 100000 by norm_num), sito_ofBool]
  simp only [arr_ix2]
  rw [← cnt_window P base 128 b b.isLt, ← hC]
  refine congrArg₂ _ (Finset.sum_congr rfl fun x _ => ?_) rfl
  rw [Fin.fin_one_eq_zero a, Fin.val_zero, hA _ x.isLt, one_sub_ind, not_not]
/-- A tile of the running count of boxes alive. -/
theorem pay64_eq (A C : ℕ → ℕ → EReal) (P : ℕ → Prop) (base : ℕ)
    (hA : ∀ b, b < 128 → A 0 b = ind (¬ P (base + b))) (hC : C 0 0 = ((cnt P base : ℕ) : EReal)) :
    k0_pay64 (F := Ideal) (arr C) (arr A) = arr fun _ b => ((cnt P (base + b + 1) : ℕ) : EReal) := by
  refine ext_ix2 fun a b => ?_
  unfold k0_pay64
  rw [pay63_at A C P base hA hC]
  pointwise []
/-- The count carried to the next tile. -/
theorem pay65_eq (A C : ℕ → ℕ → EReal) (P : ℕ → Prop) (base : ℕ)
    (hA : ∀ b, b < 128 → A 0 b = ind (¬ P (base + b))) (hC : C 0 0 = ((cnt P base : ℕ) : EReal)) :
    k0_pay65 (F := Ideal) (arr C) (arr A) = arr fun _ _ => ((cnt P (base + 128) : ℕ) : EReal) := by
  refine ext_ix2 fun a b => ?_
  unfold k0_pay65
  rw [pay63_at A C P base hA hC]
  pointwise []
  rfl
/-- A tile of the running count of boxes not kept. -/
theorem pay70_eq (A C : ℕ → ℕ → EReal) (P : ℕ → Prop) (base : ℕ)
    (hA : ∀ b, b < 128 → A 0 b = ind (¬ P (base + b))) (hC : C 0 0 = ((cnt P base : ℕ) : EReal)) :
    k0_pay70 (F := Ideal) (arr C) (arr A) = arr fun _ b => ((cnt P (base + b + 1) : ℕ) : EReal) :=
  pay64_eq A C P base hA hC
/-- The count carried to the next tile. -/
theorem pay71_eq (A C : ℕ → ℕ → EReal) (P : ℕ → Prop) (base : ℕ)
    (hA : ∀ b, b < 128 → A 0 b = ind (¬ P (base + b))) (hC : C 0 0 = ((cnt P base : ℕ) : EReal)) :
    k0_pay71 (F := Ideal) (arr C) (arr A) = arr fun _ _ => ((cnt P (base + 128) : ℕ) : EReal) :=
  pay65_eq A C P base hA hC

/-- The survivors of one tile, marked at their own index. -/
theorem pay67_eq (A B C : ℕ → ℕ → EReal) (P : ℕ → Prop) (s : ℕ → ℕ) (base : ℕ)
    (hA : ∀ x, x < 128 → A x 0 = ((s (base + x) : ℕ) : EReal)) (hB : ∀ x, x < 128 → B 0 x = ind (P (base + x)))
    (hC : ∀ c, c < 5120 → C 0 c = ind (∃ p, p < base ∧ s p = c ∧ ¬ P p)) :
    k0_pay67 (F := Ideal) M4 R8 (arr A) (arr B) (arr C) = arr fun _ c => ind (∃ p, p < base + 128 ∧ s p = c ∧ ¬ P p) := by
  refine ext_ix2 fun a b => ?_
  pointwise [k0_pay67]
  rw [bot_bits]
  have h : ∀ x : Fin 128, ind (A x ((0 : Fin 1) : ℕ) = ((b.val : ℕ) : EReal)) * (∑ y : Fin 128, ind ((x : ℕ) = (y : ℕ)) * (1 - B ((0 : Fin 1) : ℕ) y))
      = ind (s (base + x) = b.val ∧ ¬ P (base + x)) := by
    intro x
    rw [sum_ind_mul (fun y : Fin 128 => 1 - B ((0 : Fin 1) : ℕ) y) x, Fin.val_zero, hB _ x.isLt, one_sub_ind, hA _ x.isLt, natCast_inj, ind_mul]
  refine (congrArg₂ max (show _ = ind (∃ p, p < base ∧ s p = b.val ∧ ¬ P p) from ?_)
    ((Finset.fold_congr fun x _ => (congrArg₂ (· * ·) (sito_ofBool _) rfl).trans (h x)).trans (fold_max_ind _))).trans ?_
  · rw [Fin.fin_one_eq_zero a]; exact hC _ b.isLt
  · rw [max_ind]
    refine ind_congr ?_
    constructor
    · rintro (⟨p, hp, h1⟩ | ⟨x, h1⟩)
      · exact ⟨p, by omega, h1⟩
      · exact ⟨base + x, by have := x.isLt; omega, h1⟩
    · rintro ⟨p, hp, h1⟩
      by_cases hq : p < base
      · exact Or.inl ⟨p, hq, h1⟩
      · refine Or.inr ⟨⟨p - base, by omega⟩, ?_⟩
        show s (base + (p - base)) = _ ∧ ¬ P (base + (p - base))
        rw [show base + (p - base) = p by omega]; exact h1

/-! ### The selection -/

section Select
variable (D R1 R3 R4 R5 V A7 A6 : ℕ → ℕ → EReal)
  (h1 : ∀ b, b < 5120 → R1 0 b = ind (sup D b))
  (h3 : ∀ b, b < 5120 → R3 0 b = ind (kp D b))
  (h4 : ∀ b, b < 5120 → R4 0 b = ((cnt (fun p => ¬ sup D p) (b + 1) : ℕ) : EReal))
  (h5 : ∀ b, b < 5120 → R5 0 b = ((cnt (fun c => ¬ kp D c) (b + 1) : ℕ) : EReal))
  (hV : V 0 0 = ((ktot D : ℕ) : EReal))
  (h7 : ∀ r b, r < 8 → b < 5120 → A7 r b = srt D r b)
  (h6 : ∀ r b, r < 8 → b < 5120 → A6 r b = D r b)

include h1 h4 h7 in
/-- The matrix that picks the kept box of a place, times the sorted table, is the part of the kept boxes. -/
theorem pay74_at : k0_pay74 (F := Ideal) (k0_pay72 (F := Ideal) C6 (arr R4)) (k0_pay73 (F := Ideal) (arr R1)) (arr A7)
    = arr fun k r => outP D k r := by
  refine ext_ix2 fun a b => ?_
  pointwise [k0_pay74, k0_pay72, k0_pay73]
  simp only [andi_ofBool, sito_ofBool]
  simp only [C6, arr_ix2]
  unfold outP
  refine Finset.sum_congr rfl fun x _ => ?_
  rw [h7 _ _ b.isLt x.isLt]
  refine congrArg (· * _) (ind_congr (and_congr ?_ ?_))
  · show half < 1 - R1 0 x.val ↔ _
    rw [h1 _ x.isLt, one_sub_ind, half_lt_ind]
  · show R4 0 x.val = _ ↔ _
    rw [h4 _ x.isLt]
    exact_mod_cast natCast_inj (b := a.val + 1)

/-- The place of a box not kept, as an equation of whole numbers. -/
theorem cond_Q (n t k : ℕ) : ((n : ℕ) : EReal) = (k : EReal) - (t : EReal) + 1 ↔ n + t = k + 1 := by
  rw [natCast_real, natCast_real, natCast_real, ← EReal.coe_one, ← EReal.coe_sub, ← EReal.coe_add, EReal.coe_eq_coe_iff]
  constructor
  · intro h
    have : (n : ℝ) + t = k + 1 := by linarith
    exact_mod_cast this
  · intro h
    have : (n : ℝ) + t = k + 1 := by exact_mod_cast h
    linarith

include h3 h5 hV h6 in
/-- The matrix that picks the box not kept of a place, times the table, is the part of the others. -/
theorem pay75_at : k0_pay75 (F := Ideal) C6 (arr V) (arr R3) (arr R5) (arr A6) = arr fun k r => outQ D k r := by
  refine ext_ix2 fun a b => ?_
  pointwise [k0_pay75]
  simp only [andi_ofBool, sito_ofBool]
  simp only [C6, arr_ix2]
  unfold outQ
  refine Finset.sum_congr rfl fun x _ => ?_
  rw [h6 _ _ b.isLt x.isLt]
  refine congrArg (· * _) (ind_congr (and_congr ?_ ?_))
  · show R3 0 x.val < half ↔ _
    rw [h3 _ x.isLt, ind_lt_half]
  · show R5 0 x.val = _ - V 0 0 + 1 ↔ _
    rw [h5 _ x.isLt, hV]
    exact cond_Q _ _ _

include h1 h3 h4 h5 hV h7 h6 in
/-- The corners of the boxes of the first places. -/
theorem pay76_eq : k0_pay76 (F := Ideal) C6 (arr V) (arr R3) (arr R5) (k0_pay72 (F := Ideal) C6 (arr R4)) (k0_pay73 (F := Ideal) (arr R1)) (arr A7) (arr A6)
    = arr fun k r => outP D k r + outQ D k r := by
  refine ext_ix2 fun a b => ?_
  unfold k0_pay76
  rw [pay74_at D R1 R4 A7 h1 h4 h7, pay75_at D R3 R5 V A6 h3 h5 hV h6]
  pointwise []
  rfl

/-- The scale of the scores of the boxes that do not survive. -/
def dim : EReal := Ideal.ofBits .f32 1008981770#32

include h1 h3 h4 h5 hV h7 h6 in
/-- Their scores, at an index. -/
theorem pay77_at (k : Fin 128) : k0_pay77 (F := Ideal) M4 C6 (arr V) (arr R3) (arr R5) (k0_pay72 (F := Ideal) C6 (arr R4)) (k0_pay73 (F := Ideal) (arr R1)) (arr A7) (arr A6)
      (Idealize.ShloMosaic.ix3 0 0 k) = outP D k 4 + dim * outQ D k 4 := by
  unfold k0_pay77
  rw [pay74_at D R1 R4 A7 h1 h4 h7, pay75_at D R3 R5 V A6 h3 h5 hV h6]
  pointwise []
  simp only [M4, arr_ix2]
  exact sum_mul_ind (fun x : Fin 128 => outP D x 4 + dim * outQ D x 4) k

include h1 h3 h4 h5 hV h7 h6 in
/-- Their labels, at an index. -/
theorem pay78_at (k : Fin 128) : k0_pay78 (F := Ideal) M4 C6 (arr V) (arr R3) (arr R5) (k0_pay72 (F := Ideal) C6 (arr R4)) (k0_pay73 (F := Ideal) (arr R1)) (arr A7) (arr A6)
      (Idealize.ShloMosaic.ix3 0 0 k) = FloatOps.fptosi (F := Ideal) (φ := .f32) 32 (Ideal.liftRound Ideal.roundHalfEven (outP D k 5 + outQ D k 5)) := by
  unfold k0_pay78
  rw [pay74_at D R1 R4 A7 h1 h4 h7, pay75_at D R3 R5 V A6 h3 h5 hV h6]
  pointwise []
  simp only [M4, arr_ix2]
  refine congrArg _ (congrArg _ ?_)
  exact sum_mul_ind (fun x : Fin 128 => outP D x 5 + outQ D x 5) k
end Select

/-- The corners written out, at an index. -/
theorem pay1_at (X : ℕ → ℕ → EReal) (r : Fin 4) (k : Fin 128) :
    k0_pay1 (F := Ideal) M4 (arr X) (Idealize.ShloMosaic.ix3 0 r k) = X k r := by
  pointwise [k0_pay1]
  simp only [M4, arr_ix2]
  exact sum_mul_ind (fun x : Fin 128 => X x r) k
/-- The four rows below the corners are zero. -/
theorem pay2_at (r : Fin 4) (k : Fin 128) : k0_pay2 (F := Ideal) (Idealize.ShloMosaic.ix3 0 r k) = 0 := by
  pointwise [k0_pay2]

end Cert.Proof.Nms

end
-- ==== Proof.Nms.Off.lean ====
/-
  The trip counts of the loops and the offsets of their windows, as natural numbers; and rows of a buffer overwritten
  from the left.
-/
module

public import proofs.«01_k».proof.Proof.Nms.Pay2
public import proofs.«01_k».proof.Proof.Nms.Mem
public import proofs.«01_k».proof.Proof.Gen.KernelIdeal.Loops

@[expose] public section

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ### Trip counts -/

/-- The loop that moves the scores and the labels runs over 40 tiles. -/
theorem trips1 : k0_t1_loop.trips = 40 := by decide +kernel
/-- The loop that ranks runs over 40 tiles. -/
theorem trips2 : k0_t2_loop.trips = 40 := by decide +kernel
/-- The loop that sorts runs over 40 tiles. -/
theorem trips3 : k0_t3_loop.trips = 40 := by decide +kernel
/-- The loop that suppresses runs over 40 tiles. -/
theorem trips4 : k0_t4_loop.trips = 40 := by decide +kernel
/-- The loop that counts the boxes alive runs over 40 tiles. -/
theorem trips7 : k0_t7_loop.trips = 40 := by decide +kernel
/-- The loop that maps the boxes alive back to their places runs over 40 tiles. -/
theorem trips8 : k0_t8_loop.trips = 40 := by decide +kernel
/-- The loop that counts the boxes not kept runs over 40 tiles. -/
theorem trips9 : k0_t9_loop.trips = 40 := by decide +kernel
/-- The chunk loop runs over at most five chunks, -/
theorem trips5_le : ∀ t : Fin k0_t4_loop.trips, (k0_t5_loop t).trips ≤ 5 := by decide +kernel
/-- which reach past every column before the tile; -/
theorem trips5_cover : ∀ t : Fin k0_t4_loop.trips, 128 * t.val ≤ 1024 * (k0_t5_loop t).trips := by decide +kernel
/-- its remainder loop never runs. -/
theorem trips6 : ∀ t : Fin k0_t4_loop.trips, (k0_t6_loop t).trips = 0 := by decide +kernel

/-! ### Offsets -/

/-- This access of tile `t` starts at row `128 t`. -/
theorem off1 : ∀ t : Fin k0_t1_loop.trips, k0_off1 t = ![128 * t.val, 0] := by decide +kernel
/-- This access of tile `t` starts at row 4, column `128 t`. -/
theorem off2 : ∀ t : Fin k0_t1_loop.trips, k0_off2 t = ![4, 128 * t.val] := by decide +kernel
/-- This access of tile `t` starts at row 4, column `128 t`. -/
theorem off3 : ∀ t : Fin k0_t2_loop.trips, k0_off3 t = ![4, 128 * t.val] := by decide +kernel
/-- This access of tile `t` starts at row 0, column `128 t`. -/
theorem off4 : ∀ t : Fin k0_t2_loop.trips, k0_off4 t = ![0, 128 * t.val] := by decide +kernel
/-- This access of tile `t` starts at row `128 t`. -/
theorem off5 : ∀ t : Fin k0_t3_loop.trips, k0_off5 t = ![128 * t.val, 0] := by decide +kernel
/-- This access of tile `t` starts at row 0, column `128 t`. -/
theorem off6 : ∀ t : Fin k0_t3_loop.trips, k0_off6 t = ![0, 128 * t.val] := by decide +kernel
/-- This access of tile `t` starts at row `128 t`. -/
theorem off7 : ∀ t : Fin k0_t4_loop.trips, k0_off7 t = ![128 * t.val, 0] := by decide +kernel
/-- Chunk `u` of an earlier pass starts at row 0, column `1024 u`. -/
theorem off8 : ∀ (t : Fin k0_t4_loop.trips) (u : Fin (k0_t5_loop t).trips), k0_off8 t u = ![0, 1024 * u.val] := by decide +kernel
/-- Chunk `u` of an earlier pass starts at row 1, column `1024 u`. -/
theorem off9 : ∀ (t : Fin k0_t4_loop.trips) (u : Fin (k0_t5_loop t).trips), k0_off9 t u = ![1, 1024 * u.val] := by decide +kernel
/-- Chunk `u` of an earlier pass starts at row 2, column `1024 u`. -/
theorem off10 : ∀ (t : Fin k0_t4_loop.trips) (u : Fin (k0_t5_loop t).trips), k0_off10 t u = ![2, 1024 * u.val] := by decide +kernel
/-- Chunk `u` of an earlier pass starts at row 3, column `1024 u`. -/
theorem off11 : ∀ (t : Fin k0_t4_loop.trips) (u : Fin (k0_t5_loop t).trips), k0_off11 t u = ![3, 1024 * u.val] := by decide +kernel
/-- Chunk `u` of an earlier pass starts at row 4, column `1024 u`. -/
theorem off12 : ∀ (t : Fin k0_t4_loop.trips) (u : Fin (k0_t5_loop t).trips), k0_off12 t u = ![4, 1024 * u.val] := by decide +kernel
/-- This access of tile `t` starts at row 0, column `128 t`. -/
theorem off18 : ∀ t : Fin k0_t4_loop.trips, k0_off18 t = ![0, 128 * t.val] := by decide +kernel
/-- This access of tile `t` starts at row 4, column `128 t`. -/
theorem off19 : ∀ t : Fin k0_t4_loop.trips, k0_off19 t = ![4, 128 * t.val] := by decide +kernel
/-- This access of tile `t` starts at row 1, column `128 t`. -/
theorem off20 : ∀ t : Fin k0_t4_loop.trips, k0_off20 t = ![1, 128 * t.val] := by decide +kernel
/-- This access of tile `t` starts at row 1, column `128 t`. -/
theorem off21 : ∀ t : Fin k0_t7_loop.trips, k0_off21 t = ![1, 128 * t.val] := by decide +kernel
/-- This access of tile `t` starts at row 4, column `128 t`. -/
theorem off22 : ∀ t : Fin k0_t7_loop.trips, k0_off22 t = ![4, 128 * t.val] := by decide +kernel
/-- This access of tile `t` starts at row `128 t`, column 6. -/
theorem off23 : ∀ t : Fin k0_t8_loop.trips, k0_off23 t = ![128 * t.val, 6] := by decide +kernel
/-- This access of tile `t` starts at row 1, column `128 t`. -/
theorem off24 : ∀ t : Fin k0_t8_loop.trips, k0_off24 t = ![1, 128 * t.val] := by decide +kernel
/-- This access of tile `t` starts at row 3, column `128 t`. -/
theorem off25 : ∀ t : Fin k0_t9_loop.trips, k0_off25 t = ![3, 128 * t.val] := by decide +kernel
/-- This access of tile `t` starts at row 5, column `128 t`. -/
theorem off26 : ∀ t : Fin k0_t9_loop.trips, k0_off26 t = ![5, 128 * t.val] := by decide +kernel

/-! ### A row overwritten from the left -/

/-- `A` with row `r` holding `f` at the columns below `n`. -/
def rowUpd {α : Type} (r n : ℕ) (f : ℕ → α) (A : ℕ → ℕ → α) : ℕ → ℕ → α := fun a b =>
  if a = r ∧ b < n then f b else A a b

/-- Updating no entry changes nothing. -/
theorem rowUpd_zero {α : Type} (r : ℕ) (f : ℕ → α) (A : ℕ → ℕ → α) : rowUpd r 0 f A = A := by
  funext a b; simp [rowUpd]

/-- An updated entry holds the new value. -/
theorem rowUpd_row {α : Type} (r n : ℕ) (f : ℕ → α) (A : ℕ → ℕ → α) (b : ℕ) (hb : b < n) : rowUpd r n f A r b = f b := by
  simp [rowUpd, hb]

/-- Other rows stay. -/
theorem rowUpd_ne {α : Type} (r n : ℕ) (f : ℕ → α) (A : ℕ → ℕ → α) (a b : ℕ) (ha : a ≠ r) : rowUpd r n f A a b = A a b := by
  simp [rowUpd, ha]

/-- Entries past the updated ones stay. -/
theorem rowUpd_ge {α : Type} (r n : ℕ) (f : ℕ → α) (A : ℕ → ℕ → α) (a b : ℕ) (hb : n ≤ b) : rowUpd r n f A a b = A a b := by
  unfold rowUpd; rw [if_neg]; omega

/-- One more block of the row. -/
theorem putA_row {α : Type} (r n w : ℕ) (f : ℕ → α) (W A : ℕ → ℕ → α) (hW : ∀ b, b < w → W 0 b = f (n + b)) :
    putA r n 1 w W (rowUpd r n f A) = rowUpd r (n + w) f A := by
  funext a b
  unfold putA rowUpd
  by_cases h : (r ≤ a ∧ a < r + 1) ∧ n ≤ b ∧ b < n + w
  · obtain ⟨⟨h1, h2⟩, h3, h4⟩ := h
    have ha : a = r := by omega
    subst ha
    rw [if_pos ⟨⟨h1, h2⟩, h3, h4⟩, if_pos ⟨rfl, h4⟩, Nat.sub_self, hW _ (by omega)]
    congr 1; omega
  · rw [if_neg h]
    by_cases h' : a = r ∧ b < n
    · rw [if_pos h', if_pos ⟨h'.1, by omega⟩]
    · rw [if_neg h', if_neg (by omega)]

/-- A whole row put at once. -/
theorem putA_row_full {α : Type} (r w : ℕ) (f : ℕ → α) (W A : ℕ → ℕ → α) (hW : ∀ b, b < w → W 0 b = f b) :
    putA r 0 1 w W A = rowUpd r w f A := by
  have h := putA_row r 0 w f W A (fun b hb => by rw [hW b hb, Nat.zero_add])
  rwa [rowUpd_zero, Nat.zero_add] at h

end Cert.Proof.Nms

end
-- ==== Proof.Nms.Label.lean ====
/-
  The while loop that settles one tile: its label called on an approximation of the tile's suppression vector returns
  the vector itself. By induction on the number of trips left: after a trip one more box is settled, and the loop stops
  only at a fixed point, which is the suppression vector.
-/
module

public import proofs.«01_k».proof.Proof.Nms.Pay2
public import proofs.«01_k».proof.Proof.Nms.Mem
public import proofs.«01_k».proof.Proof.Gen.KernelIdeal.Loops

@[expose] public section

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- Calls are bounded by natural numbers. -/
abbrev 𝒱₀ : Variants := Variants.nat

variable (c : Dev nD) (O : ℕ → ℕ → Prop) (base : ℕ)

/-- What a call of the label promises: the carried vector it returns is the tile's suppression vector. -/
def lspec : sWPT 𝕄 (FVec Ideal S128x1 .f32 × BitVec 1) := do
  let r ← sWPT.arbitrary
  sWPT.assume (r.1 = arr fun a _ => ind (supp O (base + a)))
  pure r

/-- What the specification of the tile's loop asks of a continuation. -/
theorem lspec_apply (K : FVec Ideal S128x1 .f32 × BitVec 1 → sProp 𝕄) :
    lspec O base K = iprop(∀ r : FVec Ideal S128x1 .f32 × BitVec 1, ⌜r.1 = arr fun a _ => ind (supp O (base + a))⌝ -∗ K r) := rfl

/-- The label meets its promise. -/
theorem lspec_le (E : Set ℕ) (i : grid0.Coords) (t4 : Fin k0_t4_loop.trips) :
    ∀ (k : ℕ) (A : ℕ → ℕ → EReal) (flag : BitVec 1),
      (flag = 1#1 → 1 ≤ k ∧ ∀ r, r < 128 → r + k ≤ 129 → A r 0 = ind (supp O (base + r))) →
      (flag ≠ 1#1 → ∀ r, r < 128 → A r 0 = ind (supp O (base + r))) →
      ∀ K, lspec O base K
        ⊢ wp frame (wpE (defs₀ (F := Ideal)) 𝒱₀ (c : Thread nD τ) (some k)) E
          (defs₀ (F := Ideal) .tc 1 ⟨i, t4, arr fun a b => tmat O base a b, arr fun a _ => tinit O base a, arr A, flag⟩) K := by
  intro k
  induction k with
  | zero =>
    intro A flag h1 h2 K
    have hf : ¬ flag = 1#1 := fun h => absurd (h1 h).1 (by omega)
    rw [lspec_apply]
    show _ ⊢ wp frame (wpE (defs₀ (F := Ideal)) 𝒱₀ (c : Thread nD τ) (some 0)) E
      (cc0_while1 i t4 (arr fun a b => tmat O base a b) (arr fun a _ => tinit O base a) (arr A) flag) K
    simp only [cc0_while1_eq_skeleton]; unfold cc0_while1_skel
    simp only [hf, ↓reduceIte, Prog.pure_eq_ret]
    iintro Hk
    rw [wp_ret]; imodintro
    iapply Hk
    ipureintro
    exact arr_congr fun a b ha hb => by
      have : b = 0 := by omega
      subst this; exact h2 hf a ha
  | succ k ih =>
    intro A flag h1 h2 K
    rw [lspec_apply]
    show _ ⊢ wp frame (wpE (defs₀ (F := Ideal)) 𝒱₀ (c : Thread nD τ) (some (k + 1))) E
      (cc0_while1 i t4 (arr fun a b => tmat O base a b) (arr fun a _ => tinit O base a) (arr A) flag) K
    simp only [cc0_while1_eq_skeleton]; unfold cc0_while1_skel
    by_cases hf : flag = 1#1
    · simp only [hf, ↓reduceIte, Prog.lift, Prog.bind_op, Prog.bind_ret, Prog.pure_eq_ret]
      obtain ⟨-, hA⟩ := h1 hf
      iintro Hk
      have hflag := pay4_flag (fun a b => tmat O base a b) (fun a _ => tinit O base a) A
      rw [pay3_eq]
      have hstep : ∀ r, r < 128 → r + k ≤ 129 → tstep (tinit O base) (tmat O base) (fun r => A r 0) r = ind (supp O (base + r)) :=
        fun r hr hk => tstep_right O base _ r hr fun j hj => hA j (by omega) (by omega)
      generalize Scalar.cmpf .ogt (k0_pay4 (F := Ideal) (arr fun a b => tmat O base a b) (arr fun a _ => tinit O base a) (arr A))
        (Scalar.ofBits .f32 0x00000000#32) = fl at hflag ⊢
      have g1 : fl = 1#1 → 1 ≤ k ∧ ∀ r, r < 128 → r + k ≤ 129 → tstep (tinit O base) (tmat O base) (fun r => A r 0) r = ind (supp O (base + r)) := by
        intro hfl
        refine ⟨?_, hstep⟩
        obtain ⟨r, hr, hne⟩ := hflag.1 hfl
        by_contra h0
        have hk0 : k = 0 := by omega
        subst hk0
        exact hne ((hstep r hr (by omega)).trans (hA r hr (by omega)).symm)
      have g2 : fl ≠ 1#1 → ∀ r, r < 128 → tstep (tinit O base) (tmat O base) (fun r => A r 0) r = ind (supp O (base + r)) := by
        intro hfl
        have hfix : ∀ r, r < 128 → tstep (tinit O base) (tmat O base) (fun r => A r 0) r = A r 0 := by
          intro r hr
          by_contra hne
          exact hfl (hflag.2 ⟨r, hr, hne⟩)
        intro r hr
        exact (hfix r hr).trans (tstep_fix O base (fun r => A r 0) hfix r hr)
      iapply (wp_call_spec 𝒱₀ (c : Thread nD τ) (some (k + 1)) E (lspec O base) k
        (fun u hu => by cases hu; exact Nat.lt_succ_self k)
        (ih (fun a b => tstep (fun r => tinit O base r) (fun a b => tmat O base a b) (fun r => A r b) a) fl g1 g2))
      rw [lspec_apply]
      iintro %r %hr
      rw [wp_ret]; imodintro
      iapply Hk
      ipureintro; exact hr
    · simp only [hf, ↓reduceIte, Prog.pure_eq_ret]
      iintro Hk
      rw [wp_ret]; imodintro
      iapply Hk
      ipureintro
      exact arr_congr fun a b ha hb => by
        have : b = 0 := by omega
        subst this; exact h2 hf a ha

end Cert.Proof.Nms

end
-- ==== Proof.Nms.Loops1.lean ====
/-
  The first three loops: the scores and labels moved into rows of the box table, the rank of every box, and the table
  gathered into rank order, once by rows and once by columns.
-/
module

public import proofs.«01_k».proof.Proof.Nms.Off
public import proofs.«01_k».proof.Proof.Nms.Label

@[expose] public section

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section

variable (c : Dev nD) (i : grid0.Coords) (arg1 : Memref sig .tc .vmem S1x5120x128 .f32) (harg1 : arg1.IsWhole) (arg2 : Memref sig .tc .vmem S1x8x5120 .f32) (harg2 : arg2.IsWhole)
  (arg3 : Memref sig .tc .vmem S1x1x128 .f32) (harg3 : arg3.IsWhole) (arg4 : Memref sig .tc .vmem S1x1x128 .i32) (harg4 : arg4.IsWhole)
  (arg5 : Memref sig .tc .vmem S1x8x128 .f32) (harg5 : arg5.IsWhole) (arg6 : Memref sig .tc .vmem S8x5120 .f32) (harg6 : arg6.IsWhole)
  (arg7 : Memref sig .tc .vmem S8x5120 .f32) (harg7 : arg7.IsWhole) (arg8 : Memref sig .tc .vmem S5120x8 .f32) (harg8 : arg8.IsWhole)
  (arg9 : Memref sig .tc .vmem S8x5120 .f32) (harg9 : arg9.IsWhole) (arg10 : Memref sig .tc .vmem S5120x8 .f32) (harg10 : arg10.IsWhole)
  (arg11 : Memref sig .tc .vmem S8x5120 .f32) (harg11 : arg11.IsWhole)

/-- One trip of the loop that moves the scores and the labels. -/
def moved (k : ℕ) (X A : ℕ → ℕ → EReal) : ℕ → ℕ → EReal := fun r b =>
  if (r = 4 ∨ r = 5) ∧ b < 128 * k then X b (r - 4) else A r b

/-- The loop that moves the scores and the labels into rows 4 and 5 of the box table. -/
theorem t1_loop (X A D : ℕ → ℕ → EReal) (v58 v80 : FVec Ideal S1x5120 .f32)
    (hX : ∀ b, b < 5120 → X b 0 = D 4 b ∧ X b 1 = D 5 b) (hA : ∀ r b, r < 8 → r ≠ 4 → r ≠ 5 → b < 5120 → A r b = D r b)
    (Q : Unit → sProp 𝕄) :
    iprop(owns (c : Thread nD τ) arg10 fullShare (arr X) ∗ owns (c : Thread nD τ) arg6 fullShare (arr A)
      ∗ (owns (c : Thread nD τ) arg10 fullShare (arr X) -∗ owns (c : Thread nD τ) arg6 fullShare (arr D) -∗ Q ()))
      ⊢ wp frame (wpE (defs₀ (F := Ideal)) 𝒱₀ (c : Thread nD τ) none) Set.univ
          (Scf.Loop.for k0_t1_loop k0_t1_ok ⟨⟩ (k0_t1_body (F := Ideal) i arg1 harg1 arg2 harg2 arg3 harg3 arg4 harg4 arg5 harg5 arg6 harg6 arg7 harg7 arg8 harg8 arg9 harg9 arg10 harg10 arg11 harg11 M4 C6 R8 v58 v80)) Q := by
  iintro ⟨H10, H6, Hk⟩
  iapply (Scf.wp_for frame (wpE (defs₀ (F := Ideal)) 𝒱₀ (c : Thread nD τ) none) Set.univ _ _ _ k0_t1_ok _ _
    (I := fun k _ => iprop(owns (c : Thread nD τ) arg10 fullShare (arr X) ∗ owns (c : Thread nD τ) arg6 fullShare (arr (moved k X A)))) ?_)
  · intro t acc
    unfold k0_t1_body
    simp only [Prog.lift, Prog.bind_op, Prog.bind_ret, Prog.pure_eq_ret]
    have ht : t.val < 40 := by have := t.isLt; have e : Scf.trips k0_t1_loop.lb k0_t1_loop.ub k0_t1_loop.st = 40 := trips1; omega
    iintro ⟨H10, H6⟩
    iapply (wp_ld 𝒱₀ (c : Thread nD τ) none Set.univ _ _ (off1 t)) $$ H10; iintro H10
    iapply (wp_ld_any 𝒱₀ (c : Thread nD τ) none Set.univ) $$ H6; iintro %v H6
    iapply (wp_st 𝒱₀ (c : Thread nD τ) none Set.univ _ _ (off2 t) _ (pay41_eq _)) $$ H6; iintro H6
    rw [wp_ret]; imodintro
    isplitl [H10]; · iexact H10
    rw [show (arr (R := 8) (C := 5120) (moved (t.val + 1) X A)) = arr (putA 4 (128 * t.val) 2 128 (fun a b => X (128 * t.val + b) (0 + a)) (moved t.val X A)) from
      arr_congr fun a b ha hb => by
        simp only [moved, putA]
        split_ifs <;> first | rfl | (exfalso; omega) | (congr 1 <;> omega)]
    iexact H6
  · isplitl [H10 H6]
    · isplitl [H10]; · iexact H10
      rw [show moved 0 X A = A from by funext r b; simp [moved]]
      iexact H6
    · iintro %acc ⟨H10, H6⟩
      iapply Hk $$ H10
      have e : Scf.trips k0_t1_loop.lb k0_t1_loop.ub k0_t1_loop.st = 40 := trips1
      rw [e, show (arr (R := 8) (C := 5120) (moved 40 X A)) = arr D from arr_congr fun r b hr hb => by
        simp only [moved]
        split_ifs with h
        · rcases h.1 with rfl | rfl
          · exact (hX b hb).1
          · exact (hX b hb).2
        · exact hA r b hr (by omega) (by omega) hb]
      iexact H6

/-- The loop that ranks the boxes. -/
theorem t2_loop (A D : ℕ → ℕ → EReal) (v58 v80 : FVec Ideal S1x5120 .f32) (Q : Unit → sProp 𝕄) :
    iprop(owns (c : Thread nD τ) arg6 fullShare (arr D) ∗ owns (c : Thread nD τ) arg9 fullShare (arr A)
      ∗ (owns (c : Thread nD τ) arg6 fullShare (arr D)
        -∗ owns (c : Thread nD τ) arg9 fullShare (arr (rowUpd 0 5120 (fun p => ((rank (D 4) p : ℕ) : EReal)) A)) -∗ Q ()))
      ⊢ wp frame (wpE (defs₀ (F := Ideal)) 𝒱₀ (c : Thread nD τ) none) Set.univ
          (Scf.Loop.for k0_t2_loop k0_t2_ok ⟨⟩ (k0_t2_body (F := Ideal) i arg1 harg1 arg2 harg2 arg3 harg3 arg4 harg4 arg5 harg5 arg6 harg6 arg7 harg7 arg8 harg8 arg9 harg9 arg10 harg10 arg11 harg11 M4 C6 R8 v58 v80 (arr fun a b => D (4 + a) (0 + b)))) Q := by
  iintro ⟨H6, H9, Hk⟩
  iapply (Scf.wp_for frame (wpE (defs₀ (F := Ideal)) 𝒱₀ (c : Thread nD τ) none) Set.univ _ _ _ k0_t2_ok _ _
    (I := fun k _ => iprop(owns (c : Thread nD τ) arg6 fullShare (arr D)
      ∗ owns (c : Thread nD τ) arg9 fullShare (arr (rowUpd 0 (128 * k) (fun p => ((rank (D 4) p : ℕ) : EReal)) A)))) ?_)
  · intro t acc
    unfold k0_t2_body
    simp only [Prog.lift, Prog.bind_op, Prog.bind_ret, Prog.pure_eq_ret]
    have ht : t.val < 40 := by have := t.isLt; have e : Scf.trips k0_t2_loop.lb k0_t2_loop.ub k0_t2_loop.st = 40 := trips2; omega
    iintro ⟨H6, H9⟩
    iapply (wp_ld 𝒱₀ (c : Thread nD τ) none Set.univ _ _ (off3 t)) $$ H6; iintro H6
    iapply (wp_ld_any 𝒱₀ (c : Thread nD τ) none Set.univ) $$ H9; iintro %v H9
    iapply (wp_st 𝒱₀ (c : Thread nD τ) none Set.univ _ _ (off4 t) _ (pay42_eq t ht _ _ (D 4) (fun b hb => by rw [Nat.zero_add])
      (fun b hb => rfl))) $$ H9; iintro H9
    rw [wp_ret]; imodintro
    isplitl [H6]; · iexact H6
    rw [putA_row 0 (128 * t.val) 128 (fun p => ((rank (D 4) p : ℕ) : EReal)) (fun _ b => ((rank (D 4) (128 * t.val + b) : ℕ) : EReal)) _ (fun b hb => rfl),
      show 128 * t.val + 128 = 128 * (t.val + 1) from by omega]
    iexact H9
  · isplitl [H6 H9]
    · isplitl [H6]; · iexact H6
      rw [Nat.mul_zero, rowUpd_zero]
      iexact H9
    · iintro %acc ⟨H6, H9⟩
      iapply Hk $$ H6
      have e : Scf.trips k0_t2_loop.lb k0_t2_loop.ub k0_t2_loop.st = 40 := trips2
      rw [e]
      iexact H9

/-- The table in rank order, the first `128 k` ranks of it. -/
def gath7 (k : ℕ) (D A : ℕ → ℕ → EReal) : ℕ → ℕ → EReal := fun r p => if p < 128 * k then srt D r p else A r p
/-- The sorted table after `k` tiles: the boxes of the first `128 k` ranks, then what was there. -/
def gath8 (k : ℕ) (D A : ℕ → ℕ → EReal) : ℕ → ℕ → EReal := fun p r => if p < 128 * k then srt D r p else A p r

/-- The loop that gathers the table into rank order. -/
theorem t3_loop (D A7 A8 R : ℕ → ℕ → EReal) (hR : ∀ b, b < 5120 → R 0 b = ((rank (D 4) b : ℕ) : EReal))
    (v58 v80 : FVec Ideal S1x5120 .f32) (Q : Unit → sProp 𝕄) :
    iprop(owns (c : Thread nD τ) arg6 fullShare (arr D) ∗ owns (c : Thread nD τ) arg7 fullShare (arr A7) ∗ owns (c : Thread nD τ) arg8 fullShare (arr A8)
      ∗ (owns (c : Thread nD τ) arg6 fullShare (arr D) -∗ owns (c : Thread nD τ) arg7 fullShare (arr (srt D))
        -∗ owns (c : Thread nD τ) arg8 fullShare (arr fun p r => srt D r p) -∗ Q ()))
      ⊢ wp frame (wpE (defs₀ (F := Ideal)) 𝒱₀ (c : Thread nD τ) none) Set.univ
          (Scf.Loop.for k0_t3_loop k0_t3_ok ⟨⟩ (k0_t3_body (F := Ideal) i arg1 harg1 arg2 harg2 arg3 harg3 arg4 harg4 arg5 harg5 arg6 harg6 arg7 harg7 arg8 harg8 arg9 harg9 arg10 harg10 arg11 harg11 M4 C6 R8 v58 v80 (arr R))) Q := by
  iintro ⟨H6, H7, H8, Hk⟩
  iapply (Scf.wp_for frame (wpE (defs₀ (F := Ideal)) 𝒱₀ (c : Thread nD τ) none) Set.univ _ _ _ k0_t3_ok _ _
    (I := fun k _ => iprop(owns (c : Thread nD τ) arg6 fullShare (arr D)
      ∗ owns (c : Thread nD τ) arg7 fullShare (arr (gath7 k D A7)) ∗ owns (c : Thread nD τ) arg8 fullShare (arr (gath8 k D A8)))) ?_)
  · intro t acc
    unfold k0_t3_body
    simp only [Prog.lift, Prog.bind_op, Prog.bind_ret, Prog.pure_eq_ret]
    have ht : t.val < 40 := by have := t.isLt; have e : Scf.trips k0_t3_loop.lb k0_t3_loop.ub k0_t3_loop.st = 40 := trips3; omega
    iintro ⟨H6, H7, H8⟩
    iapply (wp_ld_full 𝒱₀ (c : Thread nD τ) none Set.univ) $$ H6; iintro H6
    iapply (wp_ld_any 𝒱₀ (c : Thread nD τ) none Set.univ) $$ H8; iintro %v H8
    iapply (wp_st 𝒱₀ (c : Thread nD τ) none Set.univ _ _ (off5 t) _ (pay44_eq t ht _ _ D hR (fun r b hr hb => rfl))) $$ H8; iintro H8
    iapply (wp_ld_any 𝒱₀ (c : Thread nD τ) none Set.univ) $$ H7; iintro %v' H7
    iapply (wp_st 𝒱₀ (c : Thread nD τ) none Set.univ _ _ (off6 t) _ (pay45_eq t ht _ _ D hR (fun r b hr hb => rfl))) $$ H7; iintro H7
    rw [wp_ret]; imodintro
    isplitl [H6]; · iexact H6
    isplitl [H7]
    · rw [show (arr (R := 8) (C := 5120) (gath7 (t.val + 1) D A7)) = arr (putA 0 (128 * t.val) 8 128 (fun r p => srt D r (128 * t.val + p)) (gath7 t.val D A7)) from
        arr_congr fun a b ha hb => by
          simp only [gath7, putA]
          split_ifs <;> first | rfl | (exfalso; omega) | (congr 1 <;> omega)]
      iexact H7
    · rw [show (arr (R := 5120) (C := 8) (gath8 (t.val + 1) D A8)) = arr (putA (128 * t.val) 0 128 8 (fun a r => srt D r (128 * t.val + a)) (gath8 t.val D A8)) from
        arr_congr fun a b ha hb => by
          simp only [gath8, putA]
          split_ifs <;> first | rfl | (exfalso; omega) | (congr 1 <;> omega)]
      iexact H8
  · isplitl [H6 H7 H8]
    · isplitl [H6]; · iexact H6
      rw [show gath7 0 D A7 = A7 from by funext r b; simp [gath7], show gath8 0 D A8 = A8 from by funext r b; simp [gath8]]
      isplitl [H7]; · iexact H7
      iexact H8
    · iintro %acc ⟨H6, H7, H8⟩
      have e : Scf.trips k0_t3_loop.lb k0_t3_loop.ub k0_t3_loop.st = 40 := trips3
      rw [e, show (arr (R := 8) (C := 5120) (gath7 40 D A7)) = arr (srt D) from arr_congr fun r b hr hb => by
        unfold gath7; rw [if_pos (by omega)],
        show (arr (R := 5120) (C := 8) (gath8 40 D A8)) = arr (fun p r => srt D r p) from arr_congr fun r b hr hb => by
        unfold gath8; rw [if_pos (by omega)]]
      iapply Hk $$ H6 H7 H8

end

end Cert.Proof.Nms

end
-- ==== Proof.Nms.Loops2.lean ====
/-
  The suppression loop: tile by tile, in rank order, the boxes are tested against the surviving boxes of the earlier
  tiles, chunk by chunk, and then against each other until nothing changes.
-/
module

public import proofs.«01_k».proof.Proof.Nms.Off
public import proofs.«01_k».proof.Proof.Nms.Label

@[expose] public section

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section

variable (c : Dev nD) (i : grid0.Coords) (arg1 : Memref sig .tc .vmem S1x5120x128 .f32) (harg1 : arg1.IsWhole) (arg2 : Memref sig .tc .vmem S1x8x5120 .f32) (harg2 : arg2.IsWhole)
  (arg3 : Memref sig .tc .vmem S1x1x128 .f32) (harg3 : arg3.IsWhole) (arg4 : Memref sig .tc .vmem S1x1x128 .i32) (harg4 : arg4.IsWhole)
  (arg5 : Memref sig .tc .vmem S1x8x128 .f32) (harg5 : arg5.IsWhole) (arg6 : Memref sig .tc .vmem S8x5120 .f32) (harg6 : arg6.IsWhole)
  (arg7 : Memref sig .tc .vmem S8x5120 .f32) (harg7 : arg7.IsWhole) (arg8 : Memref sig .tc .vmem S5120x8 .f32) (harg8 : arg8.IsWhole)
  (arg9 : Memref sig .tc .vmem S8x5120 .f32) (harg9 : arg9.IsWhole) (arg10 : Memref sig .tc .vmem S5120x8 .f32) (harg10 : arg10.IsWhole)
  (arg11 : Memref sig .tc .vmem S8x5120 .f32) (harg11 : arg11.IsWhole)

section Tile

variable (t : Fin k0_t4_loop.trips) (B Bx A9 : ℕ → ℕ → EReal)
  (hB : ∀ r b, r < 4 → b < 5120 → Bx r b = B r b) (hB4 : ∀ b, b < 5120 → Bx 4 b = area B b)
  (hA : ∀ b, b < 128 * t.val → A9 1 b = ind (supp (ovr B) b))

include hB hB4 hA in
/-- The tile's boxes against the survivors among the earlier columns. -/
theorem t5_loop (v263 : BitVec 32) (Q : FVec Ideal S128x1 .f32 → sProp 𝕄) :
    iprop(owns (c : Thread nD τ) arg11 fullShare (arr Bx) ∗ owns (c : Thread nD τ) arg9 fullShare (arr A9)
      ∗ (owns (c : Thread nD τ) arg11 fullShare (arr Bx) -∗ owns (c : Thread nD τ) arg9 fullShare (arr A9)
        -∗ Q (arr fun a _ => upto B (128 * t.val) (1024 * (k0_t5_loop t).trips) a)))
      ⊢ wp frame (wpE (defs₀ (F := Ideal)) 𝒱₀ (c : Thread nD τ) none) Set.univ
          (Scf.Loop.for (k0_t5_loop t) (k0_t5_ok t) (k0_pay13 (F := Ideal)) (k0_t5_body (F := Ideal) i arg1 harg1 arg2 harg2 arg3 harg3 arg4 harg4 arg5 harg5 arg6 harg6 arg7 harg7 arg8 harg8 arg9 harg9 arg10 harg10 arg11 harg11 M4
            (iota .tc S1x1024 32 [1] iota_S1x1024_d1_w32) t (Scalar.muli (Scf.iv 0#32 1#32 t.val) 128#32)
            (arr fun a _ => B 0 (128 * t.val + a)) (arr fun a _ => B 1 (128 * t.val + a)) (arr fun a _ => B 2 (128 * t.val + a))
            (arr fun a _ => B 3 (128 * t.val + a)) (arr fun a _ => area B (128 * t.val + a)) (k0_pay13 (F := Ideal)) 0#32 v263 1#32)) Q := by
  have ht : t.val < 40 := by have := t.isLt; have e := trips4; omega
  iintro ⟨H11, H9, Hk⟩
  iapply (Scf.wp_for frame (wpE (defs₀ (F := Ideal)) 𝒱₀ (c : Thread nD τ) none) Set.univ _ _ _ (k0_t5_ok t) _ _
    (I := fun k acc => iprop(⌜acc = arr fun a _ => upto B (128 * t.val) (1024 * k) a⌝ ∗ owns (c : Thread nD τ) arg11 fullShare (arr Bx)
      ∗ owns (c : Thread nD τ) arg9 fullShare (arr A9))) ?_)
  · intro u acc
    have hu : u.val < 5 := lt_of_lt_of_le u.isLt (trips5_le t)
    unfold k0_t5_body
    simp only [k0_part1_eq_skeleton]; unfold k0_part1_skel
    simp only [Prog.lift, Prog.bind_op, Prog.bind_ret, Prog.pure_eq_ret]
    iintro ⟨%hacc, H11, H9⟩
    subst hacc
    iapply (wp_ld 𝒱₀ (c : Thread nD τ) none Set.univ _ _ (off8 t u)) $$ H11; iintro H11
    iapply (wp_ld 𝒱₀ (c : Thread nD τ) none Set.univ _ _ (off9 t u)) $$ H11; iintro H11
    iapply (wp_ld 𝒱₀ (c : Thread nD τ) none Set.univ _ _ (off10 t u)) $$ H11; iintro H11
    iapply (wp_ld 𝒱₀ (c : Thread nD τ) none Set.univ _ _ (off11 t u)) $$ H11; iintro H11
    iapply (wp_ld 𝒱₀ (c : Thread nD τ) none Set.univ _ _ (off12 t u)) $$ H11; iintro H11
    iapply (wp_ld 𝒱₀ (c : Thread nD τ) none Set.univ _ _ (off9 t u)) $$ H9; iintro H9
    rw [wp_ret]; imodintro
    isplitr
    · ipureintro
      exact pay14_eq t u ht hu B _ _ _ _ _ _ (fun b hb => hB 0 _ (by norm_num) (by omega)) (fun b hb => hB 1 _ (by norm_num) (by omega))
        (fun b hb => hB 2 _ (by norm_num) (by omega)) (fun b hb => hB 3 _ (by norm_num) (by omega)) (fun b hb => hB4 _ (by omega))
        (fun b hb hlt => hA _ hlt)
    isplitl [H11]; · iexact H11
    iexact H9
  · isplitl [H11 H9]
    · isplitr
      · ipureintro
        rw [pay13_eq]
        refine arr_congr fun a b ha hb => ?_
        unfold upto
        rw [ind_false]
        rintro ⟨q, hq, -⟩; omega
      isplitl [H11]; · iexact H11
      iexact H9
    · iintro %acc ⟨%hacc, H11, H9⟩
      rw [hacc]
      iapply Hk $$ H11 H9

include hB hB4 hA in
/-- One tile settled. -/
theorem part4_wp (hA' : ∀ b, b < 128 → A9 1 (128 * t.val + b) = ind (5000 ≤ 128 * t.val + b)) (v263 : BitVec 32) (Q : _ → sProp 𝕄) :
    iprop(owns (c : Thread nD τ) arg11 fullShare (arr Bx) ∗ owns (c : Thread nD τ) arg9 fullShare (arr A9)
      ∗ (owns (c : Thread nD τ) arg11 fullShare (arr Bx) -∗ owns (c : Thread nD τ) arg9 fullShare (arr A9)
        -∗ Q ⟨arr fun a _ => ind (supp (ovr B) (128 * t.val + a)), constant S1x128 .f32 0x00000000#32⟩))
      ⊢ wp frame (wpE (defs₀ (F := Ideal)) 𝒱₀ (c : Thread nD τ) none) Set.univ
          (k0_part4 (F := Ideal) i arg1 harg1 arg2 harg2 arg3 harg3 arg4 harg4 arg5 harg5 arg6 harg6 arg7 harg7 arg8 harg8 arg9 harg9 arg10 harg10 arg11 harg11 M4
            (iota .tc S1x1024 32 [1] iota_S1x1024_d1_w32) t (Scalar.muli (Scf.iv 0#32 1#32 t.val) 128#32)
            (arr fun a _ => B 0 (128 * t.val + a)) (arr fun a _ => B 1 (128 * t.val + a)) (arr fun a _ => B 2 (128 * t.val + a))
            (arr fun a _ => B 3 (128 * t.val + a)) (arr fun a _ => area B (128 * t.val + a)) (k0_pay13 (F := Ideal)) 0#32 v263 1#32) Q := by
  have ht : t.val < 40 := by have := t.isLt; have e := trips4; omega
  simp only [k0_part4_eq_skeleton]; unfold k0_part4_skel
  rw [wp_bind]
  iintro ⟨H11, H9, Hk⟩
  iapply (t5_loop c i arg1 harg1 arg2 harg2 arg3 harg3 arg4 harg4 arg5 harg5 arg6 harg6 arg7 harg7 arg8 harg8 arg9 harg9 arg10 harg10 arg11 harg11 t B Bx A9 hB hB4 hA v263)
  isplitl [H11]; · iexact H11
  isplitl [H9]; · iexact H9
  iintro H11 H9
  rw [wp_bind]
  iapply (Scf.wp_for frame (wpE (defs₀ (F := Ideal)) 𝒱₀ (c : Thread nD τ) none) Set.univ _ _ _ (k0_t6_ok t) _ _
    (I := fun k acc => iprop(⌜acc = arr fun a _ => upto B (128 * t.val) (1024 * (k0_t5_loop t).trips) a⌝)) ?_)
  · intro u acc
    have := u.isLt
    have e : Scf.trips (k0_t6_loop t).lb (k0_t6_loop t).ub (k0_t6_loop t).st = 0 := trips6 t
    omega
  isplitr
  · ipureintro; rfl
  iintro %acc %hacc
  subst hacc
  simp only [Prog.lift, Prog.bind_op, Prog.bind_ret, Prog.pure_eq_ret]
  iapply (wp_ld 𝒱₀ (c : Thread nD τ) none Set.univ _ _ (off18 t)) $$ H11; iintro H11
  iapply (wp_ld 𝒱₀ (c : Thread nD τ) none Set.univ _ _ (off19 t)) $$ H11; iintro H11
  iapply (wp_ld 𝒱₀ (c : Thread nD τ) none Set.univ _ _ (off20 t)) $$ H9; iintro H9
  rw [pay17_eq B _ (128 * t.val) _ (trips5_cover t) (fun b hb => hA' b hb),
    pay16_eq B _ _ (128 * t.val) (fun r b hr hb => (congrArg (fun r => Bx r (128 * t.val + b)) (Nat.zero_add r)).trans (hB r _ hr (by omega)))
      (fun b hb => hB4 _ (by omega))]
  iapply (wp_call_spec 𝒱₀ (c : Thread nD τ) none Set.univ (lspec (ovr B) (128 * t.val)) 130 (fun u hu => nomatch hu)
    (lspec_le c (ovr B) (128 * t.val) Set.univ i t 130 (fun a _ => tinit (ovr B) (128 * t.val) a) 1#1
      (fun _ => ⟨by norm_num, fun r hr h => absurd h (by omega)⟩) (fun h => absurd rfl h)))
  rw [lspec_apply]
  iintro %r %hr
  obtain ⟨r0, r1⟩ := r
  rw [wp_ret]; imodintro
  have hr' : r0 = arr fun a _ => ind (supp (ovr B) (128 * t.val + a)) := hr
  subst hr'
  iapply Hk $$ H11 H9

end Tile

/-- The suppression loop: every rank's suppression, row 1 of the fourth scratch buffer. -/
theorem t4_loop (D A8 Bx A9 : ℕ → ℕ → EReal) (v102 : FVec Ideal S8x5120 .f32) (v103 v105 : FVec Ideal S1x5120 .f32)
    (hB : ∀ r b, r < 4 → b < 5120 → Bx r b = ob D r b) (hB4 : ∀ b, b < 5120 → Bx 4 b = area (ob D) b)
    (h8 : ∀ p r, p < 5120 → r < 8 → A8 p r = srt D r p) (hA : ∀ b, b < 5120 → A9 1 b = ind (5000 ≤ b)) (Q : Unit → sProp 𝕄) :
    iprop(owns (c : Thread nD τ) arg8 fullShare (arr A8) ∗ owns (c : Thread nD τ) arg11 fullShare (arr Bx) ∗ owns (c : Thread nD τ) arg9 fullShare (arr A9)
      ∗ (owns (c : Thread nD τ) arg8 fullShare (arr A8) -∗ owns (c : Thread nD τ) arg11 fullShare (arr Bx)
        -∗ owns (c : Thread nD τ) arg9 fullShare (arr (rowUpd 1 5120 (fun p => ind (supp (ovr (ob D)) p)) A9)) -∗ Q ()))
      ⊢ wp frame (wpE (defs₀ (F := Ideal)) 𝒱₀ (c : Thread nD τ) none) Set.univ
          (Scf.Loop.for k0_t4_loop k0_t4_ok ⟨⟩ (k0_t4_body (F := Ideal) i arg1 harg1 arg2 harg2 arg3 harg3 arg4 harg4 arg5 harg5 arg6 harg6 arg7 harg7 arg8 harg8 arg9 harg9 arg10 harg10 arg11 harg11 M4 R8 (mc D) v102 v103 v105
            (iota .tc S1x1024 32 [1] iota_S1x1024_d1_w32))) Q := by
  iintro ⟨H8, H11, H9, Hk⟩
  iapply (Scf.wp_for frame (wpE (defs₀ (F := Ideal)) 𝒱₀ (c : Thread nD τ) none) Set.univ _ _ _ k0_t4_ok _ _
    (I := fun k _ => iprop(owns (c : Thread nD τ) arg8 fullShare (arr A8) ∗ owns (c : Thread nD τ) arg11 fullShare (arr Bx)
      ∗ owns (c : Thread nD τ) arg9 fullShare (arr (rowUpd 1 (128 * k) (fun p => ind (supp (ovr (ob D)) p)) A9)))) ?_)
  · intro t acc
    have ht : t.val < 40 := by have := t.isLt; have e : Scf.trips k0_t4_loop.lb k0_t4_loop.ub k0_t4_loop.st = 40 := trips4; omega
    unfold k0_t4_body
    simp only [k0_part3_eq_skeleton]; unfold k0_part3_skel
    simp only [Prog.lift, Prog.bind_op, Prog.bind_ret, Prog.pure_eq_ret]
    iintro ⟨H8, H11, H9⟩
    iapply (wp_ld 𝒱₀ (c : Thread nD τ) none Set.univ _ _ (off7 t)) $$ H8; iintro H8
    have h8' : ∀ a r, a < 128 → r < 8 → A8 (128 * t.val + a) (0 + r) = srt D r (128 * t.val + a) := fun a r ha hr => by
      rw [Nat.zero_add]; exact h8 _ _ (by omega) hr
    rw [pay8_eq _ D (128 * t.val) h8', pay9_eq _ D (128 * t.val) h8', pay10_eq _ D (128 * t.val) h8', pay11_eq _ D (128 * t.val) h8',
      pay12_eq _ D (128 * t.val) h8']
    rw [wp_bind]
    iapply (part4_wp c i arg1 harg1 arg2 harg2 arg3 harg3 arg4 harg4 arg5 harg5 arg6 harg6 arg7 harg7 arg8 harg8 arg9 harg9 arg10 harg10 arg11 harg11 t (ob D) Bx (rowUpd 1 (128 * t.val) (fun p => ind (supp (ovr (ob D)) p)) A9) hB hB4
      (fun b hb => rowUpd_row _ _ _ _ _ hb) (fun b hb => (rowUpd_ge _ _ _ _ _ _ (by omega)).trans (hA _ (by omega))))
    isplitl [H11]; · iexact H11
    isplitl [H9]; · iexact H9
    iintro H11 H9
    iapply (wp_ld_any 𝒱₀ (c : Thread nD τ) none Set.univ) $$ H9; iintro %v H9
    iapply (wp_st 𝒱₀ (c : Thread nD τ) none Set.univ _ _ (off20 t) _ (pay60_eq (fun a _ => ind (supp (ovr (ob D)) (128 * t.val + a))))) $$ H9; iintro H9
    rw [wp_ret]; imodintro
    isplitl [H8]; · iexact H8
    isplitl [H11]; · iexact H11
    rw [putA_row 1 (128 * t.val) 128 (fun p => ind (supp (ovr (ob D)) p)) (fun _ b => ind (supp (ovr (ob D)) (128 * t.val + b))) _ (fun b hb => rfl),
      show 128 * t.val + 128 = 128 * (t.val + 1) from by omega]
    iexact H9
  · isplitl [H8 H11 H9]
    · isplitl [H8]; · iexact H8
      isplitl [H11]; · iexact H11
      rw [Nat.mul_zero, rowUpd_zero]
      iexact H9
    · iintro %acc ⟨H8, H11, H9⟩
      have e : Scf.trips k0_t4_loop.lb k0_t4_loop.ub k0_t4_loop.st = 40 := trips4
      rw [e]
      iapply Hk $$ H8 H11 H9

end

end Cert.Proof.Nms

end
-- ==== Proof.Nms.Loops3.lean ====
/-
  The last three loops: the survivors counted in rank order, the survivors marked at their own index, and the others
  counted in index order.
-/
module

public import proofs.«01_k».proof.Proof.Nms.Off
public import proofs.«01_k».proof.Proof.Nms.Label

@[expose] public section

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section

variable (c : Dev nD) (i : grid0.Coords) (arg1 : Memref sig .tc .vmem S1x5120x128 .f32) (harg1 : arg1.IsWhole) (arg2 : Memref sig .tc .vmem S1x8x5120 .f32) (harg2 : arg2.IsWhole)
  (arg3 : Memref sig .tc .vmem S1x1x128 .f32) (harg3 : arg3.IsWhole) (arg4 : Memref sig .tc .vmem S1x1x128 .i32) (harg4 : arg4.IsWhole)
  (arg5 : Memref sig .tc .vmem S1x8x128 .f32) (harg5 : arg5.IsWhole) (arg6 : Memref sig .tc .vmem S8x5120 .f32) (harg6 : arg6.IsWhole)
  (arg7 : Memref sig .tc .vmem S8x5120 .f32) (harg7 : arg7.IsWhole) (arg8 : Memref sig .tc .vmem S5120x8 .f32) (harg8 : arg8.IsWhole)
  (arg9 : Memref sig .tc .vmem S8x5120 .f32) (harg9 : arg9.IsWhole) (arg10 : Memref sig .tc .vmem S5120x8 .f32) (harg10 : arg10.IsWhole)
  (arg11 : Memref sig .tc .vmem S8x5120 .f32) (harg11 : arg11.IsWhole)

/-- The survivors counted in rank order. -/
theorem t7_loop (P : ℕ → Prop) (A9 : ℕ → ℕ → EReal) (hA : ∀ b, b < 5120 → A9 1 b = ind (¬ P b)) (Q : FVec Ideal S1x1 .f32 → sProp 𝕄) :
    iprop(owns (c : Thread nD τ) arg9 fullShare (arr A9)
      ∗ (owns (c : Thread nD τ) arg9 fullShare (arr (rowUpd 4 5120 (fun p => ((cnt P (p + 1) : ℕ) : EReal)) A9))
        -∗ Q (arr fun _ _ => ((cnt P 5120 : ℕ) : EReal))))
      ⊢ wp frame (wpE (defs₀ (F := Ideal)) 𝒱₀ (c : Thread nD τ) none) Set.univ
          (Scf.Loop.for k0_t7_loop k0_t7_ok (k0_pay62 (F := Ideal)) (k0_t7_body (F := Ideal) i arg1 harg1 arg2 harg2 arg3 harg3 arg4 harg4 arg5 harg5 arg6 harg6 arg7 harg7 arg8 harg8 arg9 harg9 arg10 harg10 arg11 harg11 M4 C6 R8)) Q := by
  iintro ⟨H9, Hk⟩
  iapply (Scf.wp_for frame (wpE (defs₀ (F := Ideal)) 𝒱₀ (c : Thread nD τ) none) Set.univ _ _ _ k0_t7_ok _ _
    (I := fun k acc => iprop(⌜acc = arr fun _ _ => ((cnt P (128 * k) : ℕ) : EReal)⌝
      ∗ owns (c : Thread nD τ) arg9 fullShare (arr (rowUpd 4 (128 * k) (fun p => ((cnt P (p + 1) : ℕ) : EReal)) A9)))) ?_)
  · intro t acc
    have ht : t.val < 40 := by have := t.isLt; have e : Scf.trips k0_t7_loop.lb k0_t7_loop.ub k0_t7_loop.st = 40 := trips7; omega
    unfold k0_t7_body
    simp only [Prog.lift, Prog.bind_op, Prog.bind_ret, Prog.pure_eq_ret]
    iintro ⟨%hacc, H9⟩
    subst hacc
    have hr : ∀ b, b < 128 → rowUpd 4 (128 * t.val) (fun p => ((cnt P (p + 1) : ℕ) : EReal)) A9 (1 + 0) (128 * t.val + b) = ind (¬ P (128 * t.val + b)) :=
      fun b hb => (rowUpd_ne _ _ _ _ _ _ (by norm_num)).trans (hA _ (by omega))
    iapply (wp_ld 𝒱₀ (c : Thread nD τ) none Set.univ _ _ (off21 t)) $$ H9; iintro H9
    iapply (wp_ld_any 𝒱₀ (c : Thread nD τ) none Set.univ) $$ H9; iintro %v H9
    iapply (wp_st 𝒱₀ (c : Thread nD τ) none Set.univ _ _ (off22 t) (fun _ b => ((cnt P (128 * t.val + b + 1) : ℕ) : EReal))
      (pay64_eq _ _ P (128 * t.val) hr rfl)) $$ H9; iintro H9
    rw [wp_ret]; imodintro
    isplitr
    · ipureintro
      exact pay65_eq _ _ P (128 * t.val) hr rfl
    rw [putA_row 4 (128 * t.val) 128 (fun p => ((cnt P (p + 1) : ℕ) : EReal)) (fun _ b => ((cnt P (128 * t.val + b + 1) : ℕ) : EReal)) _ (fun b hb => rfl),
      show 128 * t.val + 128 = 128 * (t.val + 1) from by omega]
    iexact H9
  · isplitl [H9]
    · isplitr
      · ipureintro
        rw [pay62_eq]
        exact arr_congr fun a b ha hb => by rw [Nat.mul_zero, cnt_zero, Nat.cast_zero]
      rw [Nat.mul_zero, rowUpd_zero]
      iexact H9
    · iintro %acc ⟨%hacc, H9⟩
      have e : Scf.trips k0_t7_loop.lb k0_t7_loop.ub k0_t7_loop.st = 40 := trips7
      rw [hacc, e]
      iapply Hk $$ H9

/-- The survivors marked at their own index. -/
theorem t8_loop (P : ℕ → Prop) (s : ℕ → ℕ) (A8 A9 : ℕ → ℕ → EReal) (hA : ∀ b, b < 5120 → A9 1 b = ind (P b))
    (h0 : ∀ b, b < 5120 → A9 3 b = 0) (h8 : ∀ p, p < 5120 → A8 p 6 = ((s p : ℕ) : EReal)) (Q : Unit → sProp 𝕄) :
    iprop(owns (c : Thread nD τ) arg8 fullShare (arr A8) ∗ owns (c : Thread nD τ) arg9 fullShare (arr A9)
      ∗ (owns (c : Thread nD τ) arg8 fullShare (arr A8)
        -∗ owns (c : Thread nD τ) arg9 fullShare (arr (rowUpd 3 5120 (fun x => ind (∃ p, p < 5120 ∧ s p = x ∧ ¬ P p)) A9)) -∗ Q ()))
      ⊢ wp frame (wpE (defs₀ (F := Ideal)) 𝒱₀ (c : Thread nD τ) none) Set.univ
          (Scf.Loop.for k0_t8_loop k0_t8_ok ⟨⟩ (k0_t8_body (F := Ideal) i arg1 harg1 arg2 harg2 arg3 harg3 arg4 harg4 arg5 harg5 arg6 harg6 arg7 harg7 arg8 harg8 arg9 harg9 arg10 harg10 arg11 harg11 M4 C6 R8)) Q := by
  iintro ⟨H8, H9, Hk⟩
  iapply (Scf.wp_for frame (wpE (defs₀ (F := Ideal)) 𝒱₀ (c : Thread nD τ) none) Set.univ _ _ _ k0_t8_ok _ _
    (I := fun k _ => iprop(owns (c : Thread nD τ) arg8 fullShare (arr A8)
      ∗ owns (c : Thread nD τ) arg9 fullShare (arr (rowUpd 3 5120 (fun x => ind (∃ p, p < 128 * k ∧ s p = x ∧ ¬ P p)) A9)))) ?_)
  · intro t acc
    have ht : t.val < 40 := by have := t.isLt; have e : Scf.trips k0_t8_loop.lb k0_t8_loop.ub k0_t8_loop.st = 40 := trips8; omega
    unfold k0_t8_body
    simp only [Prog.lift, Prog.bind_op, Prog.bind_ret, Prog.pure_eq_ret]
    have hp := pay67_eq (fun a b => A8 (128 * t.val + a) (6 + b))
      (fun a b => rowUpd 3 5120 (fun x => ind (∃ p, p < 128 * t.val ∧ s p = x ∧ ¬ P p)) A9 (1 + a) (128 * t.val + b))
      (fun a b => rowUpd 3 5120 (fun x => ind (∃ p, p < 128 * t.val ∧ s p = x ∧ ¬ P p)) A9 (3 + a) (0 + b)) P s (128 * t.val)
      (fun x hx => h8 _ (by omega)) (fun x hx => (rowUpd_ne _ _ _ _ _ _ (by norm_num)).trans (hA _ (by omega)))
      (fun x hx => (rowUpd_row 3 5120 _ _ (0 + x) (by omega)).trans (by rw [Nat.zero_add]))
    iintro ⟨H8, H9⟩
    iapply (wp_ld 𝒱₀ (c : Thread nD τ) none Set.univ _ _ (off23 t)) $$ H8; iintro H8
    iapply (wp_ld 𝒱₀ (c : Thread nD τ) none Set.univ _ _ (off24 t)) $$ H9; iintro H9
    iapply (wp_ld 𝒱₀ (c : Thread nD τ) none Set.univ 3 0 rfl) $$ H9; iintro H9
    iapply (wp_ld_any 𝒱₀ (c : Thread nD τ) none Set.univ) $$ H9; iintro %v H9
    rw [hp]
    iapply (wp_st 𝒱₀ (c : Thread nD τ) none Set.univ 3 0 rfl _ rfl) $$ H9; iintro H9
    rw [wp_ret]; imodintro
    isplitl [H8]; · iexact H8
    rw [putA_row_full 3 5120 (fun x => ind (∃ p, p < 128 * t.val + 128 ∧ s p = x ∧ ¬ P p)) (fun _ x => ind (∃ p, p < 128 * t.val + 128 ∧ s p = x ∧ ¬ P p)) _ (fun b hb => rfl),
      show (arr (R := 8) (C := 5120) (rowUpd 3 5120 (fun x => ind (∃ p, p < 128 * (t.val + 1) ∧ s p = x ∧ ¬ P p)) A9))
        = arr (rowUpd 3 5120 (fun x => ind (∃ p, p < 128 * t.val + 128 ∧ s p = x ∧ ¬ P p)) (rowUpd 3 5120 (fun x => ind (∃ p, p < 128 * t.val ∧ s p = x ∧ ¬ P p)) A9)) from
        arr_congr fun a b ha hb => by
          rw [show 128 * (t.val + 1) = 128 * t.val + 128 from by omega]
          simp only [rowUpd]; split_ifs <;> rfl]
    iexact H9
  · isplitl [H8 H9]
    · isplitl [H8]; · iexact H8
      rw [show (arr (R := 8) (C := 5120) (rowUpd 3 5120 (fun x => ind (∃ p, p < 128 * 0 ∧ s p = x ∧ ¬ P p)) A9)) = arr A9 from
        arr_congr fun a b ha hb => by
          simp only [rowUpd]
          split_ifs with h
          · rw [ind_false (by rintro ⟨p, hp, -⟩; omega), h.1, h0 b hb]
          · rfl]
      iexact H9
    · iintro %acc ⟨H8, H9⟩
      have e : Scf.trips k0_t8_loop.lb k0_t8_loop.ub k0_t8_loop.st = 40 := trips8
      rw [e]
      iapply Hk $$ H8 H9

/-- The others counted in index order. -/
theorem t9_loop (P : ℕ → Prop) (A9 : ℕ → ℕ → EReal) (hA : ∀ b, b < 5120 → A9 3 b = ind (¬ P b)) (Q : FVec Ideal S1x1 .f32 → sProp 𝕄) :
    iprop(owns (c : Thread nD τ) arg9 fullShare (arr A9)
      ∗ (∀ v, owns (c : Thread nD τ) arg9 fullShare (arr (rowUpd 5 5120 (fun p => ((cnt P (p + 1) : ℕ) : EReal)) A9)) -∗ Q v))
      ⊢ wp frame (wpE (defs₀ (F := Ideal)) 𝒱₀ (c : Thread nD τ) none) Set.univ
          (Scf.Loop.for k0_t9_loop k0_t9_ok (k0_pay68 (F := Ideal)) (k0_t9_body (F := Ideal) i arg1 harg1 arg2 harg2 arg3 harg3 arg4 harg4 arg5 harg5 arg6 harg6 arg7 harg7 arg8 harg8 arg9 harg9 arg10 harg10 arg11 harg11 M4 C6 R8)) Q := by
  iintro ⟨H9, Hk⟩
  iapply (Scf.wp_for frame (wpE (defs₀ (F := Ideal)) 𝒱₀ (c : Thread nD τ) none) Set.univ _ _ _ k0_t9_ok _ _
    (I := fun k acc => iprop(⌜acc = arr fun _ _ => ((cnt P (128 * k) : ℕ) : EReal)⌝
      ∗ owns (c : Thread nD τ) arg9 fullShare (arr (rowUpd 5 (128 * k) (fun p => ((cnt P (p + 1) : ℕ) : EReal)) A9)))) ?_)
  · intro t acc
    have ht : t.val < 40 := by have := t.isLt; have e : Scf.trips k0_t9_loop.lb k0_t9_loop.ub k0_t9_loop.st = 40 := trips9; omega
    unfold k0_t9_body
    simp only [Prog.lift, Prog.bind_op, Prog.bind_ret, Prog.pure_eq_ret]
    iintro ⟨%hacc, H9⟩
    subst hacc
    have hr : ∀ b, b < 128 → rowUpd 5 (128 * t.val) (fun p => ((cnt P (p + 1) : ℕ) : EReal)) A9 (3 + 0) (128 * t.val + b) = ind (¬ P (128 * t.val + b)) :=
      fun b hb => (rowUpd_ne _ _ _ _ _ _ (by norm_num)).trans (hA _ (by omega))
    iapply (wp_ld 𝒱₀ (c : Thread nD τ) none Set.univ _ _ (off25 t)) $$ H9; iintro H9
    iapply (wp_ld_any 𝒱₀ (c : Thread nD τ) none Set.univ) $$ H9; iintro %v H9
    iapply (wp_st 𝒱₀ (c : Thread nD τ) none Set.univ _ _ (off26 t) (fun _ b => ((cnt P (128 * t.val + b + 1) : ℕ) : EReal))
      (pay70_eq _ _ P (128 * t.val) hr rfl)) $$ H9; iintro H9
    rw [wp_ret]; imodintro
    isplitr
    · ipureintro
      exact pay71_eq _ _ P (128 * t.val) hr rfl
    rw [putA_row 5 (128 * t.val) 128 (fun p => ((cnt P (p + 1) : ℕ) : EReal)) (fun _ b => ((cnt P (128 * t.val + b + 1) : ℕ) : EReal)) _ (fun b hb => rfl),
      show 128 * t.val + 128 = 128 * (t.val + 1) from by omega]
    iexact H9
  · isplitl [H9]
    · isplitr
      · ipureintro
        rw [pay68_eq]
        exact arr_congr fun a b ha hb => by rw [Nat.mul_zero, cnt_zero, Nat.cast_zero]
      rw [Nat.mul_zero, rowUpd_zero]
      iexact H9
    · iintro %acc ⟨%hacc, H9⟩
      have e : Scf.trips k0_t9_loop.lb k0_t9_loop.ub k0_t9_loop.st = 40 := trips9
      rw [e]
      iapply Hk $$ %acc H9

end

end Cert.Proof.Nms

end
-- ==== Proof.Nms.Body.lean ====
/-
  The kernel's body at one grid point, on any input blocks: what its three result blocks hold afterwards, in terms of the
  table of boxes, scores and labels computed from the input blocks.
-/
module

public import proofs.«01_k».proof.Proof.Nms.Loops1
public import proofs.«01_k».proof.Proof.Nms.Loops2
public import proofs.«01_k».proof.Proof.Nms.Loops3

@[expose] public section

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-! ### The table -/

/-- The entries of a one-row matrix. -/
def rowOf (x : FVec Ideal S1x5120 .f32) (b : ℕ) : EReal := if h : b < 5120 then x (Idealize.ShloMosaic.ix2 0 ⟨b, h⟩) else 0
/-- The entries of a one-column matrix. -/
def colOf (x : FVec Ideal S5120x1 .f32) (b : ℕ) : EReal := if h : b < 5120 then x (Idealize.ShloMosaic.ix2 ⟨b, h⟩ 0) else 0

/-- An array of one row is made of its entries. -/
theorem arr_rowOf (x : FVec Ideal S1x5120 .f32) : x = arr fun _ b => rowOf x b := by
  refine ext_ix2 fun a b => ?_
  show _ = rowOf x b.val
  unfold rowOf; rw [dif_pos b.isLt, Fin.fin_one_eq_zero a]
/-- An array of one column is made of its entries. -/
theorem arr_colOf (x : FVec Ideal S5120x1 .f32) : x = arr fun b _ => colOf x b := by
  refine ext_ix2 fun b a => ?_
  show _ = colOf x b.val
  unfold colOf; rw [dif_pos b.isLt, Fin.fin_one_eq_zero a]

/-- The table of one image: the corners, the score, the label, the index, and an empty row. -/
def tbl (X1 : FVec Ideal S1x5120x128 .f32) (X2 : FVec Ideal S1x8x5120 .f32) : ℕ → ℕ → EReal := fun r b =>
  if r = 0 then rowOf (k0_pay34 (F := Ideal) X2) b
  else if r = 1 then rowOf (k0_pay35 (F := Ideal) X2) b
  else if r = 2 then rowOf (k0_pay36 (F := Ideal) X2) b
  else if r = 3 then rowOf (k0_pay38 (F := Ideal) (k0_pay31 (F := Ideal) X2) (k0_pay37 (F := Ideal) X2)) b
  else if r = 4 then colOf (k0_pay27 (F := Ideal) (k0_pay24 (F := Ideal) X1) k0_pay26) b
  else if r = 5 then colOf (k0_pay28 (F := Ideal) (k0_pay25 (F := Ideal) X1) k0_pay26) b
  else if r = 6 then ((b : ℕ) : EReal)
  else 0

/-- The block of scores the body leaves, -/
def out3 (D : ℕ → ℕ → EReal) : FVec Ideal S1x1x128 .f32 := fun y => outP D (y 2).val 4 + dim * outQ D (y 2).val 4
/-- the block of labels, -/
def out4 (D : ℕ → ℕ → EReal) : IVec S1x1x128 32 := fun y =>
  FloatOps.fptosi (F := Ideal) (φ := .f32) 32 (Ideal.liftRound Ideal.roundHalfEven (outP D (y 2).val 5 + outQ D (y 2).val 5))
/-- and the block of boxes. -/
def out5 (D : ℕ → ℕ → EReal) : FVec Ideal S1x8x128 .f32 := fun y =>
  if (y 1).val < 4 then outP D (y 2).val (y 1).val + outQ D (y 2).val (y 1).val else 0

section

variable (c : Dev nD) (i : grid0.Coords) (arg1 : Memref sig .tc .vmem S1x5120x128 .f32) (harg1 : arg1.IsWhole) (arg2 : Memref sig .tc .vmem S1x8x5120 .f32) (harg2 : arg2.IsWhole)
  (arg3 : Memref sig .tc .vmem S1x1x128 .f32) (harg3 : arg3.IsWhole) (arg4 : Memref sig .tc .vmem S1x1x128 .i32) (harg4 : arg4.IsWhole)
  (arg5 : Memref sig .tc .vmem S1x8x128 .f32) (harg5 : arg5.IsWhole) (arg6 : Memref sig .tc .vmem S8x5120 .f32) (harg6 : arg6.IsWhole)
  (arg7 : Memref sig .tc .vmem S8x5120 .f32) (harg7 : arg7.IsWhole) (arg8 : Memref sig .tc .vmem S5120x8 .f32) (harg8 : arg8.IsWhole)
  (arg9 : Memref sig .tc .vmem S8x5120 .f32) (harg9 : arg9.IsWhole) (arg10 : Memref sig .tc .vmem S5120x8 .f32) (harg10 : arg10.IsWhole)
  (arg11 : Memref sig .tc .vmem S8x5120 .f32) (harg11 : arg11.IsWhole)

/-- A store over a whole row. -/
theorem wp_st_row {R : ℕ} {m : Memref sig .tc .vmem ⟨2, ![R, 5120]⟩ .f32} {A : ℕ → ℕ → EReal} (r : ℕ)
    {off : Fin 2 → ℕ} (ho : off = ![r, 0]) {inb : ∀ a, off a + (⟨2, ![1, 5120]⟩ : Shape).size a ≤ (⟨2, ![R, 5120]⟩ : Shape).size a}
    {pw : FVec Ideal S1x5120 .f32} (f : ℕ → EReal) (hW : pw = arr fun _ b => f b) {hx hm} {α : Type} {Q : α → sProp 𝕄}
    {k : PUnit → Prog (TpuEff nD τ sig (Elt Ideal) (Λ₀ Ideal) .tc) α} :
    owns (c : Thread nD τ) m fullShare (arr A)
      ⊢ iprop((owns (c : Thread nD τ) m fullShare (arr (rowUpd r 5120 f A)) -∗ wp frame (wpE (defs₀ (F := Ideal)) 𝒱₀ (c : Thread nD τ) none) Set.univ (k ⟨⟩) Q)
        -∗ wp frame (wpE (defs₀ (F := Ideal)) 𝒱₀ (c : Thread nD τ) none) Set.univ
          (.op (.store m (Rect.unit (s := ⟨2, ![R, 5120]⟩) off (⟨2, ![1, 5120]⟩ : Shape).size inb) pw Finset.univ hx hm) k) Q) := by
  have h : putA r 0 1 5120 (fun _ b => f b) A = rowUpd r 5120 f A := putA_row_full r 5120 f (fun _ b => f b) A (fun b hb => rfl)
  rw [← h]
  exact wp_st (Val := Elt Ideal) (e := .f32) 𝒱₀ (c : Thread nD τ) none Set.univ (m := m) (A := A) r 0 ho (pw := pw) (fun _ b => f b) hW

/-- Scores and labels to a side table, the first three rows of the box table. -/
theorem part6_wp (X1 : FVec Ideal S1x5120x128 .f32) (X2 : FVec Ideal S1x8x5120 .f32) (A10 A6 : ℕ → ℕ → EReal) (Q : _ → sProp 𝕄) :
    iprop(owns (c : Thread nD τ) arg10 fullShare (arr A10) ∗ owns (c : Thread nD τ) arg2 fullShare X2 ∗ owns (c : Thread nD τ) arg6 fullShare (arr A6)
      ∗ (∀ X A, ⌜(∀ b, b < 5120 → X b 0 = tbl X1 X2 4 b ∧ X b 1 = tbl X1 X2 5 b) ∧ (∀ r b, r < 3 → b < 5120 → A r b = tbl X1 X2 r b)⌝
        -∗ owns (c : Thread nD τ) arg10 fullShare (arr X) -∗ owns (c : Thread nD τ) arg2 fullShare X2 -∗ owns (c : Thread nD τ) arg6 fullShare (arr A)
        -∗ Q ⟨k0_pay31 (F := Ideal) X2, k0_pay37 (F := Ideal) X2⟩))
      ⊢ wp frame (wpE (defs₀ (F := Ideal)) 𝒱₀ (c : Thread nD τ) none) Set.univ
          (k0_part6 (F := Ideal) i arg1 harg1 arg2 harg2 arg3 harg3 arg4 harg4 arg5 harg5 arg6 harg6 arg7 harg7 arg8 harg8 arg9 harg9 arg10 harg10 arg11 harg11 (k0_pay24 (F := Ideal) X1) (k0_pay25 (F := Ideal) X1) k0_pay26) Q := by
  simp only [k0_part6_eq_skeleton]; unfold k0_part6_skel
  simp only [Prog.lift, Prog.bind_op, Prog.bind_ret, Prog.pure_eq_ret]
  iintro ⟨H10, H2, H6, Hk⟩
  iapply (wp_ld_any 𝒱₀ (c : Thread nD τ) none Set.univ) $$ H10; iintro %v H10
  iapply (wp_st 𝒱₀ (c : Thread nD τ) none Set.univ 0 0 rfl _ (arr_colOf _)) $$ H10; iintro H10
  iapply (wp_ld_any 𝒱₀ (c : Thread nD τ) none Set.univ) $$ H10; iintro %v1 H10
  iapply (wp_st 𝒱₀ (c : Thread nD τ) none Set.univ 0 1 rfl _ (arr_colOf _)) $$ H10; iintro H10
  iapply (wp_ld_full 𝒱₀ (c : Thread nD τ) none Set.univ) $$ H2; iintro H2
  iapply (wp_ld_any 𝒱₀ (c : Thread nD τ) none Set.univ) $$ H6; iintro %v2 H6
  iapply (wp_st_row c 0 rfl _ (arr_rowOf _)) $$ H6; iintro H6
  iapply (wp_ld_any 𝒱₀ (c : Thread nD τ) none Set.univ) $$ H6; iintro %v3 H6
  iapply (wp_st_row c 1 rfl _ (arr_rowOf _)) $$ H6; iintro H6
  iapply (wp_ld_any 𝒱₀ (c : Thread nD τ) none Set.univ) $$ H6; iintro %v4 H6
  iapply (wp_st_row c 2 rfl _ (arr_rowOf _)) $$ H6; iintro H6
  rw [wp_ret]; imodintro
  iapply Hk $$ [] H10 H2 H6
  ipureintro
  refine ⟨fun b hb => ⟨?_, ?_⟩, fun r b hr hb => ?_⟩
  · simp [putA, tbl, hb]
  · simp [putA, tbl, hb]
  · interval_cases r <;> simp [rowUpd, tbl, hb]

/-- The rest of the table, the ranks and the table in rank order. -/
theorem part7_wp (X1 : FVec Ideal S1x5120x128 .f32) (X2 : FVec Ideal S1x8x5120 .f32) (X A A7 A8 A9 : ℕ → ℕ → EReal)
    (hX : ∀ b, b < 5120 → X b 0 = tbl X1 X2 4 b ∧ X b 1 = tbl X1 X2 5 b) (hA : ∀ r b, r < 3 → b < 5120 → A r b = tbl X1 X2 r b) (Q : _ → sProp 𝕄) :
    iprop(owns (c : Thread nD τ) arg10 fullShare (arr X) ∗ owns (c : Thread nD τ) arg6 fullShare (arr A) ∗ owns (c : Thread nD τ) arg7 fullShare (arr A7)
      ∗ owns (c : Thread nD τ) arg8 fullShare (arr A8) ∗ owns (c : Thread nD τ) arg9 fullShare (arr A9)
      ∗ (∀ A9', owns (c : Thread nD τ) arg10 fullShare (arr X) -∗ owns (c : Thread nD τ) arg6 fullShare (arr (tbl X1 X2))
        -∗ owns (c : Thread nD τ) arg7 fullShare (arr (srt (tbl X1 X2))) -∗ owns (c : Thread nD τ) arg8 fullShare (arr fun p r => srt (tbl X1 X2) r p)
        -∗ owns (c : Thread nD τ) arg9 fullShare (arr A9')
        -∗ Q ⟨mc (tbl X1 X2), arr (srt (tbl X1 X2)), k0_pay47 (F := Ideal) (arr (srt (tbl X1 X2))), arr fun _ _ => mc (tbl X1 X2) + 1⟩))
      ⊢ wp frame (wpE (defs₀ (F := Ideal)) 𝒱₀ (c : Thread nD τ) none) Set.univ
          (k0_part7 (F := Ideal) i arg1 harg1 arg2 harg2 arg3 harg3 arg4 harg4 arg5 harg5 arg6 harg6 arg7 harg7 arg8 harg8 arg9 harg9 arg10 harg10 arg11 harg11 M4 C6 R8 (k0_pay31 (F := Ideal) X2) (k0_pay37 (F := Ideal) X2)) Q := by
  simp only [k0_part7_eq_skeleton]; unfold k0_part7_skel
  simp only [Prog.lift, Prog.bind_op, Prog.bind_ret, Prog.pure_eq_ret]
  iintro ⟨H10, H6, H7, H8, H9, Hk⟩
  iapply (wp_ld_any 𝒱₀ (c : Thread nD τ) none Set.univ) $$ H6; iintro %v H6
  iapply (wp_st_row c 3 rfl _ (arr_rowOf _)) $$ H6; iintro H6
  iapply (wp_ld_any 𝒱₀ (c : Thread nD τ) none Set.univ) $$ H6; iintro %v1 H6
  iapply (wp_st_row c 6 rfl (fun b => ((b : ℕ) : EReal)) pay39_eq) $$ H6; iintro H6
  iapply (wp_ld_any 𝒱₀ (c : Thread nD τ) none Set.univ) $$ H6; iintro %v2 H6
  iapply (wp_st_row c 7 rfl (fun _ => 0) pay40_eq) $$ H6; iintro H6
  rw [wp_bind]
  iapply (t1_loop c i arg1 harg1 arg2 harg2 arg3 harg3 arg4 harg4 arg5 harg5 arg6 harg6 arg7 harg7 arg8 harg8 arg9 harg9 arg10 harg10 arg11 harg11 X (rowUpd 7 5120 (fun _ => 0) (rowUpd 6 5120 (fun b => ((b : ℕ) : EReal)) (rowUpd 3 5120
    (rowOf (k0_pay38 (F := Ideal) (k0_pay31 (F := Ideal) X2) (k0_pay37 (F := Ideal) X2))) A))) (tbl X1 X2) _ _ hX ?_)
  · intro r b hr h4 h5 hb
    have h8 : r = 0 ∨ r = 1 ∨ r = 2 ∨ r = 3 ∨ r = 6 ∨ r = 7 := by omega
    rcases h8 with rfl | rfl | rfl | rfl | rfl | rfl
    · simpa [rowUpd, hb] using hA 0 b (by norm_num) hb
    · simpa [rowUpd, hb] using hA 1 b (by norm_num) hb
    · simpa [rowUpd, hb] using hA 2 b (by norm_num) hb
    · simp [rowUpd, hb, tbl]
    · simp [rowUpd, hb, tbl]
    · simp [rowUpd, hb, tbl]
  isplitl [H10]; · iexact H10
  isplitl [H6]; · iexact H6
  iintro H10 H6
  iapply (wp_ld 𝒱₀ (c : Thread nD τ) none Set.univ 4 0 rfl) $$ H6; iintro H6
  rw [wp_bind]
  iapply (t2_loop c i arg1 harg1 arg2 harg2 arg3 harg3 arg4 harg4 arg5 harg5 arg6 harg6 arg7 harg7 arg8 harg8 arg9 harg9 arg10 harg10 arg11 harg11 A9 (tbl X1 X2))
  isplitl [H6]; · iexact H6
  isplitl [H9]; · iexact H9
  iintro H6 H9
  iapply (wp_ld 𝒱₀ (c : Thread nD τ) none Set.univ 0 0 rfl) $$ H9; iintro H9
  rw [wp_bind]
  iapply (t3_loop c i arg1 harg1 arg2 harg2 arg3 harg3 arg4 harg4 arg5 harg5 arg6 harg6 arg7 harg7 arg8 harg8 arg9 harg9 arg10 harg10 arg11 harg11 (tbl X1 X2) A7 A8 _ (fun b hb => (rowUpd_row 0 5120 (fun p => ((rank (tbl X1 X2 4) p : ℕ) : EReal)) A9 (0 + b) (by omega)).trans (by rw [Nat.zero_add])))
  isplitl [H6]; · iexact H6
  isplitl [H7]; · iexact H7
  isplitl [H8]; · iexact H8
  iintro H6 H7 H8
  iapply (wp_ld 𝒱₀ (c : Thread nD τ) none Set.univ 0 0 rfl) $$ H6; iintro H6
  iapply (wp_ld_full 𝒱₀ (c : Thread nD τ) none Set.univ) $$ H7; iintro H7
  rw [wp_ret]; imodintro
  rw [pay46_eq _ (tbl X1 X2) (fun r b hr hb => by rw [Nat.zero_add, Nat.zero_add]), pay48_eq _ (tbl X1 X2) (fun r b hr hb => by rw [Nat.zero_add, Nat.zero_add])]
  iapply Hk $$ H10 H6 H7 H8 H9

/-- The shifted corners and the areas, then the suppression loop. -/
theorem part8_wp (D A11 A9 : ℕ → ℕ → EReal) (Q : _ → sProp 𝕄) :
    iprop(owns (c : Thread nD τ) arg8 fullShare (arr fun p r => srt D r p) ∗ owns (c : Thread nD τ) arg11 fullShare (arr A11) ∗ owns (c : Thread nD τ) arg9 fullShare (arr A9)
      ∗ (∀ A11' A9', ⌜∀ b, b < 5120 → A9' 1 b = ind (sup D b)⌝ -∗ owns (c : Thread nD τ) arg8 fullShare (arr fun p r => srt D r p)
        -∗ owns (c : Thread nD τ) arg11 fullShare (arr A11') -∗ owns (c : Thread nD τ) arg9 fullShare (arr A9') -∗ Q ⟨⟩))
      ⊢ wp frame (wpE (defs₀ (F := Ideal)) 𝒱₀ (c : Thread nD τ) none) Set.univ
          (k0_part8 (F := Ideal) i arg1 harg1 arg2 harg2 arg3 harg3 arg4 harg4 arg5 harg5 arg6 harg6 arg7 harg7 arg8 harg8 arg9 harg9 arg10 harg10 arg11 harg11 M4 R8 (mc D) (arr (srt D)) (k0_pay47 (F := Ideal) (arr (srt D))) (arr fun _ _ => mc D + 1)) Q := by
  simp only [k0_part8_eq_skeleton]; unfold k0_part8_skel
  simp only [Prog.lift, Prog.bind_op, Prog.bind_ret, Prog.pure_eq_ret]
  iintro ⟨H8, H11, H9, Hk⟩
  iapply (wp_ld_any 𝒱₀ (c : Thread nD τ) none Set.univ) $$ H11; iintro %v H11
  iapply (wp_st_row c 0 rfl (ob D 0) (pay54_eq (srt D) D (fun _ _ _ _ => rfl))) $$ H11; iintro H11
  iapply (wp_ld_any 𝒱₀ (c : Thread nD τ) none Set.univ) $$ H11; iintro %v1 H11
  iapply (wp_st_row c 1 rfl (ob D 1) (pay55_eq (srt D) D (fun _ _ _ _ => rfl))) $$ H11; iintro H11
  iapply (wp_ld_any 𝒱₀ (c : Thread nD τ) none Set.univ) $$ H11; iintro %v2 H11
  iapply (wp_st_row c 2 rfl (ob D 2) (pay56_eq (srt D) D (fun _ _ _ _ => rfl))) $$ H11; iintro H11
  iapply (wp_ld_any 𝒱₀ (c : Thread nD τ) none Set.univ) $$ H11; iintro %v3 H11
  iapply (wp_st_row c 3 rfl (ob D 3) (pay57_eq (srt D) D (fun _ _ _ _ => rfl))) $$ H11; iintro H11
  iapply (wp_ld_any 𝒱₀ (c : Thread nD τ) none Set.univ) $$ H11; iintro %v4 H11
  iapply (wp_st_row c 4 rfl (area (ob D)) (pay58_eq (srt D) D (fun _ _ _ _ => rfl))) $$ H11; iintro H11
  iapply (wp_ld_any 𝒱₀ (c : Thread nD τ) none Set.univ) $$ H9; iintro %v5 H9
  iapply (wp_st_row c 1 rfl (fun b => ind (5000 ≤ b)) pay59_eq) $$ H9; iintro H9
  rw [wp_bind]
  iapply (t4_loop c i arg1 harg1 arg2 harg2 arg3 harg3 arg4 harg4 arg5 harg5 arg6 harg6 arg7 harg7 arg8 harg8 arg9 harg9 arg10 harg10 arg11 harg11 D (fun p r => srt D r p) (rowUpd 4 5120 (area (ob D)) (rowUpd 3 5120 (ob D 3) (rowUpd 2 5120 (ob D 2)
    (rowUpd 1 5120 (ob D 1) (rowUpd 0 5120 (ob D 0) A11))))) (rowUpd 1 5120 (fun b => ind (5000 ≤ b)) A9) _ _ _ ?_ ?_ (fun _ _ _ _ => rfl) (fun b hb => rowUpd_row _ _ _ _ _ hb))
  · intro r b hr hb
    interval_cases r <;> simp [rowUpd, hb]
  · intro b hb
    simp [rowUpd, hb]
  isplitl [H8]; · iexact H8
  isplitl [H11]; · iexact H11
  isplitl [H9]; · iexact H9
  iintro H8 H11 H9
  rw [wp_ret]; imodintro
  iapply Hk $$ [] H8 H11 H9
  ipureintro
  exact fun b hb => rowUpd_row _ _ _ _ _ hb

/-- The counts of the survivors and of the others, and the survivors at their own index. -/
theorem part9_wp (D A9 : ℕ → ℕ → EReal) (hA : ∀ b, b < 5120 → A9 1 b = ind (sup D b)) (h6 : ∀ b, b < 5120 → D 6 b = ((b : ℕ) : EReal)) (Q : _ → sProp 𝕄) :
    iprop(owns (c : Thread nD τ) arg8 fullShare (arr fun p r => srt D r p) ∗ owns (c : Thread nD τ) arg9 fullShare (arr A9)
      ∗ (∀ A9' R1 R3 R4 R5, ⌜(∀ b, b < 5120 → R1 0 b = ind (sup D b)) ∧ (∀ b, b < 5120 → R3 0 b = ind (kp D b))
          ∧ (∀ b, b < 5120 → R4 0 b = ((cnt (fun p => ¬ sup D p) (b + 1) : ℕ) : EReal))
          ∧ (∀ b, b < 5120 → R5 0 b = ((cnt (fun c => ¬ kp D c) (b + 1) : ℕ) : EReal))⌝
        -∗ owns (c : Thread nD τ) arg8 fullShare (arr fun p r => srt D r p) -∗ owns (c : Thread nD τ) arg9 fullShare (arr A9')
        -∗ Q ⟨arr fun _ _ => ((cnt (fun p => ¬ sup D p) 5120 : ℕ) : EReal), arr R3, arr R5, k0_pay72 (F := Ideal) C6 (arr R4), k0_pay73 (F := Ideal) (arr R1)⟩))
      ⊢ wp frame (wpE (defs₀ (F := Ideal)) 𝒱₀ (c : Thread nD τ) none) Set.univ
          (k0_part9 (F := Ideal) i arg1 harg1 arg2 harg2 arg3 harg3 arg4 harg4 arg5 harg5 arg6 harg6 arg7 harg7 arg8 harg8 arg9 harg9 arg10 harg10 arg11 harg11 M4 C6 R8) Q := by
  simp only [k0_part9_eq_skeleton]; unfold k0_part9_skel
  simp only [Prog.lift, Prog.bind_op, Prog.bind_ret, Prog.pure_eq_ret]
  iintro ⟨H8, H9, Hk⟩
  iapply (wp_ld 𝒱₀ (c : Thread nD τ) none Set.univ 1 0 rfl) $$ H9; iintro H9
  rw [wp_bind]
  iapply (t7_loop c i arg1 harg1 arg2 harg2 arg3 harg3 arg4 harg4 arg5 harg5 arg6 harg6 arg7 harg7 arg8 harg8 arg9 harg9 arg10 harg10 arg11 harg11 (fun p => ¬ sup D p) A9 (fun b hb => (hA b hb).trans (ind_congr not_not.symm)))
  isplitl [H9]; · iexact H9
  iintro H9
  iapply (wp_ld_any 𝒱₀ (c : Thread nD τ) none Set.univ) $$ H9; iintro %v1 H9
  iapply (wp_st_row c 3 rfl (fun _ => 0) pay66_eq) $$ H9; iintro H9
  rw [wp_bind]
  iapply (t8_loop c i arg1 harg1 arg2 harg2 arg3 harg3 arg4 harg4 arg5 harg5 arg6 harg6 arg7 harg7 arg8 harg8 arg9 harg9 arg10 harg10 arg11 harg11 (sup D) (sg (D 4)) (fun p r => srt D r p)
    (rowUpd 3 5120 (fun _ => 0) (rowUpd 4 5120 (fun p => ((cnt (fun p => ¬ sup D p) (p + 1) : ℕ) : EReal)) A9))
    (fun b hb => (rowUpd_ne _ _ _ _ _ _ (by norm_num)).trans ((rowUpd_ne _ _ _ _ _ _ (by norm_num)).trans (hA b hb)))
    (fun b hb => rowUpd_row _ _ _ _ _ hb) (fun p hp => h6 _ (sg_lt _ hp)))
  isplitl [H8]; · iexact H8
  isplitl [H9]; · iexact H9
  iintro H8 H9
  have hkp : ∀ b, b < 5120 → ind (∃ p, p < 5120 ∧ sg (D 4) p = b ∧ ¬ sup D p) = ind (kp D b) := by
    intro b hb
    refine ind_congr ⟨?_, fun h => ⟨rank (D 4) b, rank_lt _ hb, sg_rank _ hb, h⟩⟩
    rintro ⟨p, hp, rfl, h⟩
    unfold kp; rw [rank_sg _ hp]; exact h
  iapply (wp_ld 𝒱₀ (c : Thread nD τ) none Set.univ 3 0 rfl) $$ H9; iintro H9
  rw [wp_bind]
  iapply (t9_loop c i arg1 harg1 arg2 harg2 arg3 harg3 arg4 harg4 arg5 harg5 arg6 harg6 arg7 harg7 arg8 harg8 arg9 harg9 arg10 harg10 arg11 harg11 (fun c => ¬ kp D c)
    (rowUpd 3 5120 (fun x => ind (∃ p, p < 5120 ∧ sg (D 4) p = x ∧ ¬ sup D p))
      (rowUpd 3 5120 (fun _ => 0) (rowUpd 4 5120 (fun p => ((cnt (fun p => ¬ sup D p) (p + 1) : ℕ) : EReal)) A9)))
    (fun b hb => (rowUpd_row _ _ _ _ _ hb).trans ((hkp b hb).trans (ind_congr not_not.symm))))
  isplitl [H9]; · iexact H9
  iintro %w H9
  iapply (wp_ld 𝒱₀ (c : Thread nD τ) none Set.univ 4 0 rfl) $$ H9; iintro H9
  iapply (wp_ld 𝒱₀ (c : Thread nD τ) none Set.univ 5 0 rfl) $$ H9; iintro H9
  rw [wp_ret]; imodintro
  iapply Hk $$ [] H8 H9
  ipureintro
  refine ⟨fun b hb => ?_, fun b hb => ?_, fun b hb => ?_, fun b hb => ?_⟩
  · rw [Nat.add_zero, Nat.zero_add]; exact hA b hb
  · rw [Nat.add_zero, Nat.zero_add, rowUpd_row _ _ _ _ _ hb]; exact hkp b hb
  · rw [Nat.add_zero, Nat.zero_add, rowUpd_ne _ _ _ _ _ _ (by norm_num), rowUpd_ne _ _ _ _ _ _ (by norm_num), rowUpd_ne _ _ _ _ _ _ (by norm_num),
      rowUpd_row _ _ _ _ _ hb]
  · rw [Nat.add_zero, Nat.zero_add, rowUpd_row _ _ _ _ _ hb]

set_option maxRecDepth 16384 in
/-- The selection: scores and labels of the hundred places stored, the boxes handed on. -/
theorem part10_wp (D : ℕ → ℕ → EReal) (R1 R3 R4 R5 : ℕ → ℕ → EReal) (X3 : FVec Ideal S1x1x128 .f32) (X4 : IVec S1x1x128 32)
    (h1 : ∀ b, b < 5120 → R1 0 b = ind (sup D b)) (h3 : ∀ b, b < 5120 → R3 0 b = ind (kp D b))
    (h4 : ∀ b, b < 5120 → R4 0 b = ((cnt (fun p => ¬ sup D p) (b + 1) : ℕ) : EReal))
    (h5 : ∀ b, b < 5120 → R5 0 b = ((cnt (fun c => ¬ kp D c) (b + 1) : ℕ) : EReal)) (Q : _ → sProp 𝕄) :
    iprop(owns (c : Thread nD τ) arg7 fullShare (arr (srt D)) ∗ owns (c : Thread nD τ) arg6 fullShare (arr D)
      ∗ owns (c : Thread nD τ) arg3 fullShare X3 ∗ owns (c : Thread nD τ) arg4 fullShare X4
      ∗ (owns (c : Thread nD τ) arg7 fullShare (arr (srt D)) -∗ owns (c : Thread nD τ) arg6 fullShare (arr D)
        -∗ owns (c : Thread nD τ) arg3 fullShare (out3 D) -∗ owns (c : Thread nD τ) arg4 fullShare (out4 D)
        -∗ Q (arr fun k r => outP D k r + outQ D k r)))
      ⊢ wp frame (wpE (defs₀ (F := Ideal)) 𝒱₀ (c : Thread nD τ) none) Set.univ
          (k0_part10 (F := Ideal) i arg1 harg1 arg2 harg2 arg3 harg3 arg4 harg4 arg5 harg5 arg6 harg6 arg7 harg7 arg8 harg8 arg9 harg9 arg10 harg10 arg11 harg11 M4 C6 (arr fun _ _ => ((cnt (fun p => ¬ sup D p) 5120 : ℕ) : EReal)) (arr R3) (arr R5)
            (k0_pay72 (F := Ideal) C6 (arr R4)) (k0_pay73 (F := Ideal) (arr R1))) Q := by
  have e3 : k0_pay77 (F := Ideal) M4 C6 (arr fun _ _ => ((cnt (fun p => ¬ sup D p) 5120 : ℕ) : EReal)) (arr R3) (arr R5)
      (k0_pay72 (F := Ideal) C6 (arr R4)) (k0_pay73 (F := Ideal) (arr R1)) (arr (srt D)) (arr D) = out3 D := by
    funext y
    rw [eq_ix3 y, Fin.fin_one_eq_zero (y 0), Fin.fin_one_eq_zero (y 1)]
    exact pay77_at D R1 R3 R4 R5 _ (srt D) D h1 h3 h4 h5 rfl (fun _ _ _ _ => rfl) (fun _ _ _ _ => rfl) (y 2)
  have e4 : k0_pay78 (F := Ideal) M4 C6 (arr fun _ _ => ((cnt (fun p => ¬ sup D p) 5120 : ℕ) : EReal)) (arr R3) (arr R5)
      (k0_pay72 (F := Ideal) C6 (arr R4)) (k0_pay73 (F := Ideal) (arr R1)) (arr (srt D)) (arr D) = out4 D := by
    funext y
    rw [eq_ix3 y, Fin.fin_one_eq_zero (y 0), Fin.fin_one_eq_zero (y 1)]
    exact pay78_at D R1 R3 R4 R5 _ (srt D) D h1 h3 h4 h5 rfl (fun _ _ _ _ => rfl) (fun _ _ _ _ => rfl) (y 2)
  simp only [k0_part10_eq_skeleton]; unfold k0_part10_skel
  simp only [Prog.lift, Prog.bind_op, Prog.bind_ret, Prog.pure_eq_ret]
  iintro ⟨H7, H6, H3, H4, Hk⟩
  iapply (wp_ld_full 𝒱₀ (c : Thread nD τ) none Set.univ) $$ H7; iintro H7
  iapply (wp_ld_full 𝒱₀ (c : Thread nD τ) none Set.univ) $$ H6; iintro H6
  rw [e3, e4, pay76_eq D R1 R3 R4 R5 _ (srt D) D h1 h3 h4 h5 rfl (fun _ _ _ _ => rfl) (fun _ _ _ _ => rfl)]
  iapply (wp_ld_any 𝒱₀ (c : Thread nD τ) none Set.univ) $$ H3; iintro %v3 H3
  iapply (wp_st_full 𝒱₀ (c : Thread nD τ) none Set.univ (by decide)) $$ H3; iintro H3
  iapply (wp_ld_any 𝒱₀ (c : Thread nD τ) none Set.univ) $$ H4; iintro %v4 H4
  iapply (wp_st_full 𝒱₀ (c : Thread nD τ) none Set.univ (by decide)) $$ H4; iintro H4
  rw [wp_ret]; imodintro
  iapply Hk $$ H7 H6 H3 H4

/-- The two stores of the box block put together. -/
theorem out5_eq (D : ℕ → ℕ → EReal) (X5 : FVec Ideal S1x8x128 .f32) :
    VecWindow.put (s := S1x8x128) (VecWindow.put (s := S1x8x128) X5 ![0, 0, 0] S1x4x128.size (k0_pay1 (F := Ideal) M4 (arr fun k r => outP D k r + outQ D k r)))
      ![0, 4, 0] S1x4x128.size (k0_pay2 (F := Ideal)) = out5 D := by
  funext y
  rw [eq_ix3 y]
  obtain ⟨r, hr⟩ : ∃ r, y 1 = r := ⟨_, rfl⟩
  obtain ⟨k, hk⟩ : ∃ k, y 2 = k := ⟨_, rfl⟩
  rw [hr, hk, Fin.fin_one_eq_zero (y 0)]
  have hr8 : r.val < 8 := r.isLt
  have hk8 : k.val < 128 := k.isLt
  by_cases h : r.val < 4
  · have hn : ¬ ∀ a : Fin 3, (![0, 4, 0] : Fin 3 → ℕ) a ≤ ((Idealize.ShloMosaic.ix3 (0 : Fin 1) r k : S1x8x128.Idx) a).val
        ∧ ((Idealize.ShloMosaic.ix3 (0 : Fin 1) r k : S1x8x128.Idx) a).val < (![0, 4, 0] : Fin 3 → ℕ) a + S1x4x128.size a := by
      intro hh; have h1 : 4 ≤ r.val := (hh 1).1; omega
    have hp : ∀ a : Fin 3, (![0, 0, 0] : Fin 3 → ℕ) a ≤ ((Idealize.ShloMosaic.ix3 (0 : Fin 1) r k : S1x8x128.Idx) a).val
        ∧ ((Idealize.ShloMosaic.ix3 (0 : Fin 1) r k : S1x8x128.Idx) a).val < (![0, 0, 0] : Fin 3 → ℕ) a + S1x4x128.size a := by
      intro a
      match a with
      | ⟨0, _⟩ => exact ⟨Nat.zero_le _, show 0 < 0 + 1 by omega⟩
      | ⟨1, _⟩ => exact ⟨Nat.zero_le _, show r.val < 0 + 4 by omega⟩
      | ⟨2, _⟩ => exact ⟨Nat.zero_le _, show k.val < 0 + 128 by omega⟩
    unfold VecWindow.put
    rw [dif_neg hn, dif_pos hp]
    have he : (Rect.unitLocal (s := S1x8x128) (off := ![0, 0, 0]) (size := S1x4x128.size) (Idealize.ShloMosaic.ix3 (0 : Fin 1) r k) hp)
        = (Idealize.ShloMosaic.ix3 (0 : Fin 1) ⟨r.val, h⟩ k : S1x4x128.Idx) := by
      funext a
      match a with
      | ⟨0, _⟩ => rfl
      | ⟨1, _⟩ => exact Fin.ext (Nat.sub_zero _)
      | ⟨2, _⟩ => exact Fin.ext (Nat.sub_zero _)
    refine (congrArg (k0_pay1 (F := Ideal) M4 (arr fun k r => outP D k r + outQ D k r)) he).trans ((pay1_at _ _ _).trans ?_)
    unfold out5
    exact (if_pos h).symm
  · have hp : ∀ a : Fin 3, (![0, 4, 0] : Fin 3 → ℕ) a ≤ ((Idealize.ShloMosaic.ix3 (0 : Fin 1) r k : S1x8x128.Idx) a).val
        ∧ ((Idealize.ShloMosaic.ix3 (0 : Fin 1) r k : S1x8x128.Idx) a).val < (![0, 4, 0] : Fin 3 → ℕ) a + S1x4x128.size a := by
      intro a
      match a with
      | ⟨0, _⟩ => exact ⟨Nat.zero_le _, show 0 < 0 + 1 by omega⟩
      | ⟨1, _⟩ => exact ⟨show 4 ≤ r.val by omega, show r.val < 4 + 4 by omega⟩
      | ⟨2, _⟩ => exact ⟨Nat.zero_le _, show k.val < 0 + 128 by omega⟩
    unfold VecWindow.put
    rw [dif_pos hp]
    have he : (Rect.unitLocal (s := S1x8x128) (off := ![0, 4, 0]) (size := S1x4x128.size) (Idealize.ShloMosaic.ix3 (0 : Fin 1) r k) hp)
        = (Idealize.ShloMosaic.ix3 (0 : Fin 1) ⟨r.val - 4, by omega⟩ k : S1x4x128.Idx) := by
      funext a
      match a with
      | ⟨0, _⟩ => rfl
      | ⟨1, _⟩ => rfl
      | ⟨2, _⟩ => exact Fin.ext (Nat.sub_zero _)
    refine (congrArg (k0_pay2 (F := Ideal)) he).trans ((pay2_at _ _).trans ?_)
    unfold out5
    exact (if_neg h).symm

/-- The whole body: from the two input blocks, the three result blocks; the scratch buffers end at something. -/
theorem kernel_wp (X1 : FVec Ideal S1x5120x128 .f32) (X2 : FVec Ideal S1x8x5120 .f32) (X3 : FVec Ideal S1x1x128 .f32) (X4 : IVec S1x1x128 32)
    (X5 : FVec Ideal S1x8x128 .f32) (A6 A7 A8 A9 A10 A11 : ℕ → ℕ → EReal) (Q : PUnit → sProp 𝕄) :
    iprop(owns (c : Thread nD τ) arg1 fullShare X1 ∗ owns (c : Thread nD τ) arg2 fullShare X2 ∗ owns (c : Thread nD τ) arg3 fullShare X3
      ∗ owns (c : Thread nD τ) arg4 fullShare X4 ∗ owns (c : Thread nD τ) arg5 fullShare X5
      ∗ owns (c : Thread nD τ) arg6 fullShare (arr A6) ∗ owns (c : Thread nD τ) arg7 fullShare (arr A7) ∗ owns (c : Thread nD τ) arg8 fullShare (arr A8)
      ∗ owns (c : Thread nD τ) arg9 fullShare (arr A9) ∗ owns (c : Thread nD τ) arg10 fullShare (arr A10) ∗ owns (c : Thread nD τ) arg11 fullShare (arr A11)
      ∗ (∀ B6 B7 B8 B9 B10 B11, owns (c : Thread nD τ) arg1 fullShare X1 -∗ owns (c : Thread nD τ) arg2 fullShare X2
        -∗ owns (c : Thread nD τ) arg3 fullShare (out3 (tbl X1 X2)) -∗ owns (c : Thread nD τ) arg4 fullShare (out4 (tbl X1 X2))
        -∗ owns (c : Thread nD τ) arg5 fullShare (out5 (tbl X1 X2))
        -∗ owns (c : Thread nD τ) arg6 fullShare (arr B6) -∗ owns (c : Thread nD τ) arg7 fullShare (arr B7) -∗ owns (c : Thread nD τ) arg8 fullShare (arr B8)
        -∗ owns (c : Thread nD τ) arg9 fullShare (arr B9) -∗ owns (c : Thread nD τ) arg10 fullShare (arr B10) -∗ owns (c : Thread nD τ) arg11 fullShare (arr B11)
        -∗ Q ⟨⟩))
      ⊢ wp frame (wpE (defs₀ (F := Ideal)) 𝒱₀ (c : Thread nD τ) none) Set.univ (cc0__postprocess_kernel (F := Ideal) i arg1 harg1 arg2 harg2 arg3 harg3 arg4 harg4 arg5 harg5 arg6 harg6 arg7 harg7 arg8 harg8 arg9 harg9 arg10 harg10 arg11 harg11) Q := by
  simp only [cc0__postprocess_kernel_eq_skeleton]; unfold cc0__postprocess_kernel_skel
  iintro ⟨H1, H2, H3, H4, H5, H6, H7, H8, H9, H10, H11, Hk⟩
  simp only [k0_part5_eq_skeleton]; unfold k0_part5_skel
  simp only [Prog.lift, Prog.bind_op, Prog.bind_ret, Prog.pure_eq_ret]
  iapply (wp_ld_full 𝒱₀ (c : Thread nD τ) none Set.univ) $$ H1; iintro H1
  rw [pay18_eq, pay19_eq, pay20_eq, wp_bind]
  iapply (part6_wp c i arg1 harg1 arg2 harg2 arg3 harg3 arg4 harg4 arg5 harg5 arg6 harg6 arg7 harg7 arg8 harg8 arg9 harg9 arg10 harg10 arg11 harg11 X1 X2 A10 A6)
  isplitl [H10]; · iexact H10
  isplitl [H2]; · iexact H2
  isplitl [H6]; · iexact H6
  iintro %X %A %hXA H10 H2 H6
  rw [wp_bind]
  iapply (part7_wp c i arg1 harg1 arg2 harg2 arg3 harg3 arg4 harg4 arg5 harg5 arg6 harg6 arg7 harg7 arg8 harg8 arg9 harg9 arg10 harg10 arg11 harg11 X1 X2 X A A7 A8 A9 hXA.1 hXA.2)
  isplitl [H10]; · iexact H10
  isplitl [H6]; · iexact H6
  isplitl [H7]; · iexact H7
  isplitl [H8]; · iexact H8
  isplitl [H9]; · iexact H9
  iintro %B9 H10 H6 H7 H8 H9
  rw [wp_bind]
  iapply (part8_wp c i arg1 harg1 arg2 harg2 arg3 harg3 arg4 harg4 arg5 harg5 arg6 harg6 arg7 harg7 arg8 harg8 arg9 harg9 arg10 harg10 arg11 harg11 (tbl X1 X2) A11 B9)
  isplitl [H8]; · iexact H8
  isplitl [H11]; · iexact H11
  isplitl [H9]; · iexact H9
  iintro %B11 %B9' %hB H8 H11 H9
  rw [wp_bind]
  iapply (part9_wp c i arg1 harg1 arg2 harg2 arg3 harg3 arg4 harg4 arg5 harg5 arg6 harg6 arg7 harg7 arg8 harg8 arg9 harg9 arg10 harg10 arg11 harg11 (tbl X1 X2) B9' hB (fun b hb => by simp [tbl]))
  isplitl [H8]; · iexact H8
  isplitl [H9]; · iexact H9
  iintro %C9 %R1 %R3 %R4 %R5 %hR H8 H9
  rw [wp_bind]
  iapply (part10_wp c i arg1 harg1 arg2 harg2 arg3 harg3 arg4 harg4 arg5 harg5 arg6 harg6 arg7 harg7 arg8 harg8 arg9 harg9 arg10 harg10 arg11 harg11 (tbl X1 X2) R1 R3 R4 R5 X3 X4 hR.1 hR.2.1 hR.2.2.1 hR.2.2.2)
  isplitl [H7]; · iexact H7
  isplitl [H6]; · iexact H6
  isplitl [H3]; · iexact H3
  isplitl [H4]; · iexact H4
  iintro H7 H6 H3 H4
  iapply (wp_ld_any 𝒱₀ (c : Thread nD τ) none Set.univ) $$ H5; iintro %v5 H5
  iapply (wp_st_put 𝒱₀ (c : Thread nD τ) none Set.univ) $$ H5; iintro H5
  iapply (wp_ld_any 𝒱₀ (c : Thread nD τ) none Set.univ) $$ H5; iintro %v6 H5
  iapply (wp_st_put 𝒱₀ (c : Thread nD τ) none Set.univ) $$ H5; iintro H5
  rw [wp_ret]; imodintro
  iapply Hk $$ H1 H2 H3 H4 [H5] H6 H7 H8 H9 H10 H11
  rw [← out5_eq (tbl X1 X2) X5]
  iexact H5

end

end Cert.Proof.Nms

end
-- ==== Proof.Nms.Launch.lean ====
/-
  The launch: the kernel's proof data, its body obligation at each grid point, and the run of the whole program with what it
  leaves in memory.
-/
module

public import proofs.«01_k».proof.Proof.Nms.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Tactic

@[expose] public section

set_option maxRecDepth 16384

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The buffers when the region is entered: the launch memory after the first host lines, -/
abbrev V0 (c : Dev nD) : Valuation τ sig (Elt Ideal) := StableHlo.after (List.flatten [hostOps0 (F := Ideal)]) (fun b => m (c, b))
/-- read at one buffer. -/
abbrev V (c : Dev nD) (b : Ref sig .tc) : Buf (Elt Ideal) ((c : Thread nD τ).loc b) := V0 m c (Proc.devRef .tc b)

/-- The host lines before the region allocate nothing. -/
theorem hostOps0_fresh : (hostOps0 : List (HloOp τ sig (Elt Ideal))).Forall fun op => op.fresh = ∅ := by
  simp only [List.Forall]; repeat' constructor
/-- Nor do those after it. -/
theorem hostOps1_fresh : (hostOps1 : List (HloOp τ sig (Elt Ideal))).Forall fun op => op.fresh = ∅ := by
  simp only [List.Forall]; repeat' constructor

/-- The program is its host lines, the region, and its later host lines. -/
theorem hmain : Pipeline.HMainK (Ix := Unit) (Name := ℕ) (U := UR sig nD τ) (Lvl := ℕ) (cfgs (F := Ideal)) 0 (defs₀ (F := Ideal)) 𝒱₀ m (main (F := Ideal)) (V m)
      (fun _ => Pipeline.chain ([hostOps1].map StableHlo.seq)) :=
  Pipeline.hmain_around (cfgs (F := Ideal)) 0 (defs₀ (F := Ideal)) 𝒱₀ m main [hostOps0] [hostOps1] (by simp only [List.Forall]; exact hostOps0_sub)
    (by simp only [List.Forall]; exact hostOps0_fresh) main_chain

/-- The later lines touch unscoped buffers only, -/
theorem sfx_sub : ∀ ops ∈ ([hostOps1] : List (List (HloOp τ sig (Elt Ideal)))), ∀ op ∈ ops,
    op.bufs ⊆ Pipeline.tailRefs sig Pipeline.Prefetch.none spec0 := by
  rw [Pipeline.tailRefs_none spec0 (launch0 (F := Ideal)).win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt Ideal)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the region. -/
theorem sfx_keeps : ∀ ops ∈ ([hostOps1] : List (List (HloOp τ sig (Elt Ideal)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- Argument 0 enters the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 1 enters the region as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 2 enters the region as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 0 ends as launched. -/
theorem W_main_arg0 (dats : (p : Fin _) → (c : Dev nD) → Dat τ (Elt Ideal) Unit ℕ (UR sig nD τ) ℕ (cfgs (F := Ideal) p) c) (c : Dev nD) :
    Pipeline.afterTail₀ (cfgs (F := Ideal)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Argument 1 ends as launched. -/
theorem W_main_arg1 (dats : (p : Fin _) → (c : Dev nD) → Dat τ (Elt Ideal) Unit ℕ (UR sig nD τ) ℕ (cfgs (F := Ideal) p) c) (c : Dev nD) :
    Pipeline.afterTail₀ (cfgs (F := Ideal)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Argument 2 ends as launched. -/
theorem W_main_arg2 (dats : (p : Fin _) → (c : Dev nD) → Dat τ (Elt Ideal) Unit ℕ (UR sig nD τ) ℕ (cfgs (F := Ideal) p) c) (c : Dev nD) :
    Pipeline.afterTail₀ (cfgs (F := Ideal)) dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ### The proof data -/

/-- The block of an input window at a grid point. -/
def iblk (c : Dev nD) (w : Fin (cfg0 (F := Ideal)).W) (t : Fin (cfg0 (F := Ideal)).N) :
    (((cfg0 (F := Ideal)).win w).xblock ((cfg0 (F := Ideal)).grid.coords t)).Idx → Elt Ideal ((cfg0 (F := Ideal)).win w).elt :=
  (((cfg0 (F := Ideal)).win w).blk t).view.read (Elt Ideal) (V m c (Pipeline.arrRef spec0 w))

/-- The table of the image a grid point treats. -/
def ptbl (c : Dev nD) (t : Fin (cfg0 (F := Ideal)).N) : ℕ → ℕ → EReal := tbl (iblk m c 0 t) (iblk m c 1 t)

/-- The arrays as the region finds them, each input block left in place, each result block at what the body computes. -/
def dats (_ : Fin 1) (c : Dev nD) : Dat τ (Elt Ideal) Unit ℕ (UR sig nD τ) ℕ (cfg0 (F := Ideal)) c where
  A w := V m c (Pipeline.arrRef spec0 w)
  after w t := match w with
    | ⟨0, _⟩ => iblk m c 0 t
    | ⟨1, _⟩ => iblk m c 1 t
    | ⟨2, _⟩ => out3 (ptbl m c t)
    | ⟨3, _⟩ => out4 (ptbl m c t)
    | ⟨4, _⟩ => out5 (ptbl m c t)
  Φ _ := Pipeline.ΦA spec0 c
  q _ := fullShare
  owed _ := 0

/-- An input's buffer holds its block when the body runs: -/
theorem before_0 (c : Dev nD) (t : Fin (cfg0 (F := Ideal)).N) (d) : (dats m 0 c).before 0 t d = iblk m c 0 t :=
  ((dats m 0 c).before_in_eq_fetched 0 rfl (fun _ => rfl) (fun _ _ _ => rfl) (fun t => rfl) t d).trans rfl
/-- the boxes' too. -/
theorem before_1 (c : Dev nD) (t : Fin (cfg0 (F := Ideal)).N) (d) : (dats m 0 c).before 1 t d = iblk m c 1 t :=
  ((dats m 0 c).before_in_eq_fetched 1 rfl (fun _ => rfl) (fun _ _ _ => rfl) (fun t => rfl) t d).trans rfl

/-- The windows one by one. -/
theorem bigSep_W (Φ : Fin (cfg0 (F := Ideal)).W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

/-- The scratch buffers at anything, and the generator's register. -/
def scr (c : Dev nD) : sProp 𝕄 := iprop(((∃ f : Buf (Elt Ideal) ((c : Thread nD τ).loc cc0_scratch0), ((c : Thread nD τ).loc cc0_scratch0) ↦{fullShare} f)
    ∗ (∃ f : Buf (Elt Ideal) ((c : Thread nD τ).loc cc0_scratch1), ((c : Thread nD τ).loc cc0_scratch1) ↦{fullShare} f)
    ∗ (∃ f : Buf (Elt Ideal) ((c : Thread nD τ).loc cc0_scratch2), ((c : Thread nD τ).loc cc0_scratch2) ↦{fullShare} f)
    ∗ (∃ f : Buf (Elt Ideal) ((c : Thread nD τ).loc cc0_scratch3), ((c : Thread nD τ).loc cc0_scratch3) ↦{fullShare} f)
    ∗ (∃ f : Buf (Elt Ideal) ((c : Thread nD τ).loc cc0_scratch4), ((c : Thread nD τ).loc cc0_scratch4) ↦{fullShare} f)
    ∗ (∃ f : Buf (Elt Ideal) ((c : Thread nD τ).loc cc0_scratch5), ((c : Thread nD τ).loc cc0_scratch5) ↦{fullShare} f)) ∗ ∃ r, prngReg c r)

/-- The call's scratch memory is the six buffers, with whatever they hold. -/
theorem scr_eq (c : Dev nD) : (Pipeline.ΦA spec0 c : sProp 𝕄) = scr c := by
  unfold Pipeline.ΦA scr; rw [scopedRest0_eq]

/-- The scratch buffers held as matrices of numbers. -/
theorem scr_open (c : Dev nD) : (scr c : sProp 𝕄) ⊢ iprop((∃ A0 A1 A2 A3 A4 A5, owns (c : Thread nD τ) (Memref.whole cc0_scratch0) fullShare (arr (R := 8) (C := 5120) A0)
    ∗ owns (c : Thread nD τ) (Memref.whole cc0_scratch1) fullShare (arr (R := 8) (C := 5120) A1) ∗ owns (c : Thread nD τ) (Memref.whole cc0_scratch2) fullShare (arr (R := 5120) (C := 8) A2)
    ∗ owns (c : Thread nD τ) (Memref.whole cc0_scratch3) fullShare (arr (R := 8) (C := 5120) A3) ∗ owns (c : Thread nD τ) (Memref.whole cc0_scratch4) fullShare (arr (R := 5120) (C := 8) A4)
    ∗ owns (c : Thread nD τ) (Memref.whole cc0_scratch5) fullShare (arr (R := 8) (C := 5120) A5)) ∗ ∃ r, prngReg c r) := by
  unfold scr
  iintro ⟨⟨⟨%f0, S0⟩, ⟨%f1, S1⟩, ⟨%f2, S2⟩, ⟨%f3, S3⟩, ⟨%f4, S4⟩, ⟨%f5, S5⟩⟩, Hr⟩
  obtain ⟨A0, rfl⟩ := exists_arr (R := 8) (C := 5120) f0
  obtain ⟨A1, rfl⟩ := exists_arr (R := 8) (C := 5120) f1
  obtain ⟨A2, rfl⟩ := exists_arr (R := 5120) (C := 8) f2
  obtain ⟨A3, rfl⟩ := exists_arr (R := 8) (C := 5120) f3
  obtain ⟨A4, rfl⟩ := exists_arr (R := 5120) (C := 8) f4
  obtain ⟨A5, rfl⟩ := exists_arr (R := 8) (C := 5120) f5
  isplitr [Hr]
  · iexists A0; iexists A1; iexists A2; iexists A3; iexists A4; iexists A5
    rw [owns_whole, owns_whole, owns_whole, owns_whole, owns_whole, owns_whole]
    isplitl [S0]; · iexact S0
    isplitl [S1]; · iexact S1
    isplitl [S2]; · iexact S2
    isplitl [S3]; · iexact S3
    isplitl [S4]; · iexact S4
    iexact S5
  iexact Hr

/-- And back. -/
theorem scr_close (c : Dev nD) (A0 A1 A2 A3 A4 A5 : ℕ → ℕ → EReal) : iprop((owns (c : Thread nD τ) (Memref.whole cc0_scratch0) fullShare (arr (R := 8) (C := 5120) A0)
    ∗ owns (c : Thread nD τ) (Memref.whole cc0_scratch1) fullShare (arr (R := 8) (C := 5120) A1) ∗ owns (c : Thread nD τ) (Memref.whole cc0_scratch2) fullShare (arr (R := 5120) (C := 8) A2)
    ∗ owns (c : Thread nD τ) (Memref.whole cc0_scratch3) fullShare (arr (R := 8) (C := 5120) A3) ∗ owns (c : Thread nD τ) (Memref.whole cc0_scratch4) fullShare (arr (R := 5120) (C := 8) A4)
    ∗ owns (c : Thread nD τ) (Memref.whole cc0_scratch5) fullShare (arr (R := 8) (C := 5120) A5)) ∗ ∃ r, prngReg c r) ⊢ (scr c : sProp 𝕄) := by
  rw [owns_whole, owns_whole, owns_whole, owns_whole, owns_whole, owns_whole]
  unfold scr
  iintro ⟨⟨S0, S1, S2, S3, S4, S5⟩, Hr⟩
  isplitr [Hr]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hr

/-- The body at a grid point, from its windows and scratch buffers. -/
theorem body_at (c : Dev nD) (t : Fin (cfg0 (F := Ideal)).N) (O : sProp 𝕄) (X3 : FVec Ideal S1x1x128 .f32) (X4 : IVec S1x1x128 32) (X5 : FVec Ideal S1x8x128 .f32) :
    iprop(scr c ∗ O ∗ owns (c : Thread nD τ) (st0_0 (F := Ideal) t) fullShare (iblk m c 0 t) ∗ owns (c : Thread nD τ) (st0_1 (F := Ideal) t) fullShare (iblk m c 1 t)
      ∗ owns (c : Thread nD τ) (st0_2 (F := Ideal) t) fullShare X3 ∗ owns (c : Thread nD τ) (st0_3 (F := Ideal) t) fullShare X4
      ∗ owns (c : Thread nD τ) (st0_4 (F := Ideal) t) fullShare X5)
    ⊢ wp frame (wpE (defs₀ (F := Ideal)) 𝒱₀ (c : Thread nD τ) none) Set.univ (bodyAt0 (F := Ideal) t) (fun _ : PUnit =>
      iprop(scr c ∗ O ∗ owns (c : Thread nD τ) (st0_0 (F := Ideal) t) fullShare (iblk m c 0 t) ∗ owns (c : Thread nD τ) (st0_1 (F := Ideal) t) fullShare (iblk m c 1 t)
      ∗ owns (c : Thread nD τ) (st0_2 (F := Ideal) t) fullShare (out3 (ptbl m c t)) ∗ owns (c : Thread nD τ) (st0_3 (F := Ideal) t) fullShare (out4 (ptbl m c t))
      ∗ owns (c : Thread nD τ) (st0_4 (F := Ideal) t) fullShare (out5 (ptbl m c t)))) := by
  refine (sep_mono (scr_open c) .rfl).trans ?_
  iintro ⟨⟨⟨%A0, %A1, %A2, %A3, %A4, %A5, S0, S1, S2, S3, S4, S5⟩, Hr⟩, HO, H0, H1, H2, H3, H4⟩
  iapply (kernel_wp c _ _ _ _ _ _ _ _ _ _ _ _ _ _ _ _ _ _ _ _ _ _ _ (iblk m c 0 t) (iblk m c 1 t) X3 X4 X5 A0 A1 A2 A3 A4 A5)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro %B0 %B1 %B2 %B3 %B4 %B5 H0 H1 H2 H3 H4 S0 S1 S2 S3 S4 S5
  isplitl [S0 S1 S2 S3 S4 S5 Hr]
  · iapply (scr_close c B0 B1 B2 B3 B4 B5)
    isplitr [Hr]
    · isplitl [S0]; · iexact S0
      isplitl [S1]; · iexact S1
      isplitl [S2]; · iexact S2
      isplitl [S3]; · iexact S3
      isplitl [S4]; · iexact S4
      iexact S5
    iexact Hr
  isplitl [HO]; · iexact HO
  isplitl [H0]; · iexact H0
  isplitl [H1]; · iexact H1
  isplitl [H2]; · iexact H2
  isplitl [H3]; · iexact H3
  iexact H4

/-- The body obligation, at every grid point. -/
theorem body_obligation (c : Dev nD) : BodyObligationLoose (dats m 0 c) (defs₀ (F := Ideal)) 𝒱₀ () Set.univ := fun t => by
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, bigSep_W, bigSep_W, scr_eq]
  iintro ⟨HS, HO, ⟨%d0, H0⟩, ⟨%d1, H1⟩, ⟨%d2, H2⟩, ⟨%d3, H3⟩, ⟨%d4, H4⟩⟩
  rw [before_0, before_1]
  have h := body_at m c t ((dats m 0 c).owesAt () t.castSucc) ((dats m 0 c).before 2 t d2) ((dats m 0 c).before 3 t d3) ((dats m 0 c).before 4 t d4)
  iapply (show _ ⊢ wp frame (wpE (defs₀ (F := Ideal)) 𝒱₀ (c : Thread nD τ) none) Set.univ ((defs₀ (F := Ideal)) .tc (cfg0 (F := Ideal)).body ((cfg0 (F := Ideal)).bodyArgs t ((cfg0 (F := Ideal)).slots t))) _ from h)
  isplitl [HS]; · iexact HS
  isplitl [HO]; · iexact HO
  isplitl [H0]; · iexact H0
  isplitl [H1]; · iexact H1
  isplitl [H2]; · iexact H2
  isplitl [H3]; · iexact H3
  iexact H4

/-- No window is shared. -/
theorem share_eq (c : Dev nD) (w : Fin (cfg0 (F := Ideal)).W) : (dats m 0 c).share w = fullShare := by
  unfold Dat.share; split <;> rfl

/-- The run: every array ends at what the proof data say, every other buffer at what the later host lines leave, every
    semaphore at zero. -/
theorem run_main : θ_run (defs (F := Ideal)) (onTc (τ := τ) (main (F := Ideal))) (s₀ m ρ)
    (fun r => Pipeline.FramePost (cfgs (F := Ideal)) (dats m) 0 (Pipeline.afterTail₀ (cfgs (F := Ideal)) (dats m) 0 (V0 m) [hostOps1]) r
      ∧ r.2.sem = fun _ => 0) :=
  Pipeline.θ_run_frame_around (cfgs (F := Ideal)) (dats m) (0 : Fin 1) launch0 (defs₀ (F := Ideal)) 𝒱₀ m ρ (main (F := Ideal))
    (hbody := body_obligation m) (hshare := share_eq m) (howed := fun _ _ => rfl)
    (V₀ := V0 m) (opss := [hostOps1]) (hsub := sfx_sub) (hfresh := sfx_fresh) (hkeep := sfx_keeps) (hmain := hmain m)
    (hA := fun _ _ => rfl) (hΦ := fun _ _ => rfl) (Q' := fun r => Pipeline.FramePost (cfgs (F := Ideal)) (dats m) 0 (Pipeline.afterTail₀ (cfgs (F := Ideal)) (dats m) 0 (V0 m) [hostOps1]) r
      ∧ r.2.sem = fun _ => 0) (hQ' := fun _ h => h)

/-- What a result buffer holds after the run, read at any unscoped buffer that is no array of the region. -/
abbrev fin (c : Dev nD) (b : Ref sig .tc) : Buf (Elt Ideal) ((c : Thread nD τ).loc b) :=
  Pipeline.afterTail₀ (cfgs (F := Ideal)) (dats m) 0 (V0 m) [hostOps1] c b

/-- The run, read at the arguments and the results. -/
theorem run_results : θ_run (defs (F := Ideal)) (onTc (τ := τ) (main (F := Ideal))) ⟨m, fun _ => 0, ρ⟩ (fun r =>
    (∀ c : Dev nD, r.2.mem ((c.tc : Thread nD τ).loc main_v0_0) = fin m c main_v0_0
      ∧ r.2.mem ((c.tc : Thread nD τ).loc main_v0_1) = fin m c main_v0_1
      ∧ r.2.mem ((c.tc : Thread nD τ).loc main_v0_2) = fin m c main_v0_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨(h.1 c).2 main_v0_0 (Pipeline.mem_restRefs_of main_v0_0 (by decide) (by decide)),
      (h.1 c).2 main_v0_1 (Pipeline.mem_restRefs_of main_v0_1 (by decide) (by decide)),
      (h.1 c).2 main_v0_2 (Pipeline.mem_restRefs_of main_v0_2 (by decide) (by decide)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩, h.2⟩) (run_main m ρ)

end Cert.Proof.Nms

end
-- ==== Proof.Nms.RefRun.lean ====
/-
  The reference's run: it terminates with every counter at zero, its arguments end as launched, and each buffer of its own ends at
  what its lines compute.
-/
module

public import proofs.«01_k».proof.Proof.Gen.ReferenceIdeal.Run
public import Idealize.ShloMosaic.PureOps.Ideal
public import Idealize.ShloMosaic.Lib.Quiescent
public import Idealize.ShloMosaic.Lib.StableHlo.RunRead

@[expose] public section

set_option maxRecDepth 100000

noncomputable section

namespace Cert.Proof.Nms.Ref

open Cert.ReferenceIdeal Cert.ReferenceIdeal.Gen Cert.ReferenceIdeal.Value
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The buffers at the loop's entry, -/
abbrev Vin (c : Dev nD) : Valuation τ sig (Elt Ideal) := entryContents (preI (F := Ideal)) m c
/-- at the loop's exit, -/
abbrev Vout (c : Dev nD) : Valuation τ sig (Elt Ideal) := atTrip (condOps (F := Ideal)) bodyI (entryContents preI m) 5000 c
/-- and at the end. -/
abbrev Vend (c : Dev nD) : Valuation τ sig (Elt Ideal) := finalContents (condOps (F := Ideal)) preI bodyI postI 5000 m c

/-- A buffer the loop does not write is at its exit what it was at its entry. -/
theorem loop_keep (c : Dev nD) (b : Ref sig .tc) (h0 : b ∉ condOps_W) (h1 : b ∉ while0Ops0_W) (h2 : b ∉ while0Ops0_1_W)
    (h3 : b ∉ while0Ops0_2_W) (h4 : b ∉ while0Ops0_3_W) : ∀ k, atTrip (condOps (F := Ideal)) bodyI (entryContents preI m) k c (Proc.devRef .tc b) = Vin m c (Proc.devRef .tc b) := by
  intro k
  induction k with
  | zero => rfl
  | succ k ih =>
    rw [atTrip_succ]
    simp only [afterL_cons, afterL_nil]
    rw [after_of_writes_sub while0Ops0_3 _ while0Ops0_3_writes h4, after_of_writes_sub while0Ops0_2 _ while0Ops0_2_writes h3,
      after_of_writes_sub while0Ops0_1 _ while0Ops0_1_writes h2, after_of_writes_sub while0Ops0 _ while0Ops0_writes h1,
      after_of_writes_sub condOps _ condOps_writes h0]
    exact ih

/-- An argument is at the loop's entry what it was at the launch. -/
theorem entry_arg0 (c : Dev nD) : Vin m c (Proc.devRef .tc main_arg0) = m ((c.tc : Thread nD τ).loc main_arg0) := by
  simp only [entryContents, afterL_cons, afterL_nil]
  after_reads_simp
/-- The boxes reach the loop unchanged, -/
theorem entry_arg1 (c : Dev nD) : Vin m c (Proc.devRef .tc main_arg1) = m ((c.tc : Thread nD τ).loc main_arg1) := by
  simp only [entryContents, afterL_cons, afterL_nil]
  after_reads_simp
/-- the image sizes too. -/
theorem entry_arg2 (c : Dev nD) : Vin m c (Proc.devRef .tc main_arg2) = m ((c.tc : Thread nD τ).loc main_arg2) := by
  simp only [entryContents, afterL_cons, afterL_nil]
  after_reads_simp

/-- An argument ends as launched. -/
theorem end_arg0 (c : Dev nD) : Vend m c (Proc.devRef .tc main_arg0) = m ((c.tc : Thread nD τ).loc main_arg0) := by
  simp only [finalContents, afterL_cons, afterL_nil]
  after_reads_simp
  exact (loop_keep m c main_arg0 (by decide) (by decide) (by decide) (by decide) (by decide) 5000).trans (entry_arg0 m c)
/-- The boxes end unchanged, -/
theorem end_arg1 (c : Dev nD) : Vend m c (Proc.devRef .tc main_arg1) = m ((c.tc : Thread nD τ).loc main_arg1) := by
  simp only [finalContents, afterL_cons, afterL_nil]
  after_reads_simp
  exact (loop_keep m c main_arg1 (by decide) (by decide) (by decide) (by decide) (by decide) 5000).trans (entry_arg1 m c)
/-- the image sizes too. -/
theorem end_arg2 (c : Dev nD) : Vend m c (Proc.devRef .tc main_arg2) = m ((c.tc : Thread nD τ).loc main_arg2) := by
  simp only [finalContents, afterL_cons, afterL_nil]
  after_reads_simp
  exact (loop_keep m c main_arg2 (by decide) (by decide) (by decide) (by decide) (by decide) 5000).trans (entry_arg2 m c)

/-- The reference's run: its results at the end's contents, its arguments as launched, every counter zero. -/
theorem run_results : θ_run (defs (F := Ideal)) (onTc (τ := τ) (main (F := Ideal))) ⟨m, fun _ => 0, ρ⟩ (fun r =>
    (∀ c : Dev nD, r.2.mem ((c.tc : Thread nD τ).loc main_v108) = Vend m c (Proc.devRef .tc main_v108)
      ∧ r.2.mem ((c.tc : Thread nD τ).loc main_v109) = Vend m c (Proc.devRef .tc main_v109)
      ∧ r.2.mem ((c.tc : Thread nD τ).loc main_v125) = Vend m c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨h c main_v108 (by decide), h c main_v109 (by decide), h c main_v125 (by decide),
    (h c main_arg0 (by decide)).trans (end_arg0 m c), (h c main_arg1 (by decide)).trans (end_arg1 m c),
    (h c main_arg2 (by decide)).trans (end_arg2 m c)⟩, sem_eq_zero_of_no_sems (by decide) r.2⟩) (run_fold m ρ)

end Cert.Proof.Nms.Ref

end
-- ==== Proof.Nms.RefA.lean ====
/-
  The reference's lines before its loop, as functions of the arrays they read, and the lines after it.
-/
module

public import proofs.«01_k».proof.Proof.Nms.RefRun
public import proofs.«01_k».proof.Proof.Nms.Spec
public import Idealize.ShloMosaic.Lib.Pipeline.ValueKit

@[expose] public section

set_option maxRecDepth 16384

noncomputable section

namespace Cert.Proof.Nms.Ref

open Cert.ReferenceIdeal Cert.ReferenceIdeal.Gen Cert.ReferenceIdeal.Value
open Idealize.ShloMosaic Idealize.ShloMosaic.TcCoe Idealize.ShloMosaic.StableHlo
open Idealize.SL Idealize.SL.Sem

variable (X : Valuation τ sig (Elt Ideal))

/-- The class probabilities without the last class, -/
def probT (x : FVec Ideal S4x5000x92 .f32) : FVec Ideal S4x5000x91 .f32 :=
  have mx : FVec Ideal S4x5000 .f32 := maximumf (broadcastInDim S4x5000 ![] bcast_S_S4x5000 (constant S_ .f32 0xFF800000#32))
    (Host.reduce FloatOps.maximumf x (constant S_ .f32 0xFF800000#32) reducesTo_S4x5000x92_S4x5000_d2 h_S_)
  have e : FVec Ideal S4x5000x92 .f32 := Host.exp (subf x (broadcastInDim S4x5000x92 ![0, 1, 2] bcast_S4x5000x1_S4x5000x92_0_1_2
    (broadcastInDim S4x5000x1 ![0, 1] bcast_S4x5000_S4x5000x1_0_1 mx)))
  have d : FVec Ideal S4x5000 .f32 := Host.reduceAdd e (constant S_ .f32 0x00000000#32) reducesTo_S4x5000x92_S4x5000_d2 h_S_
  extractStridedSlice S4x5000x91 ![0, 0, 0] (Host.divf e (broadcastInDim S4x5000x92 ![0, 1, 2] bcast_S4x5000x1_S4x5000x92_0_1_2
    (broadcastInDim S4x5000x1 ![0, 1] bcast_S4x5000_S4x5000x1_0_1 d))) slices_S4x5000x92_S4x5000x91_0_0_0
/-- the largest of them, -/
def scoreT (x : FVec Ideal S4x5000x92 .f32) : FVec Ideal S4x5000 .f32 :=
  Host.reduce FloatOps.maximumf (probT x) (constant S_ .f32 0xFF800000#32) reducesTo_S4x5000x91_S4x5000_d2 h_S_
/-- and where it is first reached. -/
def labT (x : FVec Ideal S4x5000x92 .f32) : IVec S4x5000 32 := fun j =>
  (Host.argReduce reducer_argmax_f32_i32 (probT x) (iotaInDim S4x5000x91 32 2) (constant (F := Ideal) S_ .f32 0xFF800000#32) (constantI S_ 32 0#32)
    reducesTo_S4x5000x91_S4x5000_d2 h_S_ j).2
/-- The corners of the boxes. -/
def cornT (x : FVec Ideal S4x5000x4 .f32) : FVec Ideal S4x5000x4 .f32 :=
  have hf : FVec Ideal S4x5000x1 .f32 := broadcastInDim S4x5000x1 ![] bcast_S_S4x5000x1 (constant S_ .f32 0x3F000000#32)
  have cx : FVec Ideal S4x5000x1 .f32 := extractStridedSlice S4x5000x1 ![0, 0, 0] x slices_S4x5000x4_S4x5000x1_0_0_0
  have cy : FVec Ideal S4x5000x1 .f32 := extractStridedSlice S4x5000x1 ![0, 0, 1] x slices_S4x5000x4_S4x5000x1_0_0_1
  have w : FVec Ideal S4x5000x1 .f32 := extractStridedSlice S4x5000x1 ![0, 0, 2] x slices_S4x5000x4_S4x5000x1_0_0_2
  have h : FVec Ideal S4x5000x1 .f32 := extractStridedSlice S4x5000x1 ![0, 0, 3] x slices_S4x5000x4_S4x5000x1_0_0_3
  concatenate S4x5000x4 2 [⟨S4x5000x1, subf cx (mulf hf w)⟩, ⟨S4x5000x1, subf cy (mulf hf h)⟩, ⟨S4x5000x1, addf cx (mulf hf w)⟩, ⟨S4x5000x1, addf cy (mulf hf h)⟩]
    concatenates_S4x5000x1_S4x5000x1_S4x5000x1_S4x5000x1_S4x5000x4_d2
/-- The largest coordinate of an image. -/
def mcT (x : FVec Ideal S4x5000x4 .f32) : FVec Ideal S4 .f32 :=
  Host.reduce FloatOps.maximumf x (constant S_ .f32 0xFF800000#32) reducesTo_S4x5000x4_S4_d1_2 h_S_
/-- The corners moved apart by class. -/
def offT (x : FVec Ideal S4x5000x4 .f32) (l : IVec S4x5000 32) : FVec Ideal S4x5000x4 .f32 :=
  addf x (broadcastInDim S4x5000x4 ![0, 1, 2] bcast_S4x5000x1_S4x5000x4_0_1_2 (broadcastInDim S4x5000x1 ![0, 1] bcast_S4x5000_S4x5000x1_0_1
    (mulf (sitofp .f32 l) (broadcastInDim S4x5000 ![0, 1] bcast_S4x1_S4x5000_0_1
      (addf (broadcastInDim S4x1 ![0] bcast_S4_S4x1_0 (mcT x)) (broadcastInDim S4x1 ![] bcast_S_S4x1 (constant S_ .f32 0x3F800000#32)))))))
/-- The order of the scores, greatest first. -/
def ordT (s : FVec Ideal S4x5000 .f32) : IVec S4x5000 32 :=
  (Host.sort2 S4x5000 1 comparator_f32_i32_d1 (Host.negf s) (iotaInDim S4x5000 32 1)).2
/-- The order of words, least first. -/
def ordI (s : IVec S4x5000 32) : IVec S4x5000 32 := (Host.sort2 S4x5000 1 comparator_i32_i32_d1 s (iotaInDim S4x5000 32 1)).2
/-- Rows taken at the places of a table of indices. -/
def takeRows (x : FVec Ideal S4x5000x4 .f32) (i : IVec S4x5000 32) : FVec Ideal S4x5000x4 .f32 :=
  have i' : IVec S4x5000x1 32 := shapeCast S4x5000x1 i shapeCasts_S4x5000_S4x5000x1
  Host.gather gather_S4x5000x4_S4x5000x1_S4x5000x4_2_1_0_0_1_2_114 x
    (select (cmpi .slt i' (broadcastInDim S4x5000x1 ![] bcast_S_S4x5000x1 (constantI S_ 32 0#32)))
      (addi i' (broadcastInDim S4x5000x1 ![] bcast_S_S4x5000x1 (constantI S_ 32 5000#32))) i')
/-- Entries taken at the places of a table of indices. -/
def takeMask (x : IVec S4x5000 1) (i : IVec S4x5000 32) : IVec S4x5000 1 :=
  Host.gather gather_S4x5000_S4x5000x1_S4x5000_n_1_0_0_1_2_11 x (shapeCast S4x5000x1
    (select (cmpi .slt i (broadcastInDim S4x5000 ![] bcast_S_S4x5000 (constantI S_ 32 0#32)))
      (addi i (broadcastInDim S4x5000 ![] bcast_S_S4x5000 (constantI S_ 32 5000#32))) i) shapeCasts_S4x5000_S4x5000x1)
/-- The same at the hundred places kept. -/
def take100 {α : Type} (x : S4x5000.Idx → α) (i : IVec S4x100 32) : S4x100.Idx → α :=
  Host.gather gather_S4x5000_S4x100x1_S4x100_n_1_0_0_1_2_11 x (shapeCast S4x100x1
    (select (cmpi .slt i (broadcastInDim S4x100 ![] bcast_S_S4x100 (constantI S_ 32 0#32)))
      (addi i (broadcastInDim S4x100 ![] bcast_S_S4x100 (constantI S_ 32 5000#32))) i) shapeCasts_S4x100_S4x100x1)
/-- Rows at the hundred places kept. -/
def takeRows100 (x : FVec Ideal S4x5000x4 .f32) (i : IVec S4x100 32) : FVec Ideal S4x100x4 .f32 :=
  have i' : IVec S4x100x1 32 := shapeCast S4x100x1 i shapeCasts_S4x100_S4x100x1
  Host.gather gather_S4x5000x4_S4x100x1_S4x100x4_2_1_0_0_1_2_114 x
    (select (cmpi .slt i' (broadcastInDim S4x100x1 ![] bcast_S_S4x100x1 (constantI S_ 32 0#32)))
      (addi i' (broadcastInDim S4x100x1 ![] bcast_S_S4x100x1 (constantI S_ 32 5000#32))) i')
/-- Which boxes survive, from which places are suppressed and the order. -/
def keepT (sp : IVec S4x5000 1) (o : IVec S4x5000 32) : IVec S4x5000 1 := takeMask (noti sp) (ordI o)
/-- The hundred places kept. -/
def selT (sp : IVec S4x5000 1) (o : IVec S4x5000 32) : IVec S4x100 32 :=
  extractStridedSlice S4x100 ![0, 0] (ordI (select (keepT sp o) (ordI o)
    (broadcastInDim S4x5000 ![1] bcast_S5000_S4x5000_1 (addi (broadcastInDim S5000 ![] bcast_S_S5000 (constantI S_ 32 5000#32)) (iotaInDim S5000 32 0))))) slices_S4x5000_S4x100_0_0
/-- The scores, those of boxes that do not survive scaled down. -/
def adjT (sp : IVec S4x5000 1) (o : IVec S4x5000 32) (s : FVec Ideal S4x5000 .f32) : FVec Ideal S4x5000 .f32 :=
  select (keepT sp o) s (mulf s (broadcastInDim S4x5000 ![] bcast_S_S4x5000 (constant S_ .f32 0x3C23D70A#32)))
/-- The sizes of the images as factors of the corners. -/
def scaleT (z : IVec S4x2 32) : FVec Ideal S4x100x4 .f32 :=
  have h : FVec Ideal S4x1 .f32 := broadcastInDim S4x1 ![0] bcast_S4_S4x1_0 (sitofp .f32 (shapeCast S4 (extractStridedSlice S4x1 ![0, 0] z slices_S4x2_S4x1_0_0) shapeCasts_S4x1_S4))
  have w : FVec Ideal S4x1 .f32 := broadcastInDim S4x1 ![0] bcast_S4_S4x1_0 (sitofp .f32 (shapeCast S4 (extractStridedSlice S4x1 ![0, 1] z slices_S4x2_S4x1_0_1) shapeCasts_S4x1_S4))
  broadcastInDim S4x100x4 ![0, 1, 2] bcast_S4x1x4_S4x100x4_0_1_2 (broadcastInDim S4x1x4 ![0, 2] bcast_S4x4_S4x1x4_0_2
    (concatenate S4x4 1 [⟨S4x1, w⟩, ⟨S4x1, h⟩, ⟨S4x1, w⟩, ⟨S4x1, h⟩] concatenates_S4x1_S4x1_S4x1_S4x1_S4x4_d1))

/-- The overlap ratios as the reference computes them. -/
def iouT (x : FVec Ideal S4x5000x4 .f32) : FVec Ideal S4x5000x5000 .f32 :=
  have x1 : FVec Ideal S4x5000 .f32 := shapeCast S4x5000 (extractStridedSlice S4x5000x1 ![0, 0, 0] x slices_S4x5000x4_S4x5000x1_0_0_0) shapeCasts_S4x5000x1_S4x5000
  have y1 : FVec Ideal S4x5000 .f32 := shapeCast S4x5000 (extractStridedSlice S4x5000x1 ![0, 0, 1] x slices_S4x5000x4_S4x5000x1_0_0_1) shapeCasts_S4x5000x1_S4x5000
  have x2 : FVec Ideal S4x5000 .f32 := shapeCast S4x5000 (extractStridedSlice S4x5000x1 ![0, 0, 2] x slices_S4x5000x4_S4x5000x1_0_0_2) shapeCasts_S4x5000x1_S4x5000
  have y2 : FVec Ideal S4x5000 .f32 := shapeCast S4x5000 (extractStridedSlice S4x5000x1 ![0, 0, 3] x slices_S4x5000x4_S4x5000x1_0_0_3) shapeCasts_S4x5000x1_S4x5000
  have ar : FVec Ideal S4x5000 .f32 := mulf (subf x2 x1) (subf y2 y1)
  have I : FVec Ideal S4x5000 .f32 → FVec Ideal S4x5000x5000 .f32 := fun u =>
    broadcastInDim S4x5000x5000 ![0, 1, 2] bcast_S4x5000x1_S4x5000x5000_0_1_2 (broadcastInDim S4x5000x1 ![0, 1] bcast_S4x5000_S4x5000x1_0_1 u)
  have J : FVec Ideal S4x5000 .f32 → FVec Ideal S4x5000x5000 .f32 := fun u =>
    broadcastInDim S4x5000x5000 ![0, 1, 2] bcast_S4x1x5000_S4x5000x5000_0_1_2 (broadcastInDim S4x1x5000 ![0, 2] bcast_S4x5000_S4x1x5000_0_2 u)
  have z : FVec Ideal S4x5000x5000 .f32 := broadcastInDim S4x5000x5000 ![] bcast_S_S4x5000x5000 (constant S_ .f32 0x00000000#32)
  have n : FVec Ideal S4x5000x5000 .f32 := mulf (maximumf (subf (minimumf (I x2) (J x2)) (maximumf (I x1) (J x1))) z)
    (maximumf (subf (minimumf (I y2) (J y2)) (maximumf (I y1) (J y1))) z)
  Host.divf n (maximumf (subf (addf (I ar) (J ar)) n) (broadcastInDim S4x5000x5000 ![] bcast_S_S4x5000x5000 (constant S_ .f32 0x3089705F#32)))

/-- The host lines before the loop leave the overlaps, -/
theorem iou_read : after hostOps0_6 X (Proc.devRef .tc main_v95_0) = iouT (X (Proc.devRef .tc main_v45)) := by
  after_reads_simp; rfl

/-- The overlap ratios at a pair, from the table of boxes in rank order. -/
theorem iou_at (x : FVec Ideal S4x5000x4 .f32) (b : Fin 4) (i j : Fin 5000) (B : ℕ → ℕ → EReal)
    (hB : ∀ (p : Fin 5000) (r : Fin 4), x (Idealize.ShloMosaic.ix3 b p r) = B r p) :
    iouT x (Idealize.ShloMosaic.ix3 b i j) = Ideal.div (inter B j i) (max (area B j + area B i - inter B j i) eps) := by
  pointwise [iouT]
  simp only [show ∀ p, x (Idealize.ShloMosaic.ix3 b p 0) = B 0 p from fun p => hB p 0, show ∀ p, x (Idealize.ShloMosaic.ix3 b p 1) = B 1 p from fun p => hB p 1,
    show ∀ p, x (Idealize.ShloMosaic.ix3 b p 2) = B 2 p from fun p => hB p 2, show ∀ p, x (Idealize.ShloMosaic.ix3 b p 3) = B 3 p from fun p => hB p 3]
  unfold inter area eps
  rw [min_comm (B 2 j), min_comm (B 3 j), max_comm (B 0 j), max_comm (B 1 j), add_comm ((B 2 j - B 0 j) * _)]

variable (m : (ℓ : Loc nD τ sig) → Buf (Elt Ideal) ℓ)

/-- the shares, -/
theorem prob_read : after hostOps0 X (Proc.devRef .tc main_v13) = probT (X (Proc.devRef .tc main_arg0)) := by
  after_reads_simp; rfl
/-- the scores, -/
theorem score_read : after hostOps0 X (Proc.devRef .tc main_v12) = scoreT (X (Proc.devRef .tc main_arg0)) := by
  after_reads_simp; rfl
/-- the classes, -/
theorem lab_read : after hostOps0_1 (after hostOps0 X) (Proc.devRef .tc main_v14) = labT (X (Proc.devRef .tc main_arg0)) := by
  have h : ∀ Y : Valuation τ sig (Elt Ideal), after hostOps0_1 Y (Proc.devRef .tc main_v14) = fun j =>
      (Host.argReduce reducer_argmax_f32_i32 (Y (Proc.devRef .tc main_v13) : FVec Ideal S4x5000x91 .f32) (iotaInDim S4x5000x91 32 2) (constant (F := Ideal) S_ .f32 0xFF800000#32) (constantI S_ 32 0#32)
        reducesTo_S4x5000x91_S4x5000_d2 h_S_ j).2 := fun Y => by after_reads_simp; rfl
  rw [h, prob_read]; rfl
/-- the corners, -/
theorem corn_read : after hostOps0_2 X (Proc.devRef .tc main_v31) = cornT (X (Proc.devRef .tc main_arg1)) := by
  after_reads_simp; rfl
/-- the corners moved apart by class, -/
theorem off_read : after hostOps0_2 X (Proc.devRef .tc main_v41) = offT (cornT (X (Proc.devRef .tc main_arg1))) (X (Proc.devRef .tc main_v14)) := by
  after_reads_simp; rfl
/-- the order -/
theorem ord_read : after hostOps0_3 (after hostOps0_2 X) (Proc.devRef .tc main_v43) = ordT (X (Proc.devRef .tc main_v12)) := by
  after_reads_simp; rfl
/-- and the boxes in that order. -/
theorem box_read : after hostOps0_5 (after hostOps0_4 X) (Proc.devRef .tc main_v45) = takeRows (X (Proc.devRef .tc main_v41)) (X (Proc.devRef .tc main_v43)) := by
  after_reads_simp; rfl

end Cert.Proof.Nms.Ref
end
-- ==== Proof.Nms.Lane.lean ====
/-
  One box's scores: the largest, its share of the sum of exponentials, and where it is first reached — over plain numbers.
-/
module

public import proofs.«01_k».proof.Proof.Nms.Spec
public import Idealize.ShloMosaic.Lib.DynamicIndex
public import Idealize.ShloMosaic.PureOps.Ideal

@[expose] public section

noncomputable section

namespace Cert.Proof.Nms

open Idealize.ShloMosaic

/-- The largest of the first `n` scores. -/
def lmax (n : ℕ) (L : ℕ → EReal) : EReal := Finset.fold max ⊥ (fun x : Fin n => L x) Finset.univ
/-- The sum of the exponentials of the scores less the largest. -/
def lden (L : ℕ → EReal) : EReal := ∑ x : Fin 92, Ideal.exp (L x - lmax 92 L)
/-- One score's share. -/
def lprob (L : ℕ → EReal) (j : ℕ) : EReal := Ideal.div (Ideal.exp (L j - lmax 92 L)) (lden L)
/-- The share of the largest of the first 91. -/
def lscore (L : ℕ → EReal) : EReal := Ideal.div (Ideal.exp (lmax 91 L - lmax 92 L)) (lden L)
/-- Where that one is first reached. -/
def llab (L : ℕ → EReal) : ℕ := sInf {j | j < 91 ∧ L j = lmax 91 L}

/-- The largest score is reached and bounds the others. -/
theorem lmax_attained {n : ℕ} (hn : 0 < n) (L : ℕ → EReal) : ∃ j, j < n ∧ L j = lmax n L ∧ ∀ k, k < n → L k ≤ L j := by
  haveI : Nonempty (Fin n) := ⟨⟨0, hn⟩⟩
  obtain ⟨j, hj⟩ := Finite.exists_max (fun x : Fin n => L x)
  refine ⟨j, j.isLt, le_antisymm ?_ ?_, fun k hk => hj ⟨k, hk⟩⟩
  · unfold lmax; rw [Finset.le_fold_max]; exact Or.inr ⟨j, Finset.mem_univ _, le_rfl⟩
  · unfold lmax; rw [Finset.fold_max_le]; exact ⟨bot_le, fun x _ => hj x⟩

/-- The class is among the first 91 and has their largest score. -/
theorem llab_spec (L : ℕ → EReal) : llab L < 91 ∧ L (llab L) = lmax 91 L := by
  obtain ⟨j, hj, h, _⟩ := lmax_attained (n := 91) (by norm_num) L
  exact Nat.sInf_mem (s := {j | j < 91 ∧ L j = lmax 91 L}) ⟨j, hj, h⟩

/-- No score is above the largest. -/
theorem le_lmax {n : ℕ} (L : ℕ → EReal) {k : ℕ} (hk : k < n) : L k ≤ lmax n L := by
  unfold lmax; rw [Finset.le_fold_max]; exact Or.inr ⟨⟨k, hk⟩, Finset.mem_univ _, le_rfl⟩

/-- The place is told by being at least every other and first among equals. -/
theorem llab_eq (L : ℕ → EReal) {j : ℕ} (hj : j < 91) (h : ∀ k, k < 91 → L k < L j ∨ (L k = L j ∧ j ≤ k)) : llab L = j := by
  obtain ⟨h1, h2⟩ := llab_spec L
  have hm : L j = lmax 91 L := by
    refine le_antisymm (le_lmax L hj) ?_
    rw [← h2]
    rcases h _ h1 with h' | ⟨h', _⟩
    · exact h'.le
    · exact h'.le
  have h3 : llab L ≤ j := Nat.sInf_le ⟨hj, hm⟩
  rcases h _ h1 with h' | ⟨_, h'⟩
  · rw [h2, hm] at h'; exact absurd h' (lt_irrefl _)
  · omega

/-- The exponential of a score less `M`, as a real: zero at the lowest. -/
def expo (M : ℝ) (x : EReal) : ℝ := if x = ⊥ then 0 else Real.exp (x.toReal - M)

/-- It is not negative. -/
theorem expo_nonneg (M : ℝ) (x : EReal) : 0 ≤ expo M x := by
  unfold expo; split
  · exact le_rfl
  · exact (Real.exp_pos _).le

/-- At a real score it is the exponential. -/
theorem expo_coe (M r : ℝ) : expo M (r : EReal) = Real.exp (r - M) := by
  unfold expo; rw [if_neg (EReal.coe_ne_bot r), EReal.toReal_coe]

/-- At the lowest score it is zero. -/
theorem expo_bot (M : ℝ) : expo M ⊥ = 0 := if_pos rfl

/-- Below infinity it is the exponential of the extended difference. -/
theorem exp_sub (M : ℝ) {x : EReal} (hx : x < ⊤) : Ideal.exp (x - (M : EReal)) = ((expo M x : ℝ) : EReal) := by
  induction x with
  | bot => rw [EReal.bot_sub, expo_bot]; rfl
  | top => exact absurd hx (lt_irrefl _)
  | coe r => rw [← EReal.coe_sub, expo_coe]; rfl

/-- Below infinity it grows strictly. -/
theorem expo_lt (M : ℝ) {x y : EReal} (hx : x < ⊤) (hy : y < ⊤) : expo M x < expo M y ↔ x < y := by
  induction x with
  | top => exact absurd hx (lt_irrefl _)
  | bot =>
    induction y with
    | top => exact absurd hy (lt_irrefl _)
    | bot => simp only [lt_irrefl]
    | coe r => rw [expo_bot, expo_coe]; exact iff_of_true (Real.exp_pos _) (EReal.bot_lt_coe r)
  | coe q =>
    induction y with
    | top => exact absurd hy (lt_irrefl _)
    | bot => rw [expo_bot, expo_coe]; exact iff_of_false (not_lt.mpr (Real.exp_pos _).le) not_lt_bot
    | coe r => rw [expo_coe, expo_coe, Real.exp_lt_exp, EReal.coe_lt_coe_iff]; exact sub_lt_sub_iff_right M

/-- Where the largest score is real every score is below infinity. -/
theorem below_top (L : ℕ → EReal) {M : ℝ} (hM : lmax 92 L = (M : EReal)) {j : ℕ} (hj : j < 92) : L j < ⊤ :=
  lt_of_le_of_lt (le_lmax L hj) (hM ▸ EReal.coe_lt_top M)

/-- Where the largest score is real the shares are real: a positive multiple of the exponentials. -/
theorem lane_real (L : ℕ → EReal) {M : ℝ} (hM : lmax 92 L = (M : EReal)) :
    ∃ D : ℝ, 0 < D ∧ ∀ x : EReal, x < ⊤ → Ideal.div (Ideal.exp (x - lmax 92 L)) (lden L) = ((expo M x / D : ℝ) : EReal) := by
  have hD : lden L = ((∑ x : Fin 92, expo M (L x) : ℝ) : EReal) := by
    unfold lden
    rw [hM, Finset.sum_congr rfl fun x _ => exp_sub M (below_top L hM x.isLt)]
    exact (map_sum (⟨⟨Real.toEReal, EReal.coe_zero⟩, EReal.coe_add⟩ : ℝ →+ EReal) _ _).symm
  have hpos : 0 < ∑ x : Fin 92, expo M (L x) := by
    obtain ⟨j0, h0, h1, _⟩ := lmax_attained (n := 92) (by norm_num) L
    refine Finset.sum_pos' (fun x _ => expo_nonneg M _) ⟨⟨j0, h0⟩, Finset.mem_univ _, ?_⟩
    show 0 < expo M (L j0)
    rw [h1, hM, expo_coe]
    exact Real.exp_pos _
  refine ⟨∑ x : Fin 92, expo M (L x), hpos, fun x hx => ?_⟩
  rw [hD, hM, exp_sub M hx]
  unfold Ideal.div
  rw [if_neg (fun h => hpos.ne' (EReal.coe_eq_zero.mp h)), ← EReal.coe_inv, ← EReal.coe_mul, div_eq_mul_inv]

/-- The shares keep the scores' order. -/
theorem lprob_lt (L : ℕ → EReal) {M : ℝ} (hM : lmax 92 L = (M : EReal)) {j k : ℕ} (hj : j < 92) (hk : k < 92) :
    lprob L j < lprob L k ↔ L j < L k := by
  obtain ⟨D, hD, h⟩ := lane_real L hM
  unfold lprob
  rw [h _ (below_top L hM hj), h _ (below_top L hM hk), EReal.coe_lt_coe_iff, div_lt_div_iff_of_pos_right hD]
  exact expo_lt M (below_top L hM hj) (below_top L hM hk)

/-- Where the largest score is real no share is negative. -/
theorem lprob_nonneg (L : ℕ → EReal) {M : ℝ} (hM : lmax 92 L = (M : EReal)) {j : ℕ} (hj : j < 92) : 0 ≤ lprob L j := by
  obtain ⟨D, hD, h⟩ := lane_real L hM
  unfold lprob
  rw [h _ (below_top L hM hj), ← EReal.coe_zero, EReal.coe_le_coe_iff]
  exact div_nonneg (expo_nonneg M _) hD.le

/-- The largest share is the share of the largest. -/
theorem lscore_eq (L : ℕ → EReal) {M : ℝ} (hM : lmax 92 L = (M : EReal)) : lmax 91 (lprob L) = lscore L := by
  obtain ⟨h1, h2⟩ := llab_spec L
  have hs : lscore L = lprob L (llab L) := by unfold lscore lprob; rw [h2]
  rw [hs]
  refine le_antisymm ?_ (le_lmax _ h1)
  unfold lmax
  rw [Finset.fold_max_le]
  refine ⟨bot_le, fun x _ => ?_⟩
  refine not_lt.mp fun h => ?_
  rw [lprob_lt L hM (by omega) (by omega), h2] at h
  exact absurd (le_lmax L x.isLt) (not_le.mpr h)

/-- Where the largest score is real the largest share is not negative. -/
theorem lscore_nonneg (L : ℕ → EReal) {M : ℝ} (hM : lmax 92 L = (M : EReal)) : 0 ≤ lscore L := by
  obtain ⟨h1, h2⟩ := llab_spec L
  have hs : lscore L = lprob L (llab L) := by unfold lscore lprob; rw [h2]
  rw [hs]; exact lprob_nonneg L hM (by omega)

/-! ### The kernel's 128 lanes, of which only some count -/

/-- A choice by a comparison of small words is a choice by a comparison of numbers. -/
theorem select_lt {α : Type} {a k : ℕ} (ha : a < 2 ^ 31) (hk : k < 2 ^ 31) (x y : α) :
    Scalar.select (IntOp.cmpi .slt (BitVec.ofNat 32 a) (BitVec.ofNat 32 k)) x y = if a < k then x else y := by
  have e : IntOp.cmpi .slt (BitVec.ofNat 32 a) (BitVec.ofNat 32 k) = BitVec.ofBool (decide (a < k)) := by
    show BitVec.ofBool ((BitVec.ofNat 32 a).slt (BitVec.ofNat 32 k)) = _
    rw [BitVec.slt, toInt_ofNat_of_lt ha, toInt_ofNat_of_lt hk]
    exact congrArg BitVec.ofBool (decide_eq_decide.mpr Int.ofNat_lt)
  rw [e]
  show (if BitVec.ofBool (decide (a < k)) = 1 then x else y) = _
  by_cases h : a < k
  · rw [if_pos h, decide_eq_true h]; exact if_pos rfl
  · rw [if_neg h, decide_eq_false h]; exact if_neg (by decide)

/-- The largest over more lanes, with the lowest value in the lanes that do not count. -/
theorem fold_cut {N n : ℕ} (hn : n ≤ N) (L : ℕ → EReal) :
    Finset.fold max ⊥ (fun x : Fin N => if x.val < n then L x else ⊥) Finset.univ = lmax n L := by
  refine le_antisymm ?_ ?_
  · rw [Finset.fold_max_le]
    refine ⟨bot_le, fun x _ => ?_⟩
    split
    · rename_i h; exact le_lmax L h
    · exact bot_le
  · unfold lmax
    rw [Finset.fold_max_le]
    refine ⟨bot_le, fun x _ => ?_⟩
    rw [Finset.le_fold_max]
    exact Or.inr ⟨⟨x, by omega⟩, Finset.mem_univ _, by rw [if_pos x.isLt]⟩

/-- The sum over more lanes, with zero in the lanes that do not count. -/
theorem sum_cut {N n : ℕ} (hn : n ≤ N) (f : ℕ → EReal) :
    (∑ x : Fin N, if x.val < n then f x else 0) = ∑ x : Fin n, f x := by
  rw [← Finset.sum_filter]
  refine Finset.sum_bij' (fun x hx => ⟨x.val, (Finset.mem_filter.mp hx).2⟩) (fun x _ => ⟨x.val, by omega⟩) ?_ ?_ ?_ ?_ ?_
  · intro x hx; exact Finset.mem_univ _
  · intro x _; exact Finset.mem_filter.mpr ⟨Finset.mem_univ _, x.isLt⟩
  · intro x hx; rfl
  · intro x _; rfl
  · intro x hx; rfl

/-- The smaller of two small words is the word of the smaller number. -/
theorem minsi_nat {a b : ℕ} (ha : a < 2 ^ 31) (hb : b < 2 ^ 31) :
    IntOp.minsi (BitVec.ofNat 32 a) (BitVec.ofNat 32 b) = BitVec.ofNat 32 (min a b) := by
  unfold IntOp.minsi
  have e : (BitVec.ofNat 32 a).slt (BitVec.ofNat 32 b) = decide (a < b) := by
    rw [BitVec.slt, toInt_ofNat_of_lt ha, toInt_ofNat_of_lt hb]
    exact decide_eq_decide.mpr Int.ofNat_lt
  rw [e]
  by_cases h : a < b
  · rw [min_eq_left h.le, decide_eq_true h]; rfl
  · rw [min_eq_right (not_lt.mp h), decide_eq_false h]; rfl

/-- The least of whole numbers, computed on words. -/
theorem fold_minsi {N : ℕ} (g : Fin N → ℕ) (hg : ∀ x, g x < 2 ^ 31) (s : Finset (Fin N)) :
    Finset.fold IntOp.minsi (2147483647#32) (fun x => BitVec.ofNat 32 (g x)) s = BitVec.ofNat 32 (Finset.fold min 2147483647 g s)
      ∧ Finset.fold min 2147483647 g s < 2 ^ 31 := by
  classical
  induction s using Finset.induction_on with
  | empty => exact ⟨rfl, by simp⟩
  | insert a s ha ih =>
    rw [Finset.fold_insert ha, Finset.fold_insert ha, ih.1]
    exact ⟨minsi_nat (hg a) ih.2, lt_of_le_of_lt (min_le_left _ _) (hg a)⟩

/-- The least lane that holds the largest score, with 10000 in the other lanes, is the class. -/
theorem fold_lab {N : ℕ} (hN : 91 ≤ N) (L : ℕ → EReal) (g : Fin N → ℕ)
    (h1 : ∀ x : Fin N, L x = lmax 91 L → x.val < 91 → g x = x) (h2 : ∀ x : Fin N, ¬ (L x = lmax 91 L ∧ x.val < 91) → g x = 10000) :
    Finset.fold min 2147483647 g Finset.univ = llab L := by
  obtain ⟨ha, hb⟩ := llab_spec L
  refine le_antisymm ?_ ?_
  · rw [Finset.fold_min_le]
    exact Or.inr ⟨⟨llab L, by omega⟩, Finset.mem_univ _, (h1 ⟨llab L, by omega⟩ hb ha).le⟩
  · rw [Finset.le_fold_min]
    refine ⟨by omega, fun x _ => ?_⟩
    by_cases hx : L x = lmax 91 L ∧ x.val < 91
    · rw [h1 x hx.1 hx.2]; exact Nat.sInf_le ⟨hx.2, hx.1⟩
    · rw [h2 x hx]; omega

end Cert.Proof.Nms

end
-- ==== Proof.Nms.RefM.lean ====
/-
  The reference's largest corner of an image and largest score of a box.
-/
module

public import proofs.«01_k».proof.Proof.Nms.RefA
public import proofs.«01_k».proof.Proof.Nms.Lane

@[expose] public section

set_option maxRecDepth 16384

noncomputable section

namespace Cert.Proof.Nms.Ref

open Cert.ReferenceIdeal Cert.ReferenceIdeal.Gen
open Idealize.ShloMosaic

/-- The largest corner of an image is the largest of its boxes' corners. -/
theorem mc_at (x : FVec Ideal S4x5000x4 .f32) (b : Fin 4) (D : ℕ → ℕ → EReal)
    (hx : ∀ (p : Fin 5000) (r : Fin 4), x (Idealize.ShloMosaic.ix3 b p r) = D r p) :
    mcT x (Idealize.ShloMosaic.ix1 b) = Finset.fold max ⊥ (fun x : Fin 5000 × Fin 4 => D x.2 x.1) Finset.univ := by
  pointwise [mcT]
  rw [bot_bits, show (fun q : Fin 5000 × Fin 4 => x (Idealize.ShloMosaic.ix3 b q.1 q.2)) = fun q : Fin 5000 × Fin 4 => D q.2 q.1 from
    funext fun q => hx q.1 q.2]

/-- The largest score of a box. -/
def topT (x : FVec Ideal S4x5000x92 .f32) : FVec Ideal S4x5000 .f32 :=
  Host.reduce FloatOps.maximumf x (constant S_ .f32 0xFF800000#32) reducesTo_S4x5000x92_S4x5000_d2 h_S_

/-- The largest score of a box is the largest of its 92. -/
theorem top_at (x : FVec Ideal S4x5000x92 .f32) (b : Fin 4) (c : Fin 5000) (L : ℕ → EReal)
    (hL : ∀ k : Fin 92, x (Idealize.ShloMosaic.ix3 b c k) = L k) : topT x (Idealize.ShloMosaic.ix2 b c) = lmax 92 L := by
  pointwise [topT]
  rw [bot_bits, show (fun k : Fin 92 => x (Idealize.ShloMosaic.ix3 b c k)) = fun k : Fin 92 => L k from funext hL]
  rfl

end Cert.Proof.Nms.Ref
end
-- ==== Proof.Nms.PreDec.lean ====
/-
  What the precondition says of the arguments.
-/
module

public import proofs.«01_k».proof.Proof.Gen.Pre_finite_top_logit_corner_nonneg
public import proofs.«01_k».proof.Proof.Nms.RefM
public import Idealize.ShloMosaic.Lib.ReduceAll
public import Idealize.ShloMosaic.Lib.Pipeline.ValueKit

@[expose] public section

set_option maxRecDepth 16384

noncomputable section

namespace Cert.Proof.Nms

open Cert.Pre_finite_top_logit_corner_nonneg
open Idealize.ShloMosaic

/-- The float of plus infinity. -/
theorem top_bits : Ideal.ofBits .f32 0x7F800000#32 = ⊤ := by
  simp [Ideal.ofBits, Ideal.ieee]

/-- A number whose absolute value is below infinity is a real. -/
theorem real_of_abs {a : EReal} (h : max a (-a) < ⊤) : ∃ r : ℝ, a = (r : EReal) := by
  induction a with
  | bot => simp at h
  | top => simp at h
  | coe r => exact ⟨r, rfl⟩

/-- What the precondition asks of the largest scores `t` and the largest corners `k`. -/
def asks [Facts] (t : FVec Ideal S4x5000 .f32) (k : FVec Ideal S4 .f32) : IVec S_ 1 :=
  andi (Host.reduce IntOp.andi (cmpf .olt (Host.absf t) (broadcastInDim S4x5000 ![] Facts.bcast_S_S4x5000 (constant S_ .f32 0x7F800000#32)))
      (constantI S_ 1 1#1) Facts.reducesTo_S4x5000_S_d0_1 Facts.h_S_)
    (Host.reduce IntOp.andi (cmpf .oge k (broadcastInDim S4 ![] Facts.bcast_S_S4 (constant S_ .f32 0x00000000#32)))
      (constantI S_ 1 1#1) Facts.reducesTo_S4_S_d0 Facts.h_S_)

/-- The precondition asks it of the arguments' largest scores and largest corners. -/
theorem fn_asks [Facts] (x0 : FVec Ideal S4x5000x92 .f32) (x1 : FVec Ideal S4x5000x4 .f32) (x2 : IVec S4x2 32) :
    fn (F := Ideal) x0 x1 x2 = asks (Ref.topT x0) (Ref.mcT (Ref.cornT x1)) := by
  unfold fn fn_part1 asks Ref.topT Ref.mcT Ref.cornT
  rfl

/-- What it asks, read back. -/
theorem asks_dec [Facts] (t : FVec Ideal S4x5000 .f32) (k : FVec Ideal S4 .f32) (h : asks t k = fun _ => 1#1) :
    (∀ i, ∃ r : ℝ, t i = (r : EReal)) ∧ ∀ i, 0 ≤ k i := by
  have e := congrFun h (fun a => a.elim0)
  haveI : Subsingleton S_.Idx := ⟨fun a b => funext fun k => k.elim0⟩
  obtain ⟨e0, e1⟩ := IntOp.andi_eq_one.1 e
  refine ⟨fun i => ?_, fun i => ?_⟩
  · have hi := Host.reduce_andi_all _ _ _ _ _ e0 i
    have hb : FloatOps.cmpf (F := Ideal) (φ := .f32) .olt (max (t i) (-t i)) (Ideal.ofBits .f32 0x7F800000#32) = 1#1 := hi
    rw [top_bits] at hb
    apply real_of_abs
    by_contra hc
    simp [Ideal.cmpf_def, Ideal.cmp, hc] at hb
  · have hi := Host.reduce_andi_all _ _ _ _ _ e1 i
    have hb : FloatOps.cmpf (F := Ideal) (φ := .f32) .oge (k i) (Ideal.ofBits .f32 0x00000000#32) = 1#1 := hi
    have hz : Ideal.ofBits .f32 0x00000000#32 = 0 := by simp [Ideal.ofBits, Ideal.ieee]
    rw [hz] at hb
    by_contra hc
    simp [Ideal.cmpf_def, Ideal.cmp, hc] at hb

/-- Under the precondition the largest score of every box is a real number and no image has its largest corner below zero. -/
theorem pre_dec [Facts] (x0 : FVec Ideal S4x5000x92 .f32) (x1 : FVec Ideal S4x5000x4 .f32) (x2 : IVec S4x2 32)
    (h : fn (F := Ideal) x0 x1 x2 = fun _ => 1#1) :
    (∀ (b : Fin 4) (p : Fin 5000), ∃ r : ℝ, Ref.topT x0 (Idealize.ShloMosaic.ix2 b p) = (r : EReal))
      ∧ ∀ b : Fin 4, 0 ≤ Ref.mcT (Ref.cornT x1) (Idealize.ShloMosaic.ix1 b) := by
  rw [fn_asks] at h
  obtain ⟨h0, h1⟩ := asks_dec _ _ h
  exact ⟨fun b p => h0 _, fun b => h1 _⟩

end Cert.Proof.Nms
end
-- ==== Proof.Nms.Tab.lean ====
/-
  The kernel's table of one image, row by row, in terms of the blocks it is computed from.
-/
module

public import proofs.«01_k».proof.Proof.Nms.Launch
public import proofs.«01_k».proof.Proof.Nms.Lane
public import Idealize.ShloMosaic.Lib.Pipeline.ValueKit
public import Idealize.ShloMosaic.Lib.DynamicIndex

@[expose] public section

set_option maxRecDepth 16384

noncomputable section

namespace Cert.Proof.Nms

open Cert.KernelIdeal Cert.KernelIdeal.Gen
open Idealize.ShloMosaic

variable (X1 : FVec Ideal S1x5120x128 .f32) (X2 : FVec Ideal S1x8x5120 .f32)

/-- The left edges. -/
theorem row0 (p : Fin 5120) : tbl X1 X2 0 p = X2 (Idealize.ShloMosaic.ix3 0 0 p) - half * X2 (Idealize.ShloMosaic.ix3 0 2 p) := by
  unfold tbl
  rw [if_pos rfl]
  unfold rowOf; rw [dif_pos p.isLt]
  pointwise [k0_pay34, k0_pay30, k0_pay32, k0_pay29]
  rfl
/-- The upper edges. -/
theorem row1 (p : Fin 5120) : tbl X1 X2 1 p = X2 (Idealize.ShloMosaic.ix3 0 1 p) - half * X2 (Idealize.ShloMosaic.ix3 0 3 p) := by
  unfold tbl
  rw [if_neg (by decide), if_pos rfl]
  unfold rowOf; rw [dif_pos p.isLt]
  pointwise [k0_pay35, k0_pay31, k0_pay33, k0_pay29]
  rfl
/-- The right edges. -/
theorem row2 (p : Fin 5120) : tbl X1 X2 2 p = X2 (Idealize.ShloMosaic.ix3 0 0 p) + half * X2 (Idealize.ShloMosaic.ix3 0 2 p) := by
  unfold tbl
  rw [if_neg (by decide), if_neg (by decide), if_pos rfl]
  unfold rowOf; rw [dif_pos p.isLt]
  pointwise [k0_pay36, k0_pay30, k0_pay32, k0_pay29]
  rfl
/-- The lower edges. -/
theorem row3 (p : Fin 5120) : tbl X1 X2 3 p = X2 (Idealize.ShloMosaic.ix3 0 1 p) + half * X2 (Idealize.ShloMosaic.ix3 0 3 p) := by
  unfold tbl
  rw [if_neg (by decide), if_neg (by decide), if_neg (by decide), if_pos rfl]
  unfold rowOf; rw [dif_pos p.isLt]
  pointwise [k0_pay38, k0_pay37, k0_pay31, k0_pay33, k0_pay29]
  rfl

/-- A choice between the 91 foreground lanes and the others. -/
theorem sel91 (x : Fin 128) {α : Type} (a b : α) : Scalar.select (IntOp.cmpi .slt (BitVec.ofNat 32 x) 91#32) a b = if x.val < 91 then a else b :=
  select_lt (by omega) (by norm_num) a b
/-- A choice between the 92 true lanes and the others. -/
theorem sel92 (x : Fin 128) {α : Type} (a b : α) : Scalar.select (IntOp.cmpi .slt (BitVec.ofNat 32 x) 92#32) a b = if x.val < 92 then a else b :=
  select_lt (by omega) (by norm_num) a b
/-- A choice between the true boxes and the padded places. -/
theorem sel5000 (x : Fin 5120) {α : Type} (a b : α) : Scalar.select (IntOp.cmpi .slt (BitVec.ofNat 32 x) 5000#32) a b = if x.val < 5000 then a else b :=
  select_lt (by omega) (by norm_num) a b

/-- The largest of a box's scores among the first `n`, as the kernel computes it. -/
theorem top_eq {p : Fin 5120} {L : ℕ → EReal} (hL : ∀ x : Fin 128, x.val < 92 → X1 (Idealize.ShloMosaic.ix3 0 p x) = L x) {n : ℕ} (hn : n ≤ 92) :
    Finset.fold max ⊥ (fun x : Fin 128 => if x.val < n then X1 (Idealize.ShloMosaic.ix3 0 p x) else ⊥) Finset.univ = lmax n L := by
  rw [← fold_cut (N := 128) (by omega) L]
  congr 1
  funext x
  split
  · rename_i h; exact hL x (by omega)
  · rfl

/-- The scores: a true box's largest share, and -1 in a padded place. -/
theorem row4 (p : Fin 5120) (L : ℕ → EReal) (hL : ∀ x : Fin 128, x.val < 92 → X1 (Idealize.ShloMosaic.ix3 0 p x) = L x) :
    tbl X1 X2 4 p = if p.val < 5000 then lscore L else Ideal.ofBits FTy.f32 3212836864#32 := by
  unfold tbl
  rw [if_neg (by decide), if_neg (by decide), if_neg (by decide), if_neg (by decide), if_pos rfl]
  unfold colOf; rw [dif_pos p.isLt]
  pointwise [k0_pay27, k0_pay26, k0_pay24, k0_pay23, k0_pay22, k0_pay21]
  simp only [sel91, sel92, sel5000, bot_bits]
  rw [top_eq X1 hL (show 91 ≤ 92 by norm_num), top_eq X1 hL (show 92 ≤ 92 by norm_num)]
  refine congrArg (fun z => if p.val < 5000 then Ideal.div (Ideal.exp (lmax 91 L - lmax 92 L)) z else _) ?_
  unfold lden
  rw [← sum_cut (N := 128) (show 92 ≤ 128 by norm_num) (fun x => Ideal.exp (L x - lmax 92 L))]
  refine Finset.sum_congr rfl fun x _ => ?_
  split
  · rename_i h; rw [hL x h]
  · rfl

/-- The classes of the true boxes. -/
theorem row5 (p : Fin 5120) (hp : p.val < 5000) (L : ℕ → EReal) (hL : ∀ x : Fin 128, x.val < 92 → X1 (Idealize.ShloMosaic.ix3 0 p x) = L x) :
    tbl X1 X2 5 p = ((llab L : ℕ) : EReal) := by
  classical
  unfold tbl
  rw [if_neg (by decide), if_neg (by decide), if_neg (by decide), if_neg (by decide), if_neg (by decide), if_pos rfl]
  unfold colOf; rw [dif_pos p.isLt]
  pointwise [k0_pay28, k0_pay26, k0_pay25, k0_pay23, k0_pay22, k0_pay21]
  simp only [sel91, sel5000, bot_bits]
  rw [top_eq X1 hL (show 91 ≤ 92 by norm_num), if_pos hp]
  have hg : ∀ x : Fin 128, Scalar.select (IntOp.andi (BitVec.ofBool (decide (X1 (Idealize.ShloMosaic.ix3 0 p x) = lmax 91 L))) (IntOp.cmpi CmpIPredicate.slt (BitVec.ofNat 32 x) 91#32))
      (BitVec.ofNat 32 x) 10000#32 = BitVec.ofNat 32 (if L x = lmax 91 L ∧ x.val < 91 then x.val else 10000) := fun x => by
    have e : IntOp.cmpi .slt (BitVec.ofNat 32 x) 91#32 = BitVec.ofBool (decide (x.val < 91)) := by
      show BitVec.ofBool ((BitVec.ofNat 32 x.val).slt (BitVec.ofNat 32 91)) = _
      rw [BitVec.slt, toInt_ofNat_of_lt (by omega), toInt_ofNat_of_lt (by norm_num)]
      exact congrArg BitVec.ofBool (decide_eq_decide.mpr Int.ofNat_lt)
    rw [e]
    by_cases hx : x.val < 91
    · rw [hL x (by omega)]
      by_cases hy : L x = lmax 91 L
      · rw [if_pos ⟨hy, hx⟩, decide_eq_true hy, decide_eq_true hx]; rfl
      · rw [if_neg (fun h => hy h.1), decide_eq_false hy, decide_eq_true hx]; rfl
    · rw [if_neg (fun h => hx h.2), decide_eq_false hx]
      cases decide (X1 (Idealize.ShloMosaic.ix3 0 p x) = lmax 91 L) <;> rfl
  simp only [hg]
  have hb : ∀ x : Fin 128, (if L x = lmax 91 L ∧ x.val < 91 then x.val else 10000) < 2 ^ 31 := fun x => by split <;> omega
  rw [(fold_minsi _ hb Finset.univ).1, fold_lab (by norm_num) L _ (fun x h h' => if_pos ⟨h, h'⟩) (fun x h => if_neg h)]
  show (((BitVec.ofNat 32 (llab L)).toInt : ℝ) : EReal) = _
  rw [toInt_ofNat_of_lt (lt_trans (llab_spec L).1 (by norm_num))]
  rw [Int.cast_natCast]; rfl

/-- Past its 5120 columns the table is zero. -/
theorem row_out {r p : ℕ} (hr : r < 6) (hp : 5120 ≤ p) : tbl X1 X2 r p = 0 := by
  have h : ¬ p < 5120 := by omega
  unfold tbl rowOf colOf
  rw [dif_neg h, dif_neg h, dif_neg h, dif_neg h, dif_neg h, dif_neg h]
  repeat' split
  all_goals first | rfl | omega

end Cert.Proof.Nms

end
-- ==== Proof.Nms.KVal.lean ====
/-
  What the kernel leaves in its three results, in terms of the table of each image.
-/
module

public import proofs.«01_k».proof.Proof.Nms.Launch
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window)

/-- The padded scores. -/
def padL (x : FVec Ideal S4x5000x92 .f32) : FVec Ideal S4x5120x128 .f32 :=
  pad S4x5120x128 ![0, 0, 0] ![0, 120, 36] ![0, 0, 0] x (sitofp .f32 (constantI S_ 32 0#32)) pads_S4x5000x92_S4x5120x128_000_01200_0360 h_S_
/-- The padded boxes, one row per coordinate. -/
def padB (x : FVec Ideal S4x5000x4 .f32) : FVec Ideal S4x8x5120 .f32 :=
  pad S4x8x5120 ![0, 0, 0] ![0, 4, 120] ![0, 0, 0] (transpose S4x4x5000 [0, 2, 1] x transposes_S4x5000x4_S4x4x5000_0_2_1)
    (sitofp .f32 (constantI S_ 32 0#32)) pads_S4x4x5000_S4x8x5120_000_040_01200 h_S_

/-- Inside the padding the padded scores are the scores. -/
theorem padL_in (x : FVec Ideal S4x5000x92 .f32) (b : Fin 4) (p : Fin 5120) (j : Fin 128) (hp : p.val < 5000) (hj : j.val < 92) :
    padL x (Idealize.ShloMosaic.ix3 b p j) = x (Idealize.ShloMosaic.ix3 b ⟨p.val, hp⟩ ⟨j.val, hj⟩) := by
  pointwise [padL]
  exact dif_pos ⟨hp, hj⟩
/-- Inside the padding the padded boxes are the boxes, transposed. -/
theorem padB_in (x : FVec Ideal S4x5000x4 .f32) (b : Fin 4) (r : Fin 8) (p : Fin 5120) (hr : r.val < 4) (hp : p.val < 5000) :
    padB x (Idealize.ShloMosaic.ix3 b r p) = x (Idealize.ShloMosaic.ix3 b ⟨p.val, hp⟩ ⟨r.val, hr⟩) := by
  pointwise [padB]
  exact dif_pos ⟨hr, hp⟩
/-- Past the last box the padded boxes are zero. -/
theorem padB_out (x : FVec Ideal S4x5000x4 .f32) (b : Fin 4) (r : Fin 8) (p : Fin 5120) (hp : ¬ p.val < 5000) :
    padB x (Idealize.ShloMosaic.ix3 b r p) = 0 := by
  pointwise [padB]
  rw [dif_neg fun h => hp h.2]
  show (((0#32 : BitVec 32).toInt : ℝ) : EReal) = 0
  norm_num

variable (m : (ℓ : Loc nD τ sig) → Buf (Elt Ideal) ℓ)

/-- The first array handed to the call is the padded scores, -/
theorem V_v0 (c : Dev nD) : V m c main_call0_v0 = padL (m ((c : Thread nD τ).loc main_arg0)) := by
  show StableHlo.after hostOps0 _ _ = _
  after_reads_simp
  rfl
/-- the second the padded boxes. -/
theorem V_v2 (c : Dev nD) : V m c main_call0_v2 = padB (m ((c : Thread nD τ).loc main_arg1)) := by
  show StableHlo.after hostOps0 _ _ = _
  after_reads_simp
  rfl

/-- The image a grid point treats. -/
abbrev img (t : Fin (cfg0 (F := Ideal)).N) : Fin 4 := t
/-- Step `t` of the grid reads the scores of image `t`, -/
theorem idx0 : ∀ t : Fin (cfg0 (F := Ideal)).N, win0_0.index t = ![(img t).val, 0, 0] := (by decide +kernel : ∀ t : Fin grid0.N, _)
/-- and its boxes, -/
theorem idx1 : ∀ t : Fin (cfg0 (F := Ideal)).N, win0_1.index t = ![(img t).val, 0, 0] := (by decide +kernel : ∀ t : Fin grid0.N, _)
/-- and writes the scores kept of image `t`, -/
theorem idx2 : ∀ t : Fin (cfg0 (F := Ideal)).N, win0_2.index t = ![(img t).val, 0, 0] := (by decide +kernel : ∀ t : Fin grid0.N, _)
/-- their labels -/
theorem idx3 : ∀ t : Fin (cfg0 (F := Ideal)).N, win0_3.index t = ![(img t).val, 0, 0] := (by decide +kernel : ∀ t : Fin grid0.N, _)
/-- and their corners. -/
theorem idx4 : ∀ t : Fin (cfg0 (F := Ideal)).N, win0_4.index t = ![(img t).val, 0, 0] := (by decide +kernel : ∀ t : Fin grid0.N, _)

/-- The block of scores of a step, at an index. -/
theorem iblk0 (c : Dev nD) (t : Fin (cfg0 (F := Ideal)).N) (p : Fin 5120) (j : Fin 128) :
    (iblk m c 0 t : FVec Ideal S1x5120x128 .f32) (Idealize.ShloMosaic.ix3 0 p j) = padL (m ((c : Thread nD τ).loc main_arg0)) (Idealize.ShloMosaic.ix3 (img t) p j) := by
  rw [← V_v0]
  blk_ext [iblk, idx0 t]
/-- The block of boxes of a step, at an index. -/
theorem iblk1 (c : Dev nD) (t : Fin (cfg0 (F := Ideal)).N) (r : Fin 8) (p : Fin 5120) :
    (iblk m c 1 t : FVec Ideal S1x8x5120 .f32) (Idealize.ShloMosaic.ix3 0 r p) = padB (m ((c : Thread nD τ).loc main_arg1)) (Idealize.ShloMosaic.ix3 (img t) r p) := by
  rw [← V_v2]
  blk_ext [iblk, idx1 t]

/-- The whole array of scores the region leaves, -/
def all3 (c : Dev nD) : FVec Ideal S4x1x128 .f32 := fun i => out3 (ptbl m c (i 0)) (Idealize.ShloMosaic.ix3 0 0 (i 2))
/-- of labels, -/
def all4 (c : Dev nD) : IVec S4x1x128 32 := fun i => out4 (ptbl m c (i 0)) (Idealize.ShloMosaic.ix3 0 0 (i 2))
/-- and of boxes. -/
def all5 (c : Dev nD) : FVec Ideal S4x8x128 .f32 := fun i => out5 (ptbl m c (i 0)) (Idealize.ShloMosaic.ix3 0 (i 1) (i 2))

/-- The array of scores the call leaves. -/
theorem arr3 (c : Dev nD) : (dats m 0 c).arrAt 2 (cfgs (F := Ideal) 0).N = all3 m c := by
  refine (dats m 0 c).arrAt_eq_of_covers 2 _ (by decide +kernel) fun t _ y => ?_
  blk_simp
  have e0 : ((win0_2.blk t).view.emb y 0 : Fin 4) = img t := by
    apply Fin.ext; blk_simp [idx2 t]
  have e2 : ((win0_2.blk t).view.emb y 2).val = (y 2).val := by
    blk_simp [idx2 t]
  show outP (ptbl m c t) (y 2).val 4 + dim * outQ (ptbl m c t) (y 2).val 4
    = outP (ptbl m c ((win0_2.blk t).view.emb y 0)) ((win0_2.blk t).view.emb y 2).val 4 + dim * outQ (ptbl m c ((win0_2.blk t).view.emb y 0)) ((win0_2.blk t).view.emb y 2).val 4
  rw [e0, e2]
/-- The array of labels the call leaves. -/
theorem arr4 (c : Dev nD) : (dats m 0 c).arrAt 3 (cfgs (F := Ideal) 0).N = all4 m c := by
  refine (dats m 0 c).arrAt_eq_of_covers 3 _ (by decide +kernel) fun t _ y => ?_
  blk_simp
  have e0 : ((win0_3.blk t).view.emb y 0 : Fin 4) = img t := by
    apply Fin.ext; blk_simp [idx3 t]
  have e2 : ((win0_3.blk t).view.emb y 2).val = (y 2).val := by
    blk_simp [idx3 t]
  show FloatOps.fptosi (F := Ideal) (φ := .f32) 32 (Ideal.liftRound Ideal.roundHalfEven (outP (ptbl m c t) (y 2).val 5 + outQ (ptbl m c t) (y 2).val 5))
    = FloatOps.fptosi (F := Ideal) (φ := .f32) 32 (Ideal.liftRound Ideal.roundHalfEven (outP (ptbl m c ((win0_3.blk t).view.emb y 0)) ((win0_3.blk t).view.emb y 2).val 5 + outQ (ptbl m c ((win0_3.blk t).view.emb y 0)) ((win0_3.blk t).view.emb y 2).val 5))
  rw [e0, e2]
/-- The array of corners the call leaves. -/
theorem arr5 (c : Dev nD) : (dats m 0 c).arrAt 4 (cfgs (F := Ideal) 0).N = all5 m c := by
  refine (dats m 0 c).arrAt_eq_of_covers 4 _ (by decide +kernel) fun t _ y => ?_
  blk_simp
  have e0 : ((win0_4.blk t).view.emb y 0 : Fin 4) = img t := by
    apply Fin.ext; blk_simp [idx4 t]
  have e2 : ((win0_4.blk t).view.emb y 2).val = (y 2).val := by
    blk_simp [idx4 t]
  have e1 : ((win0_4.blk t).view.emb y 1).val = (y 1).val := by
    blk_simp [idx4 t]
  show (if (y 1).val < 4 then outP (ptbl m c t) (y 2).val (y 1).val + outQ (ptbl m c t) (y 2).val (y 1).val else 0)
    = if ((win0_4.blk t).view.emb y 1).val < 4 then outP (ptbl m c ((win0_4.blk t).view.emb y 0)) ((win0_4.blk t).view.emb y 2).val ((win0_4.blk t).view.emb y 1).val + outQ (ptbl m c ((win0_4.blk t).view.emb y 0)) ((win0_4.blk t).view.emb y 2).val ((win0_4.blk t).view.emb y 1).val else 0
  rw [e0, e1, e2]

/-- The first hundred lanes of the scores. -/
def head3 (x : FVec Ideal S4x1x128 .f32) : FVec Ideal S4x100 .f32 :=
  shapeCast S4x100 (extractStridedSlice S4x1x100 ![0, 0, 0] x slices_S4x1x128_S4x1x100_0_0_0) shapeCasts_S4x1x100_S4x100
/-- The first hundred lanes of the labels. -/
def head4 (x : IVec S4x1x128 32) : IVec S4x100 32 :=
  shapeCast S4x100 (extractStridedSlice S4x1x100 ![0, 0, 0] x slices_S4x1x128_S4x1x100_0_0_0) shapeCasts_S4x1x100_S4x100
/-- The first hundred boxes, each box a row. -/
def head5 (x : FVec Ideal S4x8x128 .f32) : FVec Ideal S4x100x4 .f32 :=
  transpose S4x100x4 [0, 2, 1] (extractStridedSlice S4x4x100 ![0, 0, 0] x slices_S4x8x128_S4x4x100_0_0_0) transposes_S4x4x100_S4x100x4_0_2_1
/-- The factors the boxes are scaled by. -/
def scaleK (z : IVec S4x2 32) : FVec Ideal S4x100x4 .f32 :=
  have h : FVec Ideal S4x1 .f32 := broadcastInDim S4x1 ![0] bcast_S4_S4x1_0 (sitofp .f32 (shapeCast S4 (extractStridedSlice S4x1 ![0, 0] z slices_S4x2_S4x1_0_0) shapeCasts_S4x1_S4))
  have w : FVec Ideal S4x1 .f32 := broadcastInDim S4x1 ![0] bcast_S4_S4x1_0 (sitofp .f32 (shapeCast S4 (extractStridedSlice S4x1 ![0, 1] z slices_S4x2_S4x1_0_1) shapeCasts_S4x1_S4))
  broadcastInDim S4x100x4 ![0, 1, 2] bcast_S4x1x4_S4x100x4_0_1_2 (broadcastInDim S4x1x4 ![0, 2] bcast_S4x4_S4x1x4_0_2
    (concatenate S4x4 1 [⟨S4x1, w⟩, ⟨S4x1, h⟩, ⟨S4x1, w⟩, ⟨S4x1, h⟩] concatenates_S4x1_S4x1_S4x1_S4x1_S4x4_d1))

/-- The host lines after the call cut the scores to a hundred, -/
theorem tail3 (X : Valuation τ sig (Elt Ideal)) :
    StableHlo.after hostOps1 X (Proc.devRef .tc main_v0_0) = head3 (X (Proc.devRef .tc main_call0_v3_0)) := by
  after_reads_simp
  rfl
/-- the labels too, -/
theorem tail4 (X : Valuation τ sig (Elt Ideal)) :
    StableHlo.after hostOps1 X (Proc.devRef .tc main_v0_1) = head4 (X (Proc.devRef .tc main_call0_v3_1)) := by
  after_reads_simp
  rfl
/-- and cut, transpose and scale the corners. -/
theorem tail5 (X : Valuation τ sig (Elt Ideal)) :
    StableHlo.after hostOps1 X (Proc.devRef .tc main_v0_2)
      = mulf (head5 (X (Proc.devRef .tc main_call0_v3_2))) (scaleK (X (Proc.devRef .tc main_arg2))) := by
  after_reads_simp
  rfl

/-- The call's arrays are different buffers. -/
theorem arr_inj : Function.Injective (Pipeline.arrRef (spec0)) := by decide

/-- The first result: the first hundred scores of every image. -/
theorem fin_0 (c : Dev nD) : fin m c main_v0_0 = head3 (all3 m c) := by
  show StableHlo.after hostOps1 _ _ = _
  refine (tail3 _).trans (congrArg head3 ?_)
  exact (Pipeline.withArrays_arr spec0 arr_inj c (V0 m c) _ 2).trans (arr3 m c)
/-- The second result: their labels. -/
theorem fin_1 (c : Dev nD) : fin m c main_v0_1 = head4 (all4 m c) := by
  show StableHlo.after hostOps1 _ _ = _
  refine (tail4 _).trans (congrArg head4 ?_)
  exact (Pipeline.withArrays_arr spec0 arr_inj c (V0 m c) _ 3).trans (arr4 m c)
/-- The third result: their corners, scaled to the image. -/
theorem fin_2 (c : Dev nD) : fin m c main_v0_2 = mulf (head5 (all5 m c)) (scaleK (m ((c : Thread nD τ).loc main_arg2))) := by
  show StableHlo.after hostOps1 _ _ = _
  refine (tail5 _).trans (congrArg₂ mulf (congrArg head5 ?_) (congrArg scaleK ?_))
  · exact (Pipeline.withArrays_arr spec0 arr_inj c (V0 m c) _ 4).trans (arr5 m c)
  · exact (Pipeline.withArrays_of_ne _ c (V0 m c) _ main_arg2 (by exact (by decide : ∀ w, Pipeline.arrRef spec0 w ≠ main_arg2))).trans (V_main_arg2 m c)

/-- The first hundred scores, at an index. -/
theorem head3_at (x : FVec Ideal S4x1x128 .f32) (b : Fin 4) (k : Fin 100) :
    head3 x (Idealize.ShloMosaic.ix2 b k) = x (Idealize.ShloMosaic.ix3 b 0 ⟨k.val, by omega⟩) := by
  pointwise [head3]
/-- The first hundred labels, at an index. -/
theorem head4_at (x : IVec S4x1x128 32) (b : Fin 4) (k : Fin 100) :
    head4 x (Idealize.ShloMosaic.ix2 b k) = x (Idealize.ShloMosaic.ix3 b 0 ⟨k.val, by omega⟩) := by
  pointwise [head4]
/-- The first hundred boxes' corners, at an index. -/
theorem head5_at (x : FVec Ideal S4x8x128 .f32) (b : Fin 4) (k : Fin 100) (r : Fin 4) :
    head5 x (Idealize.ShloMosaic.ix3 b k r) = x (Idealize.ShloMosaic.ix3 b ⟨r.val, by omega⟩ ⟨k.val, by omega⟩) := by
  pointwise [head5]

end Cert.Proof.Nms

end
-- ==== Proof.Nms.KFacts.lean ====
/-
  The kernel's table of an image over the launch's arguments.
-/
module

public import proofs.«01_k».proof.Proof.Nms.Tab
public import proofs.«01_k».proof.Proof.Nms.KVal

@[expose] public section

set_option maxRecDepth 16384

noncomputable section

namespace Cert.Proof.Nms

open Cert.KernelIdeal Cert.KernelIdeal.Gen
open Idealize.ShloMosaic Idealize.ShloMosaic.TcCoe

/-- A box's scores, zero past the last. -/
def lane (x : FVec Ideal S4x5000x92 .f32) (b : Fin 4) (c : Fin 5000) (j : ℕ) : EReal :=
  if h : j < 92 then x (Idealize.ShloMosaic.ix3 b c ⟨j, h⟩) else 0

/-- A box's scores, read from the array. -/
theorem lane_at (x : FVec Ideal S4x5000x92 .f32) (b : Fin 4) (c : Fin 5000) (k : Fin 92) : x (Idealize.ShloMosaic.ix3 b c k) = lane x b c k := by
  unfold lane; rw [dif_pos k.isLt]

variable (m : (ℓ : Loc nD τ sig) → Buf (Elt Ideal) ℓ) (c : Dev nD) (b : Fin 4)

/-- The class scores the kernel is launched on, -/
abbrev arg0 : FVec Ideal S4x5000x92 .f32 := m ((c : Thread nD τ).loc main_arg0)
/-- and the boxes. -/
abbrev arg1 : FVec Ideal S4x5000x4 .f32 := m ((c : Thread nD τ).loc main_arg1)
/-- The table of image `b`. -/
abbrev tb : ℕ → ℕ → EReal := ptbl m c b

/-- The block of scores of image `b`, -/
def blk0 : FVec Ideal S1x5120x128 .f32 := iblk m c 0 b
/-- and its block of boxes. -/
def blk1 : FVec Ideal S1x8x5120 .f32 := iblk m c 1 b

/-- The block of scores is the image's part of the padded scores. -/
theorem blk0_at (p : Fin 5120) (x : Fin 128) : blk0 m c b (Idealize.ShloMosaic.ix3 0 p x) = padL (arg0 m c) (Idealize.ShloMosaic.ix3 b p x) := iblk0 m c b p x
/-- The block of boxes is the image's part of the padded, transposed boxes. -/
theorem blk1_at (r : Fin 8) (p : Fin 5120) : blk1 m c b (Idealize.ShloMosaic.ix3 0 r p) = padB (arg1 m c) (Idealize.ShloMosaic.ix3 b r p) := iblk1 m c b r p
/-- The table of an image is made from its two blocks. -/
theorem tb_eq : tb m c b = tbl (blk0 m c b) (blk1 m c b) := rfl

/-- Inside the padding the block of scores holds the argument's scores. -/
theorem lane_block (p : Fin 5000) (x : Fin 128) (hx : x.val < 92) :
    blk0 m c b (Idealize.ShloMosaic.ix3 0 ⟨p.val, by omega⟩ x) = lane (arg0 m c) b p x := by
  rw [blk0_at, padL_in _ _ _ _ p.isLt hx]
  unfold lane
  rw [dif_pos hx]

/-- Inside the padding the block of boxes holds the argument's boxes. -/
theorem box_block (p : Fin 5000) (r : Fin 8) (hr : r.val < 4) :
    blk1 m c b (Idealize.ShloMosaic.ix3 0 r ⟨p.val, by omega⟩) = arg1 m c (Idealize.ShloMosaic.ix3 b p ⟨r.val, hr⟩) := by
  rw [blk1_at, padB_in _ _ _ _ hr p.isLt]

/-- Past the last box the block of boxes is zero. -/
theorem box_pad (p : Fin 5120) (hp : ¬ p.val < 5000) (r : Fin 8) :
    blk1 m c b (Idealize.ShloMosaic.ix3 0 r p) = 0 := by
  rw [blk1_at, padB_out _ _ _ _ hp]

/-- The table's fourth row is the share of the largest foreground score. -/
theorem tb_score (p : Fin 5000) : tb m c b 4 p = lscore (lane (arg0 m c) b p) := by
  have h := row4 (blk0 m c b) (blk1 m c b) ⟨p.val, by omega⟩ _ (lane_block m c b p)
  rw [if_pos p.isLt] at h
  exact h

/-- The table's fifth row is the class of that score. -/
theorem tb_label (p : Fin 5000) : tb m c b 5 p = ((llab (lane (arg0 m c) b p) : ℕ) : EReal) :=
  row5 (blk0 m c b) (blk1 m c b) ⟨p.val, by omega⟩ p.isLt _ (lane_block m c b p)

/-- The score written into the padded places is not above zero. -/
theorem neg_bits : Ideal.ofBits FTy.f32 3212836864#32 ≤ 0 := by
  have h : Ideal.ofBits FTy.f32 3212836864#32 = ((-1 : ℝ) : EReal) := by
    simp [Ideal.ofBits, Ideal.ieee, -EReal.coe_mul]; norm_num
  rw [h, ← EReal.coe_zero]
  exact EReal.coe_le_coe_iff.mpr (by norm_num)

/-- A padded place never scores above zero. -/
theorem tb_pad (j : ℕ) (hj : 5000 ≤ j) : tb m c b 4 j ≤ 0 := by
  by_cases h : j < 5120
  · have h' := row4 (blk0 m c b) (blk1 m c b) ⟨j, h⟩
      (fun k => if hk : k < 128 then blk0 m c b (Idealize.ShloMosaic.ix3 0 ⟨j, h⟩ ⟨k, hk⟩) else 0)
      (fun x hx => by rw [dif_pos x.isLt])
    rw [if_neg (by show ¬ j < 5000; omega)] at h'
    show tbl _ _ 4 j ≤ 0
    exact h'.le.trans neg_bits
  · exact (row_out (blk0 m c b) (blk1 m c b) (by norm_num) (by omega)).le

/-- No padded place comes before a true box. -/
theorem tb_before (hpos : ∀ p : Fin 5000, 0 ≤ tb m c b 4 p) (p : ℕ) (hp : p < 5000) (j : ℕ) (hj : 5000 ≤ j) : ¬ before (tb m c b 4) j p := by
  have h1 := tb_pad m c b j hj
  have h2 := hpos ⟨p, hp⟩
  rintro (h | ⟨h, h'⟩)
  · exact absurd (h2.trans_lt h) (not_lt.mpr h1)
  · omega

/-- The corners of a box. -/
theorem tb_corner (p : Fin 5000) (r : Fin 4) : tb m c b r p =
    if r.val = 0 then arg1 m c (Idealize.ShloMosaic.ix3 b p 0) - half * arg1 m c (Idealize.ShloMosaic.ix3 b p 2)
    else if r.val = 1 then arg1 m c (Idealize.ShloMosaic.ix3 b p 1) - half * arg1 m c (Idealize.ShloMosaic.ix3 b p 3)
    else if r.val = 2 then arg1 m c (Idealize.ShloMosaic.ix3 b p 0) + half * arg1 m c (Idealize.ShloMosaic.ix3 b p 2)
    else arg1 m c (Idealize.ShloMosaic.ix3 b p 1) + half * arg1 m c (Idealize.ShloMosaic.ix3 b p 3) := by
  have e : ∀ (r : Fin 8) (hr : r.val < 4), blk1 m c b (Idealize.ShloMosaic.ix3 0 r ⟨p.val, by omega⟩) = arg1 m c (Idealize.ShloMosaic.ix3 b p ⟨r.val, hr⟩) :=
    fun r hr => box_block m c b p r hr
  match r with
  | ⟨0, _⟩ =>
    have h := row0 (blk0 m c b) (blk1 m c b) ⟨p.val, by omega⟩
    rw [e 0 (by decide), e 2 (by decide)] at h
    exact h
  | ⟨1, _⟩ =>
    have h := row1 (blk0 m c b) (blk1 m c b) ⟨p.val, by omega⟩
    rw [e 1 (by decide), e 3 (by decide)] at h
    exact h
  | ⟨2, _⟩ =>
    have h := row2 (blk0 m c b) (blk1 m c b) ⟨p.val, by omega⟩
    rw [e 0 (by decide), e 2 (by decide)] at h
    exact h
  | ⟨3, _⟩ =>
    have h := row3 (blk0 m c b) (blk1 m c b) ⟨p.val, by omega⟩
    rw [e 1 (by decide), e 3 (by decide)] at h
    exact h

/-- The corners of a padded place are zero. -/
theorem tb_zero (p : Fin 5120) (hp : ¬ p.val < 5000) (r : Fin 4) : tb m c b r p = 0 := by
  have e : ∀ (r : Fin 8), blk1 m c b (Idealize.ShloMosaic.ix3 0 r p) = 0 := fun r => box_pad m c b p hp r
  match r with
  | ⟨0, _⟩ =>
    have h := row0 (blk0 m c b) (blk1 m c b) p
    rw [e, e, mul_zero, sub_zero] at h
    exact h
  | ⟨1, _⟩ =>
    have h := row1 (blk0 m c b) (blk1 m c b) p
    rw [e, e, mul_zero, sub_zero] at h
    exact h
  | ⟨2, _⟩ =>
    have h := row2 (blk0 m c b) (blk1 m c b) p
    rw [e, e, mul_zero, add_zero] at h
    exact h
  | ⟨3, _⟩ =>
    have h := row3 (blk0 m c b) (blk1 m c b) p
    rw [e, e, mul_zero, add_zero] at h
    exact h

/-- Padding by zeros does not change a largest value that is not negative. -/
theorem fold_pad {N M : ℕ} (hNM : N ≤ M) (f : ℕ → ℕ → EReal) (hz : ∀ p : Fin M, ¬ p.val < N → ∀ r : Fin 4, f r p = 0)
    (h0 : ∃ (p : Fin N) (r : Fin 4), 0 ≤ f r p) :
    Finset.fold max ⊥ (fun x : Fin 4 × Fin M => f x.1 x.2) Finset.univ = Finset.fold max ⊥ (fun x : Fin N × Fin 4 => f x.2 x.1) Finset.univ := by
  refine le_antisymm ?_ ?_
  · rw [Finset.fold_max_le]
    refine ⟨bot_le, fun x _ => ?_⟩
    rw [Finset.le_fold_max]
    right
    by_cases h : x.2.val < N
    · exact ⟨(⟨x.2.val, h⟩, x.1), Finset.mem_univ _, le_rfl⟩
    · obtain ⟨p, r, hpr⟩ := h0
      exact ⟨(p, r), Finset.mem_univ _, (hz x.2 h x.1).le.trans hpr⟩
  · rw [Finset.fold_max_le]
    refine ⟨bot_le, fun x _ => ?_⟩
    rw [Finset.le_fold_max]
    exact Or.inr ⟨(x.2, ⟨x.1.val, by omega⟩), Finset.mem_univ _, le_rfl⟩

/-- The largest coordinate is the largest over the true boxes, when some coordinate is not negative. -/
theorem tb_max (h0 : ∃ (p : Fin 5000) (r : Fin 4), 0 ≤ tb m c b r p) :
    mc (tb m c b) = Finset.fold max ⊥ (fun x : Fin 5000 × Fin 4 => tb m c b x.2 x.1) Finset.univ :=
  fold_pad (by norm_num) (tb m c b) (tb_zero m c b) h0

/-- Where the largest score is real, the largest share is not below zero. -/
theorem tb_pos (hM : ∀ p : Fin 5000, ∃ M : ℝ, lmax 92 (lane (arg0 m c) b p) = (M : EReal)) (p : Fin 5000) : 0 ≤ tb m c b 4 p := by
  obtain ⟨M, h⟩ := hM p
  rw [tb_score]; exact lscore_nonneg _ h

end Cert.Proof.Nms

end
-- ==== Proof.Nms.Srt.lean ====
/-
  Where a stable sort puts an element: the place of an element is the number of the elements before it, by key and, between
  equal keys, by position.
-/
module

public import Idealize.ShloMosaic.Lib.SortPrefix

@[expose] public section

namespace Cert.Proof.Nms

open Idealize.ShloMosaic

/-- On a list in increasing order a stable sort by a comparison is the sort by that comparison and then the position. -/
theorem stableSort_congr_of_sorted {ι : Type} [LinearOrder ι] (B B' : ι → ι → Bool) (h : ∀ a b, a < b → B b a = B' b a) :
    ∀ l : List ι, l.Pairwise (· < ·) → stableSort B l = stableSort B' l
  | [], _ => rfl
  | a :: l, hl => by
    rw [List.pairwise_cons] at hl
    unfold stableSort
    rw [stableSort_congr_of_sorted B B' h l hl.2]
    exact insertBefore_congr B B' a _ fun b hb => h a b (hl.1 b ((perm_stableSort B' l).mem_iff.mp hb))

/-- The source of a stable sort's place is the element with that many elements before it. -/
theorem sortedFrom_key {n : ℕ} {κ : Type} [LinearOrder κ] (k : Fin n → κ) (B : Fin n → Fin n → Bool)
    (hB : ∀ a b, B a b = true ↔ k a < k b) (p c : Fin n) :
    sortedFrom B p = c ↔ (Finset.univ.filter fun j => k j < k c ∨ (k j = k c ∧ j < c)).card = (p : ℕ) := by
  set B' : Fin n → Fin n → Bool := fun a b => decide (k a < k b) || (decide (k a = k b) && decide (a < b)) with hB'
  have hT : StrictTotalBefore B' := StrictTotalBefore.of_key_then_position (fun a b => decide (a < b)) k
    (by simp) (by simp only [decide_eq_true_eq]; exact fun a b c => lt_trans) (by simp only [decide_eq_true_eq]; exact lt_trichotomy)
  have hpos : sortPositions n B = sortPositions n B' := by
    refine stableSort_congr_of_sorted B B' (fun a b hab => ?_) _ (List.pairwise_lt_finRange n)
    have h1 : ¬ b < a := not_lt_of_gt hab
    have : B' b a = decide (k b < k a) := by simp [hB', h1]
    rw [this, Bool.eq_iff_iff, hB, decide_eq_true_eq]
  have hsf : ∀ q, sortedFrom B q = sortedFrom B' q := fun q => by
    unfold sortedFrom; simp only [List.get_eq_getElem, hpos]; rfl
  have hlt : ∀ i j : Fin n, i < j → B' (sortedFrom B' i) (sortedFrom B' j) = true := fun i j hij => by
    rcases hT.total _ _ ((sortedFrom_injective B').ne hij.ne) with h | h
    · exact h
    · rw [sortedFrom_noInversion B' B' (fun a b h => hT.asymm a b h) (fun _ _ h => h) hT.negTrans i j hij] at h
      exact absurd h (by decide)
  have hcard : ∀ q : Fin n, (Finset.univ.filter fun j => B' j (sortedFrom B' q) = true).card = (q : ℕ) := fun q => by
    have : (Finset.univ.filter fun j => B' j (sortedFrom B' q) = true) = (Finset.Iio q).image (sortedFrom B') := by
      ext j
      simp only [Finset.mem_filter, Finset.mem_univ, true_and, Finset.mem_image, Finset.mem_Iio]
      obtain ⟨i, rfl⟩ := sortedFrom_surjective B' j
      constructor
      · intro h
        refine ⟨i, ?_, rfl⟩
        by_contra hn
        rcases (not_lt.mp hn).eq_or_lt with e | hl
        · rw [e, hT.irrefl] at h; exact absurd h (by decide)
        · rw [hT.asymm _ _ (hlt q i hl)] at h; exact absurd h (by decide)
      · rintro ⟨i', hi', e⟩
        rw [← e]; exact hlt i' q hi'
    rw [this, Finset.card_image_of_injective _ (sortedFrom_injective B'), Fin.card_Iio]
  have hset : ∀ c, (Finset.univ.filter fun j => k j < k c ∨ (k j = k c ∧ j < c)) = Finset.univ.filter fun j => B' j c = true := fun c => by
    ext j; simp [hB']
  rw [hsf, hset]
  constructor
  · rintro rfl; exact hcard p
  · intro h
    obtain ⟨q, rfl⟩ := sortedFrom_surjective B' c
    rw [hcard q] at h
    rw [Fin.ext h]

end Cert.Proof.Nms

end
-- ==== Proof.Nms.Take.lean ====
/-
  Reading a table, image by image, at the places a second table names: entries of a table, or whole rows of four.
-/
module

public import Idealize.ShloMosaic.Lib.Pipeline.ValueKit
public import Idealize.ShloMosaic.Lib.DynamicIndex
public import Idealize.ShloMosaic.Lib.ValueIdxCore

@[expose] public section

noncomputable section

namespace Cert.Proof.Nms.Take

open Idealize.ShloMosaic

/-- How the entries are addressed: the image is the batch, the place is the second axis. -/
abbrev oneDims (N M : ℕ) (wf : GatherDims.WF ⟨2, ![4, N]⟩ ⟨3, ![4, M, 1]⟩ ⟨2, ![4, M]⟩ [] [1] [0] [1] [0] 2 ![1, 1]) :
    GatherDims ⟨2, ![4, N]⟩ ⟨3, ![4, M, 1]⟩ ⟨2, ![4, M]⟩ :=
  { offsetDims := [], collapsedSliceDims := [1], operandBatchingDims := [0], startIndicesBatchingDims := [0], startIndexMap := [1],
    indexVectorDim := 2, sliceSizes := ![1, 1], wf := wf }

/-- How the rows are addressed. -/
abbrev rowDims (N M : ℕ) (wf : GatherDims.WF ⟨3, ![4, N, 4]⟩ ⟨3, ![4, M, 1]⟩ ⟨3, ![4, M, 4]⟩ [2] [1] [0] [1] [0] 2 ![1, 1, 4]) :
    GatherDims ⟨3, ![4, N, 4]⟩ ⟨3, ![4, M, 1]⟩ ⟨3, ![4, M, 4]⟩ :=
  { offsetDims := [2], collapsedSliceDims := [1], operandBatchingDims := [0], startIndicesBatchingDims := [0], startIndexMap := [1],
    indexVectorDim := 2, sliceSizes := ![1, 1, 4], wf := wf }

variable {α : Type}

/-- An entry taken at a place inside the table. -/
theorem take_one {N M : ℕ} (wf : GatherDims.WF ⟨2, ![4, N]⟩ ⟨3, ![4, M, 1]⟩ ⟨2, ![4, M]⟩ [] [1] [0] [1] [0] 2 ![1, 1])
    (x : (⟨2, ![4, N]⟩ : Shape).Idx → α) (i : IVec ⟨3, ![4, M, 1]⟩ 32) (b : Fin 4) (p : Fin M) (q : ℕ) (hq : q < N) (hN : N < 2 ^ 31)
    (h : i (ix3 b p 0) = BitVec.ofNat 32 q) : Host.gather (oneDims N M wf) x i (ix2 b p) = x (ix2 b ⟨q, hq⟩) := by
  unfold Host.gather
  refine congrArg x ?_
  funext a
  apply Fin.ext
  show (oneDims N M wf).start (ix2 b p) i a + (oneDims N M wf).batchCoord (ix2 b p) a + (oneDims N M wf).offCoord (ix2 b p) a = _
  have ha : a = 0 ∨ a = 1 := by
    match a with
    | ⟨0, _⟩ => exact Or.inl rfl
    | ⟨1, _⟩ => exact Or.inr rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (List.mem_singleton.mpr rfl), Nat.zero_add, Nat.add_zero]
    rfl
  · rw [GatherDims.batchCoord_eq_zero _ _ _ (fun h => by simp at h),
      GatherDims.offCoord_eq_zero _ _ _ (fun h => ((GatherDims.mem_sKept _ _).mp h).1 (List.mem_singleton.mpr rfl)), Nat.add_zero]
    unfold GatherDims.start
    rw [dif_pos (show (1 : Fin 2) ∈ (oneDims N M wf).startIndexMap from List.mem_singleton.mpr rfl)]
    have hs : (oneDims N M wf).siIdx (ix2 b p) ⟨List.idxOf (1 : Fin 2) (oneDims N M wf).startIndexMap,
        List.idxOf_lt_length_iff.2 (List.mem_singleton.mpr rfl)⟩ = ix3 b p 0 := by
      funext e; apply Fin.ext
      match e with
      | ⟨0, _⟩ => rfl
      | ⟨1, _⟩ => rfl
      | ⟨2, _⟩ => rfl
    rw [hs, h, toInt_ofNat_of_lt (by omega), Int.toNat_natCast]
    exact Nat.min_eq_left (by show q ≤ N - 1; omega)

/-- A row of four taken at a place inside the table. -/
theorem take_row {N M : ℕ} (wf : GatherDims.WF ⟨3, ![4, N, 4]⟩ ⟨3, ![4, M, 1]⟩ ⟨3, ![4, M, 4]⟩ [2] [1] [0] [1] [0] 2 ![1, 1, 4])
    (x : (⟨3, ![4, N, 4]⟩ : Shape).Idx → α) (i : IVec ⟨3, ![4, M, 1]⟩ 32) (b : Fin 4) (p : Fin M) (r : Fin 4) (q : ℕ) (hq : q < N) (hN : N < 2 ^ 31)
    (h : i (ix3 b p 0) = BitVec.ofNat 32 q) : Host.gather (rowDims N M wf) x i (ix3 b p r) = x (ix3 b ⟨q, hq⟩ r) := by
  unfold Host.gather
  refine congrArg x ?_
  funext a
  apply Fin.ext
  show (rowDims N M wf).start (ix3 b p r) i a + (rowDims N M wf).batchCoord (ix3 b p r) a + (rowDims N M wf).offCoord (ix3 b p r) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (List.mem_singleton.mpr rfl), Nat.zero_add, Nat.add_zero]
    rfl
  · rw [GatherDims.batchCoord_eq_zero _ _ _ (fun h => by simp at h),
      GatherDims.offCoord_eq_zero _ _ _ (fun h => ((GatherDims.mem_sKept _ _).mp h).1 (List.mem_singleton.mpr rfl)), Nat.add_zero]
    unfold GatherDims.start
    rw [dif_pos (show (1 : Fin 3) ∈ (rowDims N M wf).startIndexMap from List.mem_singleton.mpr rfl)]
    have hs : (rowDims N M wf).siIdx (ix3 b p r) ⟨List.idxOf (1 : Fin 3) (rowDims N M wf).startIndexMap,
        List.idxOf_lt_length_iff.2 (List.mem_singleton.mpr rfl)⟩ = ix3 b p 0 := by
      funext e; apply Fin.ext
      match e with
      | ⟨0, _⟩ => rfl
      | ⟨1, _⟩ => rfl
      | ⟨2, _⟩ => rfl
    rw [hs, h, toInt_ofNat_of_lt (by omega), Int.toNat_natCast]
    exact Nat.min_eq_left (by show q ≤ N - 1; omega)
  · rw [GatherDims.batchCoord_eq_zero _ _ _ (fun h => by simp at h)]
    unfold GatherDims.start
    rw [dif_neg (fun h => by simp at h), Nat.zero_add]
    unfold GatherDims.offCoord
    rw [dif_pos ((GatherDims.mem_sKept _ _).mpr ⟨by simp, by simp⟩)]
    rfl

/-- A place that is not negative is not wrapped. -/
theorem wrap_nat (q : ℕ) (hq : q < 2 ^ 31) (a : BitVec 32) :
    (if BitVec.ofBool ((BitVec.ofNat 32 q).slt 0#32) = 1#1 then a else BitVec.ofNat 32 q) = BitVec.ofNat 32 q := by
  have h : (BitVec.ofNat 32 q).slt 0#32 = false := by
    rw [BitVec.slt, toInt_ofNat_of_lt hq]; simp
  rw [h]; rfl

end Cert.Proof.Nms.Take

end
-- ==== Proof.Nms.Count.lean ====
/-
  Counting lemmas the sorts of the reference need: how many places come before a given one.
-/
module

public import proofs.«01_k».proof.Proof.Nms.Spec

@[expose] public section

set_option maxRecDepth 16384

noncomputable section

namespace Cert.Proof.Nms

/-- Numbers below `n`, all different, are each the number of smaller ones. -/
theorem card_lt_of_inj {n : ℕ} (f : Fin n → ℕ) (hf : ∀ a b, f a = f b → a = b) (hn : ∀ a, f a < n) (q : Fin n) :
    (Finset.univ.filter fun j => f j < f q).card = f q := by
  let g : Fin n → Fin n := fun a => ⟨f a, hn a⟩
  have hg : Function.Injective g := fun a b h => hf a b (congrArg Fin.val h)
  have hs : Function.Surjective g := Finite.injective_iff_surjective.mp hg
  have h : (Finset.univ.filter fun j => f j < f q).image g = Finset.Iio (g q) := by
    ext x
    simp only [Finset.mem_image, Finset.mem_filter, Finset.mem_univ, true_and, Finset.mem_Iio]
    constructor
    · rintro ⟨j, hj, rfl⟩; exact hj
    · intro hx; obtain ⟨j, rfl⟩ := hs x; exact ⟨j, hx, rfl⟩
  rw [← Finset.card_image_of_injective _ hg, h, Fin.card_Iio]

open Classical in
/-- The rank counts only the boxes there are, when no padding comes before one of them. -/
theorem rank_eq_card (S : ℕ → EReal) {c : ℕ} (hpad : ∀ j, 5000 ≤ j → ¬ before S j c) :
    rank S c = (Finset.univ.filter fun j : Fin 5000 => S c < S j ∨ (S j = S c ∧ j.val < c)).card := by
  refine Eq.trans ?_ ((cnt_eq_card (n := 5000) (fun j => S c < S j ∨ (S j = S c ∧ j < c))).trans (by congr))
  unfold rank cnt
  congr 1
  ext j
  simp only [Finset.mem_filter, Finset.mem_range]
  constructor
  · rintro ⟨_, h⟩
    refine ⟨?_, h⟩
    by_contra hj
    exact hpad j (by omega) h
  · rintro ⟨h, h'⟩; exact ⟨by omega, h'⟩

/-- Boxes there are have ranks below their number, -/
theorem rank_lt_5000 (S : ℕ → EReal) {c : ℕ} (hc : c < 5000) (hpad : ∀ j, 5000 ≤ j → ¬ before S j c) : rank S c < 5000 := by
  classical
  rw [rank_eq_card S hpad]
  have : (Finset.univ.filter fun j : Fin 5000 => S c < S j ∨ (S j = S c ∧ j.val < c)) ⊂ Finset.univ := by
    rw [Finset.ssubset_iff_of_subset (Finset.filter_subset _ _)]
    exact ⟨⟨c, hc⟩, Finset.mem_univ _, fun h => before_irrefl S c (Finset.mem_filter.mp h).2⟩
  have h := Finset.card_lt_card this
  rwa [Finset.card_univ, Fintype.card_fin] at h

/-- and the box of a rank below it is one there is. -/
theorem sg_lt_5000 (S : ℕ → EReal) (hpad : ∀ c, c < 5000 → ∀ j, 5000 ≤ j → ¬ before S j c) {p : ℕ} (hp : p < 5000) : sg S p < 5000 := by
  let g : Fin 5000 → Fin 5000 := fun c => ⟨rank S c, rank_lt_5000 S c.isLt (hpad c c.isLt)⟩
  have hg : Function.Injective g := fun a b h => Fin.ext (rank_inj (by omega) (by omega) (congrArg Fin.val h))
  obtain ⟨c, hc⟩ := (Finite.injective_iff_surjective.mp hg) ⟨p, hp⟩
  have h : rank S c = p := congrArg Fin.val hc
  rw [← h, sg_rank S (by omega)]
  exact c.isLt

/-! ### Which place of the output a box lands on -/

/-- The count strictly grows over a place where the property holds. -/
theorem cnt_lt_of_lt {P : ℕ → Prop} {a b : ℕ} (hP : P a) (h : a < b) : cnt P a < cnt P b := by
  have h1 := cnt_mono P (show a + 1 ≤ b by omega)
  rw [cnt_succ, if_pos hP] at h1
  omega

/-- The place whose count, itself included, is `k + 1` is the place with `k` before it. -/
theorem at_count {P : ℕ → Prop} {a k : ℕ} (hP : P a) (hk : cnt P a = k) (x : ℕ) : (P x ∧ cnt P (x + 1) = k + 1) ↔ x = a := by
  constructor
  · rintro ⟨hx, h⟩
    rw [cnt_succ, if_pos hx] at h
    rcases Nat.lt_trichotomy x a with h' | h' | h'
    · have := cnt_lt_of_lt hx h'; omega
    · exact h'
    · have := cnt_lt_of_lt hP h'; omega
  · rintro rfl
    exact ⟨hP, by rw [cnt_succ, if_pos hP, hk]⟩

variable (D : ℕ → ℕ → EReal)

/-- The order in which boxes are listed: survivors by rank, then the others by index. -/
def key (c : ℕ) : ℕ := @ite _ (kp D c) (Classical.propDecidable _) (rank (D 4) c) (5000 + c)

/-- The key of a kept box is its rank. -/
theorem key_true {c : ℕ} (h : kp D c) : key D c = rank (D 4) c := by unfold key; exact if_pos h
/-- The key of a box not kept is 5000 more than its place. -/
theorem key_false {c : ℕ} (h : ¬ kp D c) : key D c = 5000 + c := by unfold key; exact if_neg h

/-- Every rank past the boxes counts as suppressed. -/
theorem sup_ge {p : ℕ} (h : 5000 ≤ p) : sup D p := by
  unfold sup; rw [supp_iff]; exact Or.inl h

/-- A kept box has a rank among the first 5000. -/
theorem kp_rank {c : ℕ} (h : kp D c) : rank (D 4) c < 5000 := by
  by_contra h'; exact h (sup_ge D (by omega))

/-- No two boxes have one key. -/
theorem key_inj {a b : ℕ} (ha : a < 5000) (hb : b < 5000) (h : key D a = key D b) : a = b := by
  by_cases h1 : kp D a <;> by_cases h2 : kp D b
  · rw [key_true D h1, key_true D h2] at h; exact rank_inj (by omega) (by omega) h
  · rw [key_true D h1, key_false D h2] at h; have := kp_rank D h1; omega
  · rw [key_false D h1, key_true D h2] at h; have := kp_rank D h2; omega
  · rw [key_false D h1, key_false D h2] at h; omega

open Classical in
/-- A survivor's place in the list is the number of survivors of smaller rank. -/
theorem card_key_true (hpad : ∀ c, c < 5000 → ∀ j, 5000 ≤ j → ¬ before (D 4) j c) {q : Fin 5000} (hq : kp D q) :
    (Finset.univ.filter fun j : Fin 5000 => key D j < key D q).card = cnt (fun p => ¬ sup D p) (rank (D 4) q) := by
  rw [key_true D hq]
  unfold cnt
  refine Finset.card_bij (fun j _ => rank (D 4) j) ?_ ?_ ?_
  · intro j hj
    rw [Finset.mem_filter] at hj
    have hj := hj.2
    have hk : kp D j := by
      by_contra h; rw [key_false D h] at hj; have := kp_rank D hq; omega
    rw [key_true D hk] at hj
    simp only [Finset.mem_filter, Finset.mem_range]
    exact ⟨hj, hk⟩
  · intro a _ b _ h; exact Fin.ext (rank_inj (by omega) (by omega) h)
  · intro p hp
    simp only [Finset.mem_filter, Finset.mem_range] at hp
    have hp5 : p < 5000 := lt_trans hp.1 (kp_rank D hq)
    have hr : rank (D 4) (sg (D 4) p) = p := rank_sg _ (by omega)
    have hk : kp D (sg (D 4) p) := by unfold kp; rw [hr]; exact hp.2
    refine ⟨⟨sg (D 4) p, sg_lt_5000 _ hpad hp5⟩, ?_, hr⟩
    rw [Finset.mem_filter]
    refine ⟨Finset.mem_univ _, ?_⟩
    show key D (sg (D 4) p) < _
    rw [key_true D hk, hr]; exact hp.1

open Classical in
/-- The survivors, counted by box or by rank. -/
theorem card_kp (hpad : ∀ c, c < 5000 → ∀ j, 5000 ≤ j → ¬ before (D 4) j c) :
    (Finset.univ.filter fun j : Fin 5000 => kp D j).card = ktot D := by
  unfold ktot cnt
  refine Finset.card_bij (fun j _ => rank (D 4) j) ?_ ?_ ?_
  · intro j hj
    rw [Finset.mem_filter] at hj
    simp only [Finset.mem_filter, Finset.mem_range]
    exact ⟨rank_lt _ (by omega), hj.2⟩
  · intro a _ b _ h; exact Fin.ext (rank_inj (by omega) (by omega) h)
  · intro p hp
    simp only [Finset.mem_filter, Finset.mem_range] at hp
    have hp5 : p < 5000 := by
      by_contra h; exact hp.2 (sup_ge D (by omega))
    have hr : rank (D 4) (sg (D 4) p) = p := rank_sg _ (by omega)
    refine ⟨⟨sg (D 4) p, sg_lt_5000 _ hpad hp5⟩, ?_, hr⟩
    rw [Finset.mem_filter]
    refine ⟨Finset.mem_univ _, ?_⟩
    show kp D (sg (D 4) p)
    unfold kp; rw [hr]; exact hp.2

open Classical in
/-- Another's place is the number of survivors and of the others of smaller index. -/
theorem card_key_false (hpad : ∀ c, c < 5000 → ∀ j, 5000 ≤ j → ¬ before (D 4) j c) {q : Fin 5000} (hq : ¬ kp D q) :
    (Finset.univ.filter fun j : Fin 5000 => key D j < key D q).card = cnt (fun c => ¬ kp D c) q + ktot D := by
  rw [← card_kp D hpad, key_false D hq]
  have h : (Finset.univ.filter fun j : Fin 5000 => key D j < 5000 + q.val)
      = (Finset.univ.filter fun j : Fin 5000 => ¬ kp D j ∧ j.val < q.val) ∪ (Finset.univ.filter fun j : Fin 5000 => kp D j) := by
    ext j
    simp only [Finset.mem_union, Finset.mem_filter, Finset.mem_univ, true_and]
    by_cases hj : kp D j
    · rw [key_true D hj]; have := kp_rank D hj; simp [hj]; omega
    · rw [key_false D hj]; simp [hj]
  rw [h, Finset.card_union_of_disjoint (Finset.disjoint_left.mpr fun j h1 h2 => (Finset.mem_filter.mp h1).2.1 (Finset.mem_filter.mp h2).2)]
  congr 1
  refine Eq.trans (Eq.trans (by congr) (cnt_eq_card (n := 5000) (fun c => ¬ kp D c ∧ c < q.val)).symm) ?_
  unfold cnt
  congr 1
  ext j
  simp only [Finset.mem_filter, Finset.mem_range]
  constructor
  · rintro ⟨_, h1, h2⟩; exact ⟨h2, h1⟩
  · rintro ⟨h1, h2⟩; exact ⟨by omega, h2, h1⟩

/-- The box at place `k` of the list, when it survives: the kernel's first sum picks it and its second nothing, -/
theorem pick_true (hpad : ∀ c, c < 5000 → ∀ j, 5000 ≤ j → ¬ before (D 4) j c) {q : Fin 5000} (hq : kp D q) {k : ℕ}
    (hk : (Finset.univ.filter fun j : Fin 5000 => key D j < key D q).card = k) (r : ℕ) : outP D k r = D r q ∧ outQ D k r = 0 := by
  rw [card_key_true D hpad hq] at hk
  have hr : rank (D 4) q < 5120 := rank_lt _ (by omega)
  constructor
  · unfold outP
    rw [sum_ind_mul_of (fun p : Fin 5120 => ¬ sup D p ∧ cnt (fun p => ¬ sup D p) (p + 1) = k + 1) (fun p => srt D r p) ⟨rank (D 4) q, hr⟩
      (fun x => (at_count (P := fun p => ¬ sup D p) hq hk x).trans ⟨fun h => Fin.ext h, fun h => congrArg Fin.val h⟩)]
    unfold srt
    show D r (sg (D 4) (rank (D 4) q)) = _
    rw [sg_rank _ (by omega)]
  · unfold outQ
    refine Finset.sum_eq_zero fun c _ => ?_
    rw [ind_false, zero_mul]
    rintro ⟨hc, h⟩
    have h1 := cnt_lt_of_lt (P := fun p => ¬ sup D p) hq hr
    rw [hk] at h1
    rw [cnt_succ, if_pos hc] at h
    unfold ktot at h
    omega

/-- and when it does not: the second picks it and the first nothing. -/
theorem pick_false (hpad : ∀ c, c < 5000 → ∀ j, 5000 ≤ j → ¬ before (D 4) j c) {q : Fin 5000} (hq : ¬ kp D q) {k : ℕ}
    (hk : (Finset.univ.filter fun j : Fin 5000 => key D j < key D q).card = k) (r : ℕ) : outP D k r = 0 ∧ outQ D k r = D r q := by
  rw [card_key_false D hpad hq] at hk
  constructor
  · unfold outP
    refine Finset.sum_eq_zero fun p _ => ?_
    rw [ind_false, zero_mul]
    rintro ⟨hp, h⟩
    have h1 := cnt_mono (fun p => ¬ sup D p) (show p.val + 1 ≤ 5120 by omega)
    rw [h] at h1
    unfold ktot at hk
    omega
  · unfold outQ
    have hx : ∀ x : Fin 5120, (¬ kp D x ∧ cnt (fun c => ¬ kp D c) (x + 1) + ktot D = k + 1) ↔ x = ⟨q, by omega⟩ := fun x => by
      rw [Fin.ext_iff, ← at_count (P := fun c => ¬ kp D c) hq rfl x]
      constructor
      · rintro ⟨h1, h2⟩; exact ⟨h1, by omega⟩
      · rintro ⟨h1, h2⟩; exact ⟨h1, by omega⟩
    rw [sum_ind_mul_of (fun c : Fin 5120 => ¬ kp D c ∧ cnt (fun c => ¬ kp D c) (c + 1) + ktot D = k + 1) (fun c => D r c) ⟨q, by omega⟩ hx]

end Cert.Proof.Nms

end
-- ==== Proof.Nms.RefC.lean ====
/-
  The reference's sorts and takes read at a place: which box each names.
-/
module

public import proofs.«01_k».proof.Proof.Nms.RefA
public import proofs.«01_k».proof.Proof.Nms.Srt
public import proofs.«01_k».proof.Proof.Nms.Take
public import proofs.«01_k».proof.Proof.Nms.Count

@[expose] public section

set_option maxRecDepth 16384

noncomputable section

namespace Cert.Proof.Nms.Ref

open Cert.ReferenceIdeal Cert.ReferenceIdeal.Gen
open Idealize.ShloMosaic
open Cert.Proof.Nms.Take

/-! ### Takes -/

/-- A gather of truth values, at an index. -/
theorem takeMask_at (x : IVec S4x5000 1) (i : IVec S4x5000 32) (b : Fin 4) (p : Fin 5000) (q : Fin 5000)
    (h : i (Idealize.ShloMosaic.ix2 b p) = BitVec.ofNat 32 q) : takeMask x i (Idealize.ShloMosaic.ix2 b p) = x (Idealize.ShloMosaic.ix2 b q) := by
  unfold takeMask
  refine take_one _ x _ b p q q.isLt (by norm_num) ?_
  pointwise
  rw [h]
  exact wrap_nat q (by omega) _

/-- A gather at a hundred places, at an index. -/
theorem take100_at {α : Type} (x : S4x5000.Idx → α) (i : IVec S4x100 32) (b : Fin 4) (p : Fin 100) (q : Fin 5000)
    (h : i (Idealize.ShloMosaic.ix2 b p) = BitVec.ofNat 32 q) : take100 x i (Idealize.ShloMosaic.ix2 b p) = x (Idealize.ShloMosaic.ix2 b q) := by
  unfold take100
  refine take_one _ x _ b p q q.isLt (by norm_num) ?_
  pointwise
  rw [h]
  exact wrap_nat q (by omega) _

/-- A gather of rows, at an index. -/
theorem takeRows_at (x : FVec Ideal S4x5000x4 .f32) (i : IVec S4x5000 32) (b : Fin 4) (p : Fin 5000) (r : Fin 4) (q : Fin 5000)
    (h : i (Idealize.ShloMosaic.ix2 b p) = BitVec.ofNat 32 q) : takeRows x i (Idealize.ShloMosaic.ix3 b p r) = x (Idealize.ShloMosaic.ix3 b q r) := by
  unfold takeRows
  refine take_row _ x _ b p r q q.isLt (by norm_num) ?_
  pointwise
  rw [h]
  exact wrap_nat q (by omega) _

/-- A gather of rows at a hundred places, at an index. -/
theorem takeRows100_at (x : FVec Ideal S4x5000x4 .f32) (i : IVec S4x100 32) (b : Fin 4) (p : Fin 100) (r : Fin 4) (q : Fin 5000)
    (h : i (Idealize.ShloMosaic.ix2 b p) = BitVec.ofNat 32 q) : takeRows100 x i (Idealize.ShloMosaic.ix3 b p r) = x (Idealize.ShloMosaic.ix3 b q r) := by
  unfold takeRows100
  refine take_row _ x _ b p r q q.isLt (by norm_num) ?_
  pointwise
  rw [h]
  exact wrap_nat q (by omega) _

/-! ### Sorts -/

/-- Changing an index of two coordinates at the second. -/
theorem along_ix2 (b : Fin 4) (p k : Fin 5000) :
    Shape.Idx.along (s := S4x5000) (Idealize.ShloMosaic.ix2 b p) (1 : Fin 2) k = Idealize.ShloMosaic.ix2 b k := by
  funext a
  match a with
  | ⟨0, _⟩ => rfl
  | ⟨1, _⟩ => rfl

/-- The second array of a sort of pairs, at an index. -/
theorem sort2_snd {t : Shape} {d : ℕ} (hd : d < t.rank) {α β : Type} (cmp : α × β → α × β → BitVec 1) (x : t.Idx → α) (y : t.Idx → β) (j : t.Idx) :
    (Host.sort2 t d cmp x y).2 j = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- A sort that carries the places along: at `p` the place the sort brings there. -/
theorem sort2_at {α : Type} (cmp : α × BitVec 32 → α × BitVec 32 → BitVec 1) (x : S4x5000.Idx → α) (b : Fin 4) (p : Fin 5000) :
    (Host.sort2 S4x5000 1 cmp x (iotaInDim S4x5000 32 1)).2 (Idealize.ShloMosaic.ix2 b p) =
      BitVec.ofNat 32 (sortedFrom (n := 5000) (fun k k' => cmp (x (Idealize.ShloMosaic.ix2 b k), BitVec.ofNat 32 k) (x (Idealize.ShloMosaic.ix2 b k'), BitVec.ofNat 32 k') == 1#1) p : Fin 5000) := by
  have hb : (fun k k' : Fin 5000 => cmp (x (Shape.Idx.along (s := S4x5000) (Idealize.ShloMosaic.ix2 b p) (1 : Fin 2) k), iotaInDim S4x5000 32 1 (Shape.Idx.along (s := S4x5000) (Idealize.ShloMosaic.ix2 b p) (1 : Fin 2) k))
      (x (Shape.Idx.along (s := S4x5000) (Idealize.ShloMosaic.ix2 b p) (1 : Fin 2) k'), iotaInDim S4x5000 32 1 (Shape.Idx.along (s := S4x5000) (Idealize.ShloMosaic.ix2 b p) (1 : Fin 2) k')) == 1#1)
      = (fun k k' => cmp (x (Idealize.ShloMosaic.ix2 b k), BitVec.ofNat 32 k) (x (Idealize.ShloMosaic.ix2 b k'), BitVec.ofNat 32 k') == 1#1) := by
    funext k k'
    rw [along_ix2, along_ix2]; rfl
  have hq : ∀ q : Fin 5000, iotaInDim S4x5000 32 1 (Shape.Idx.along (s := S4x5000) (Idealize.ShloMosaic.ix2 b p) (1 : Fin 2) q) = BitVec.ofNat 32 q := by
    intro q
    rw [along_ix2]; rfl
  refine (sort2_snd (t := S4x5000) (d := 1) (by decide) cmp x (iotaInDim S4x5000 32 1) (Idealize.ShloMosaic.ix2 b p)).trans ?_
  refine Eq.trans (hq _) ?_
  exact congrArg (fun B : Fin 5000 → Fin 5000 → Bool => BitVec.ofNat 32 (sortedFrom B p : Fin 5000)) hb

/-- Order of small words is order of numbers. -/
theorem slt_nat {a c : ℕ} (ha : a < 2 ^ 31) (hc : c < 2 ^ 31) : IntOp.cmpi .slt (BitVec.ofNat 32 a) (BitVec.ofNat 32 c) = 1#1 ↔ a < c := by
  show BitVec.ofBool ((BitVec.ofNat 32 a).slt (BitVec.ofNat 32 c)) = 1#1 ↔ _
  have e : (BitVec.ofNat 32 a).slt (BitVec.ofNat 32 c) = decide (a < c) := by
    rw [BitVec.slt, toInt_ofNat_of_lt ha, toInt_ofNat_of_lt hc]
    exact decide_eq_decide.mpr Int.ofNat_lt
  rw [e]
  by_cases h : a < c
  · simp [h]
  · simp [h]

/-- A sort of whole numbers, all different: the place named at `p` has `p` smaller ones. -/
theorem ordI_at (w : IVec S4x5000 32) (b : Fin 4) (K : ℕ → ℕ) (hw : ∀ c : Fin 5000, w (Idealize.ShloMosaic.ix2 b c) = BitVec.ofNat 32 (K c))
    (hK : ∀ c, c < 5000 → K c < 2 ^ 31) (hinj : ∀ a c, a < 5000 → c < 5000 → K a = K c → a = c) (p : Fin 5000) :
    ∃ q : Fin 5000, ordI w (Idealize.ShloMosaic.ix2 b p) = BitVec.ofNat 32 q ∧ (Finset.univ.filter fun j : Fin 5000 => K j < K q).card = (p : ℕ) := by
  refine ⟨_, sort2_at _ w b p, ?_⟩
  have h := (sortedFrom_key (fun j : Fin 5000 => K j) (fun k k' => comparator_i32_i32_d1
      (w (Idealize.ShloMosaic.ix2 b k), BitVec.ofNat 32 k) (w (Idealize.ShloMosaic.ix2 b k'), BitVec.ofNat 32 k') == 1#1)
      (fun a c => by
        rw [beq_iff_eq, hw, hw]
        exact slt_nat (hK a a.isLt) (hK c c.isLt)) p _).mp rfl
  refine Eq.trans (congrArg Finset.card (Finset.filter_congr fun j _ => ?_)) h
  refine ⟨Or.inl, ?_⟩
  rintro (h1 | ⟨h1, h2⟩)
  · exact h1
  · exact absurd (Fin.ext (hinj _ _ j.isLt (Fin.isLt _) h1)) h2.ne

/-- The order of two scores as the reference's sort compares them. -/
theorem comp_at (u v : EReal) (i j : BitVec 32) : comparator_f32_i32_d1 (F := Ideal) (u, i) (v, j) = 1#1 ↔ u < v := by
  have hz : ∀ x : EReal, (Scalar.select (FloatOps.cmpf (F := Ideal) (φ := .f32) CmpFPredicate.une x x) (FloatOps.ofBits (F := Ideal) FTy.f32 2143289344#32)
      (Scalar.select (FloatOps.cmpf (F := Ideal) (φ := .f32) CmpFPredicate.oeq x (FloatOps.ofBits (F := Ideal) FTy.f32 0#32)) (FloatOps.ofBits (F := Ideal) FTy.f32 0#32) x) : EReal) = x := fun x => by
    rw [Ideal.cmpf_def, Ideal.cmpf_def]
    have h1 : Ideal.cmp CmpFPredicate.une x x = 0#1 := by simp [Ideal.cmp]
    rw [h1]
    show (if (0#1 : BitVec 1) = 1 then _ else _) = x
    rw [if_neg (by decide)]
    show (if Ideal.cmp CmpFPredicate.oeq x (Ideal.ofBits FTy.f32 0#32) = 1 then (Ideal.ofBits FTy.f32 0#32 : EReal) else x) = x
    split
    · rename_i h
      simp only [Ideal.cmp] at h
      by_contra hne
      have : ¬ x = 0 := fun h' => hne (by rw [h', Ideal.ofBits_zero_f32])
      simp [this] at h
    · rfl
  unfold comparator_f32_i32_d1
  dsimp only
  rw [hz u, hz v, Ideal.cmpfTotal_def]
  show BitVec.ofBool (decide (u < v)) = 1#1 ↔ u < v
  by_cases h : u < v
  · simp [h]
  · simp [h]

/-- The order of the scores: at `p` the box of rank `p`. -/
theorem ordT_at (s : FVec Ideal S4x5000 .f32) (b : Fin 4) (S : ℕ → EReal) (hs : ∀ c : Fin 5000, s (Idealize.ShloMosaic.ix2 b c) = S c)
    (hpad : ∀ c, c < 5000 → ∀ j, 5000 ≤ j → ¬ before S j c) (p : Fin 5000) :
    ordT s (Idealize.ShloMosaic.ix2 b p) = BitVec.ofNat 32 (sg S p) := by
  classical
  refine (sort2_at _ (Host.negf s) b p).trans ?_
  have e : ∀ k : Fin 5000, (Host.negf s (Idealize.ShloMosaic.ix2 b k) : EReal) = - S k := fun k => by
    rw [← hs k]; rfl
  have h := (sortedFrom_key (fun j : Fin 5000 => - S j) (fun k k' => comparator_f32_i32_d1 (F := Ideal)
      (Host.negf s (Idealize.ShloMosaic.ix2 b k), BitVec.ofNat 32 k) (Host.negf s (Idealize.ShloMosaic.ix2 b k'), BitVec.ofNat 32 k') == 1#1)
      (fun a c => by rw [beq_iff_eq, comp_at, e, e]) p _).mp rfl
  refine congrArg (BitVec.ofNat 32) ?_
  generalize sortedFrom _ p = q at h ⊢
  rw [← rank_eq_iff S (by omega) (by omega), rank_eq_card S (hpad q q.isLt), ← h]
  congr 1
  refine Finset.filter_congr fun j _ => ?_
  rw [EReal.neg_lt_neg_iff, neg_inj]
  rfl

end Cert.Proof.Nms.Ref

end
-- ==== Proof.Nms.Equal.lean ====
/-
  The reference's results at an index, from what its tables are at one image.
-/
module

public import proofs.«01_k».proof.Proof.Nms.RefC
public import proofs.«01_k».proof.Proof.Nms.Count
public import proofs.«01_k».proof.Proof.Nms.Body

@[expose] public section

set_option maxRecDepth 16384

noncomputable section

namespace Cert.Proof.Nms.Ref

open Cert.ReferenceIdeal Cert.ReferenceIdeal.Gen
open Idealize.ShloMosaic

/-- A small whole number, read from its word as a float, is itself. -/
theorem sitofp_nat {n : ℕ} (hn : n < 2 ^ 31) : FloatOps.sitofp (F := Ideal) .f32 (BitVec.ofNat 32 n) = ((n : ℕ) : EReal) := by
  show (((BitVec.ofNat 32 n).toInt : ℝ) : EReal) = _
  rw [toInt_ofNat_of_lt hn, Int.cast_natCast]; rfl

/-- Rounding a small whole number and writing it as a word gives its word. -/
theorem fptosi_nat {n : ℕ} (hn : n < 2 ^ 31) :
    FloatOps.fptosi (F := Ideal) (φ := .f32) 32 (Ideal.liftRound Ideal.roundHalfEven ((n : ℕ) : EReal)) = BitVec.ofNat 32 n := by
  have e : Ideal.roundHalfEven (n : ℝ) = (n : ℤ) := by
    unfold Ideal.roundHalfEven
    simp only [Int.floor_natCast, Int.cast_natCast, sub_self]
    rw [if_pos (by norm_num)]
  show Ideal.fptosi 32 (Ideal.liftRound Ideal.roundHalfEven ((n : ℝ) : EReal)) = _
  rw [Ideal.liftRound_coe, e]
  have h : Ideal.toIntClamped (-(2 ^ (32 - 1) : Nat)) ((2 ^ (32 - 1) : Nat) - 1) ((((n : ℤ) : ℝ) : ℝ) : EReal) = (n : ℤ) := by
    show max _ (min _ (if (0 : ℝ) ≤ ((n : ℤ) : ℝ) then ⌊((n : ℤ) : ℝ)⌋ else ⌈((n : ℤ) : ℝ)⌉)) = (n : ℤ)
    rw [if_pos (by exact_mod_cast Nat.zero_le n), Int.floor_intCast]
    have h2 : (n : ℤ) < 2 ^ 31 := by exact_mod_cast hn
    rw [min_eq_right (by norm_num; omega), max_eq_right (by norm_num)]
  unfold Ideal.fptosi
  rw [h]
  exact BitVec.ofInt_natCast 32 n

variable (D : ℕ → ℕ → EReal) (hpad : ∀ c, c < 5000 → ∀ j, 5000 ≤ j → ¬ before (D 4) j c) (b : Fin 4)
  (S : FVec Ideal S4x5000 .f32) (hS : ∀ c : Fin 5000, S (Idealize.ShloMosaic.ix2 b c) = D 4 c)
  (Lb : IVec S4x5000 32) (n : ℕ → ℕ) (hLb : ∀ c : Fin 5000, Lb (Idealize.ShloMosaic.ix2 b c) = BitVec.ofNat 32 (n c))
  (hn : ∀ c, n c < 2 ^ 31) (h5 : ∀ c : Fin 5000, D 5 c = ((n c : ℕ) : EReal))
  (C : FVec Ideal S4x5000x4 .f32) (hC : ∀ (c : Fin 5000) (r : Fin 4), C (Idealize.ShloMosaic.ix3 b c r) = D r c)

include hpad hS in
/-- The reference's order lists the boxes by the kernel's ranks. -/
theorem ord_eq (p : Fin 5000) : ordT S (Idealize.ShloMosaic.ix2 b p) = BitVec.ofNat 32 (sg (D 4) p) := ordT_at S b (D 4) hS hpad p

include hpad hLb hn h5 hC in
/-- The reference's boxes in rank order are the kernel's. -/
theorem box_eq (O : IVec S4x5000 32) (hO : ∀ p : Fin 5000, O (Idealize.ShloMosaic.ix2 b p) = BitVec.ofNat 32 (sg (D 4) p))
    (hoff : ∀ (c : Fin 5000) (r : Fin 4), offT C Lb (Idealize.ShloMosaic.ix3 b c r) = C (Idealize.ShloMosaic.ix3 b c r)
      + FloatOps.sitofp (F := Ideal) .f32 (Lb (Idealize.ShloMosaic.ix2 b c)) * (mcT C (Idealize.ShloMosaic.ix1 b) + 1))
    (hmc : mcT C (Idealize.ShloMosaic.ix1 b) = mc D)
    (p : Fin 5000) (r : Fin 4) :
    takeRows (offT C Lb) O (Idealize.ShloMosaic.ix3 b p r) = ob D r p := by
  have hlt := sg_lt_5000 (D 4) hpad p.isLt
  rw [takeRows_at _ _ b p r ⟨sg (D 4) p, hlt⟩ (hO p), hoff, hC, hLb, sitofp_nat (hn _), ← h5, hmc]
  rfl

variable (O : IVec S4x5000 32) (hO : ∀ p : Fin 5000, O (Idealize.ShloMosaic.ix2 b p) = BitVec.ofNat 32 (sg (D 4) p))
  (M : IVec S4x5000 1) (hM : ∀ p : Fin 5000, M (Idealize.ShloMosaic.ix2 b p) = 1#1 ↔ sup D p)

include hpad hO in
/-- The second sort turns the order into ranks. -/
theorem inv_eq (c : Fin 5000) : ∃ q : Fin 5000, ordI O (Idealize.ShloMosaic.ix2 b c) = BitVec.ofNat 32 q ∧ q.val = rank (D 4) c := by
  have hinj : ∀ a c, a < 5000 → c < 5000 → sg (D 4) a = sg (D 4) c → a = c := fun a c ha hc h => by
    rw [← rank_sg (D 4) (p := a) (by omega), h, rank_sg (D 4) (p := c) (by omega)]
  obtain ⟨q, h1, h2⟩ := ordI_at O b (sg (D 4)) hO (fun c hc => (sg_lt_5000 (D 4) hpad hc).trans (by norm_num)) hinj c
  refine ⟨q, h1, ?_⟩
  rw [card_lt_of_inj (fun j : Fin 5000 => sg (D 4) j) (fun a c h => Fin.ext (hinj a c a.isLt c.isLt h)) (fun a => sg_lt_5000 (D 4) hpad a.isLt) q] at h2
  rw [← h2, rank_sg (D 4) (by omega)]

include hpad hO hM in
/-- The reference keeps the boxes that the kernel keeps. -/
theorem keep_eq (c : Fin 5000) : keepT M O (Idealize.ShloMosaic.ix2 b c) = 1#1 ↔ kp D c := by
  obtain ⟨q, h1, h2⟩ := inv_eq D hpad b O hO c
  unfold keepT
  rw [takeMask_at _ _ b c q h1]
  unfold kp
  rw [← h2, ← hM q]
  show ~~~(M (Idealize.ShloMosaic.ix2 b q)) = 1#1 ↔ _
  generalize M (Idealize.ShloMosaic.ix2 b q) = v
  revert v
  decide

include hpad hO hM in
/-- The place kept at lane `k`. -/
theorem sel_eq (k : Fin 100) : ∃ q : Fin 5000, selT M O (Idealize.ShloMosaic.ix2 b k) = BitVec.ofNat 32 q
    ∧ (Finset.univ.filter fun j : Fin 5000 => key D j < key D q).card = (k : ℕ) := by
  have hkey : ∀ c, c < 5000 → key D c < 10000 := fun c hc => by
    by_cases h : kp D c
    · rw [key_true D h]; have := kp_rank D h; omega
    · rw [key_false D h]; omega
  obtain ⟨q, h1, h2⟩ := ordI_at (select (keepT M O) (ordI O)
      (broadcastInDim S4x5000 ![1] bcast_S5000_S4x5000_1 (addi (broadcastInDim S5000 ![] bcast_S_S5000 (constantI S_ 32 5000#32)) (iotaInDim S5000 32 0)))) b (key D)
    (fun c => by
      have hk := keep_eq D hpad b O hO M hM c
      obtain ⟨q, h1, h2⟩ := inv_eq D hpad b O hO c
      generalize keepT M O = kt at hk
      generalize ordI O = io at h1
      pointwise
      rw [h1, h2]
      show (if kt (Idealize.ShloMosaic.ix2 b c) = 1 then _ else _) = _
      by_cases h : kp D c
      · rw [key_true D h]; exact if_pos (hk.mpr h)
      · rw [key_false D h]
        refine (if_neg (fun h' => h (hk.mp h'))).trans ?_
        exact (BitVec.ofNat_add 5000 c.val).symm)
    (fun c hc => (hkey c hc).trans (by norm_num)) (fun a c ha hc h => key_inj D ha hc h) ⟨k.val, by omega⟩
  refine ⟨q, ?_, h2⟩
  rw [← h1]
  unfold selT
  generalize ordI (select _ _ _) = w
  pointwise

include hpad hS hO hM in
/-- The reference's score at place `k` is the kernel's sum of a kept and a demoted part. -/
theorem score_eq (k : Fin 100) :
    take100 (adjT M O S) (selT M O) (Idealize.ShloMosaic.ix2 b k) = outP D k 4 + dim * outQ D k 4 := by
  obtain ⟨q, h1, h2⟩ := sel_eq D hpad b O hO M hM k
  have hk := keep_eq D hpad b O hO M hM q
  rw [take100_at _ _ b k q h1]
  unfold adjT
  generalize keepT M O = kt at hk
  pointwise
  rw [hS]
  show (if kt (Idealize.ShloMosaic.ix2 b q) = 1 then _ else _) = _
  by_cases h : kp D q
  · obtain ⟨e1, e2⟩ := pick_true D hpad h h2 4
    rw [e1, e2, mul_zero, add_zero]; exact if_pos (hk.mpr h)
  · obtain ⟨e1, e2⟩ := pick_false D hpad h h2 4
    rw [e1, e2, zero_add, mul_comm]
    exact if_neg (fun h' => h (hk.mp h'))

include hpad hLb hn h5 hO hM in
/-- The reference's label at place `k` is the kernel's rounded sum. -/
theorem label_eq (k : Fin 100) : take100 Lb (selT M O) (Idealize.ShloMosaic.ix2 b k)
    = FloatOps.fptosi (F := Ideal) (φ := .f32) 32 (Ideal.liftRound Ideal.roundHalfEven (outP D k 5 + outQ D k 5)) := by
  obtain ⟨q, h1, h2⟩ := sel_eq D hpad b O hO M hM k
  rw [take100_at _ _ b k q h1, hLb]
  have e : outP D k 5 + outQ D k 5 = ((n q : ℕ) : EReal) := by
    rw [← h5]
    by_cases h : kp D q
    · obtain ⟨e1, e2⟩ := pick_true D hpad h h2 5
      rw [e1, e2, add_zero]
    · obtain ⟨e1, e2⟩ := pick_false D hpad h h2 5
      rw [e1, e2, zero_add]
  rw [e, fptosi_nat (hn _)]

include hpad hC hO hM in
/-- The reference's corner at place `k` is the kernel's sum. -/
theorem corner_eq (k : Fin 100) (r : Fin 4) : takeRows100 C (selT M O) (Idealize.ShloMosaic.ix3 b k r) = outP D k r + outQ D k r := by
  obtain ⟨q, h1, h2⟩ := sel_eq D hpad b O hO M hM k
  rw [takeRows100_at _ _ b k r q h1, hC]
  by_cases h : kp D q
  · obtain ⟨e1, e2⟩ := pick_true D hpad h h2 r
    rw [e1, e2, add_zero]
  · obtain ⟨e1, e2⟩ := pick_false D hpad h h2 r
    rw [e1, e2, zero_add]

end Cert.Proof.Nms.Ref
end
-- ==== Proof.Nms.RefB.lean ====
/-
  The reference's loop: after all its trips the mask holds exactly the suppressed places. Also what its lines after the
  loop leave in the three results.
-/
module

public import proofs.«01_k».proof.Proof.Nms.RefA
public import Idealize.ShloMosaic.Lib.DynamicIndex

@[expose] public section

set_option maxRecDepth 16384

noncomputable section

namespace Cert.Proof.Nms.Ref

open Cert.ReferenceIdeal Cert.ReferenceIdeal.Gen Cert.ReferenceIdeal.Value
open Idealize.ShloMosaic Idealize.ShloMosaic.TcCoe Idealize.ShloMosaic.StableHlo
open Idealize.SL Idealize.SL.Sem

/-- One trip's mask, from the row of overlaps and the column of the mask it reads. -/
def stepT (i : IVec S5000 32) (k : IVec S_ 32) (x : IVec S4x5000 1) (row : FVec Ideal S4x1x5000 .f32) (cur : IVec S4x1 1) : IVec S4x5000 1 :=
  ori x (andi (andi (broadcastInDim S4x5000 ![0, 1] bcast_S1x5000_S4x5000_0_1 (broadcastInDim S1x5000 ![1] bcast_S5000_S1x5000_1
      (cmpi .sgt i (broadcastInDim S5000 ![] bcast_S_S5000 k))))
    (cmpf .ogt (shapeCast S4x5000 row shapeCasts_S4x1x5000_S4x5000) (broadcastInDim S4x5000 ![] bcast_S_S4x5000 (constant S_ .f32 0x3F333333#32))))
    (broadcastInDim S4x5000 ![0, 1] bcast_S4x1_S4x5000_0_1 (noti cur)))

/-- The word of a truth value is 1 when it holds. -/
theorem ofBool_one (b : Bool) : BitVec.ofBool b = 1#1 ↔ b = true := by cases b <;> decide

/-- One step of the mask, on single bits. -/
theorem bit_step (a b c d : BitVec 1) : (a ||| ((b &&& c) &&& ~~~d) = 1#1) ↔ (a = 1#1 ∨ (b = 1#1 ∧ c = 1#1 ∧ ¬ d = 1#1)) := by
  revert a b c d; decide

/-- One step of the loop, at an index of the mask. -/
theorem step_at (i : IVec S5000 32) (k : ℕ) (hk : k < 5000) (x : IVec S4x5000 1) (row : FVec Ideal S4x1x5000 .f32) (cur : IVec S4x1 1)
    (hi : ∀ p : Fin 5000, i (Idealize.ShloMosaic.ix1 p) = BitVec.ofNat 32 p) (b : Fin 4) (p : Fin 5000) :
    stepT i (constantI S_ 32 (BitVec.ofNat 32 k)) x row cur (Idealize.ShloMosaic.ix2 b p) = 1#1 ↔
      (x (Idealize.ShloMosaic.ix2 b p) = 1#1 ∨ (k < p.val ∧ thr < row (Idealize.ShloMosaic.ix3 b 0 p) ∧ ¬ cur (Idealize.ShloMosaic.ix2 b 0) = 1#1)) := by
  pointwise [stepT]
  rw [hi p]
  refine (bit_step _ _ _ _).trans ?_
  have h1 : IntOp.cmpi .sgt (BitVec.ofNat 32 p) (BitVec.ofNat 32 k) = 1#1 ↔ k < p.val := by
    show BitVec.ofBool ((BitVec.ofNat 32 k).slt (BitVec.ofNat 32 p)) = 1#1 ↔ _
    rw [ofBool_one, BitVec.slt, decide_eq_true_eq, toInt_ofNat_of_lt (by omega), toInt_ofNat_of_lt (by omega)]
    omega
  have h2 : BitVec.ofBool (decide (Ideal.ofBits FTy.f32 1060320051#32 < row (Idealize.ShloMosaic.ix3 b 0 p))) = 1#1 ↔ thr < row (Idealize.ShloMosaic.ix3 b 0 p) := by
    rw [ofBool_one, decide_eq_true_eq]; rfl
  rw [h1, h2]

/-- A buffer at the loop's exit, through the generated step. -/
theorem iter_keep (V0 : Valuation τ sig (Elt Ideal)) : ∀ k, (STEP^[k] V0) (Proc.devRef .tc main_v95_0) = V0 (Proc.devRef .tc main_v95_0)
    ∧ (STEP^[k] V0) (Proc.devRef .tc main_v95_1) = V0 (Proc.devRef .tc main_v95_1)
  | 0 => ⟨rfl, rfl⟩
  | k + 1 => by
    rw [Function.iterate_succ_apply', STEP_main_v95_0, STEP_main_v95_1]; exact iter_keep V0 k

/-- The loop's counter counts its steps. -/
theorem iter_ctr (V0 : Valuation τ sig (Elt Ideal)) (h0 : V0 (Proc.devRef .tc main_v95_3) = constantI S_ 32 0#32) :
    ∀ k, (STEP^[k] V0) (Proc.devRef .tc main_v95_3) = constantI S_ 32 (BitVec.ofNat 32 k)
  | 0 => h0
  | k + 1 => by
    rw [Function.iterate_succ_apply', STEP_main_v95_3]
    unfold step_main_v95_3
    rw [iter_ctr V0 h0 k]
    funext j
    show BitVec.ofNat 32 k + 1#32 = _
    show _ = BitVec.ofNat 32 (k + 1)
    apply BitVec.eq_of_toNat_eq
    simp [BitVec.toNat_add]

/-- The mask after a step, from the mask before it. -/
theorem step_eq (V0 : Valuation τ sig (Elt Ideal)) (k : ℕ) (hk : k < 5000)
    (h3 : V0 (Proc.devRef .tc main_v95_3) = constantI S_ 32 (BitVec.ofNat 32 k))
    (hi : ∀ p : Fin 5000, (V0 (Proc.devRef .tc main_v95_1) : IVec S5000 32) (Idealize.ShloMosaic.ix1 p) = BitVec.ofNat 32 p) (b : Fin 4) (p : Fin 5000) :
    (STEP V0 (Proc.devRef .tc main_v95_4) : IVec S4x5000 1) (Idealize.ShloMosaic.ix2 b p) = 1#1 ↔
      ((V0 (Proc.devRef .tc main_v95_4) : IVec S4x5000 1) (Idealize.ShloMosaic.ix2 b p) = 1#1
        ∨ (k < p.val ∧ thr < (V0 (Proc.devRef .tc main_v95_0) : FVec Ideal S4x5000x5000 .f32) (Idealize.ShloMosaic.ix3 b ⟨k, hk⟩ p)
          ∧ ¬ (V0 (Proc.devRef .tc main_v95_4) : IVec S4x5000 1) (Idealize.ShloMosaic.ix2 b ⟨k, hk⟩) = 1#1)) := by
  rw [STEP_main_v95_4]
  unfold step_main_v95_4
  rw [h3]
  have hf0 : S4x5000x5000.Slices (![0, k, 0] : Fin 3 → ℕ) S4x1x5000 := ⟨rfl, fun a => by
    fin_cases a <;> simp [S4x5000x5000, S4x1x5000] <;> omega⟩
  have hf1 : S4x5000.Slices (![0, k] : Fin 2 → ℕ) S4x1 := ⟨rfl, fun a => by
    fin_cases a <;> simp [S4x5000, S4x1] <;> omega⟩
  refine (step_at (V0 (Proc.devRef .tc main_v95_1)) k hk (V0 (Proc.devRef .tc main_v95_4)) _ _ hi b p).trans ?_
  rw [Host.dynamicSlice_eq_extractStridedSlice S4x1x5000 _ _ ![0, k, 0] _ hf0 (fun a => by
      fin_cases a
      · rfl
      · exact toInt_wrap_ofNat k (by omega)
      · rfl),
    Host.dynamicSlice_eq_extractStridedSlice S4x1 _ _ ![0, k] _ hf1 (fun a => by
      fin_cases a
      · rfl
      · exact toInt_wrap_ofNat k (by omega))]
  have e0 : extractStridedSlice S4x1x5000 ![0, k, 0] (V0 (Proc.devRef .tc main_v95_0) : FVec Ideal S4x5000x5000 .f32) hf0 (Idealize.ShloMosaic.ix3 b 0 p)
      = (V0 (Proc.devRef .tc main_v95_0) : FVec Ideal S4x5000x5000 .f32) (Idealize.ShloMosaic.ix3 b ⟨k, hk⟩ p) := by
    unfold extractStridedSlice
    refine congrArg (V0 (Proc.devRef .tc main_v95_0) : FVec Ideal S4x5000x5000 .f32) ?_
    funext a; apply Fin.ext; fin_cases a <;> simp [Idealize.ShloMosaic.ix3]
  have e1 : extractStridedSlice S4x1 ![0, k] (V0 (Proc.devRef .tc main_v95_4) : IVec S4x5000 1) hf1 (Idealize.ShloMosaic.ix2 b 0)
      = (V0 (Proc.devRef .tc main_v95_4) : IVec S4x5000 1) (Idealize.ShloMosaic.ix2 b ⟨k, hk⟩) := by
    unfold extractStridedSlice
    refine congrArg (V0 (Proc.devRef .tc main_v95_4) : IVec S4x5000 1) ?_
    funext a; apply Fin.ext; fin_cases a <;> simp [Idealize.ShloMosaic.ix2]
  rw [e0, e1]

/-- Before trip `k` a place is masked when an earlier place among the first `k` suppresses it. -/
theorem iter_mask (V0 : Valuation τ sig (Elt Ideal)) (h3 : V0 (Proc.devRef .tc main_v95_3) = constantI S_ 32 0#32)
    (hi : ∀ p : Fin 5000, (V0 (Proc.devRef .tc main_v95_1) : IVec S5000 32) (Idealize.ShloMosaic.ix1 p) = BitVec.ofNat 32 p)
    (h4 : V0 (Proc.devRef .tc main_v95_4) = constantI S4x5000 1 0#1) (b : Fin 4) (O : ℕ → ℕ → Prop)
    (hO : ∀ i j : Fin 5000, thr < (V0 (Proc.devRef .tc main_v95_0) : FVec Ideal S4x5000x5000 .f32) (Idealize.ShloMosaic.ix3 b i j) ↔ O j i) :
    ∀ k, k ≤ 5000 → ∀ p : Fin 5000, ((STEP^[k] V0) (Proc.devRef .tc main_v95_4) : IVec S4x5000 1) (Idealize.ShloMosaic.ix2 b p) = 1#1 ↔
      ∃ q, q < k ∧ q < p.val ∧ ¬ supp O q ∧ O p q := by
  intro k
  induction k with
  | zero =>
    intro _ p
    rw [Function.iterate_zero, id, h4]
    exact ⟨fun h => absurd h (by show ¬ (0#1 = 1#1); decide), fun ⟨q, h, _⟩ => absurd h (by omega)⟩
  | succ k ih =>
    intro hk p
    have hk' : k < 5000 := by omega
    rw [Function.iterate_succ_apply', step_eq (STEP^[k] V0) k hk' (iter_ctr V0 h3 k) (by rw [(iter_keep V0 k).2]; exact hi) b p,
      ih (by omega) p, ih (by omega) ⟨k, hk'⟩, (iter_keep V0 k).1, hO]
    have hs : supp O k ↔ ∃ q, q < k ∧ q < k ∧ ¬ supp O q ∧ O k q := by
      rw [supp_iff]
      constructor
      · rintro (h | ⟨q, h1, h2⟩)
        · omega
        · exact ⟨q, h1, h1, h2⟩
      · rintro ⟨q, h1, _, h2⟩; exact Or.inr ⟨q, h1, h2⟩
    rw [← hs]
    constructor
    · rintro (⟨q, h1, h2⟩ | ⟨h1, h2, h3⟩)
      · exact ⟨q, by omega, h2⟩
      · exact ⟨k, by omega, h1, h3, h2⟩
    · rintro ⟨q, h1, h2, h3, h4⟩
      rcases Nat.lt_succ_iff_lt_or_eq.mp h1 with h | rfl
      · exact Or.inl ⟨q, h, h2, h3, h4⟩
      · exact Or.inr ⟨h2, h4, h3⟩

variable (m : (ℓ : Loc nD τ sig) → Buf (Elt Ideal) ℓ)

/-- At the loop's exit the mask holds the suppressed places. -/
theorem exit_mask (c : Dev nD) (h3 : Vin m c (Proc.devRef .tc main_v95_3) = constantI S_ 32 0#32)
    (hi : ∀ p : Fin 5000, (Vin m c (Proc.devRef .tc main_v95_1) : IVec S5000 32) (Idealize.ShloMosaic.ix1 p) = BitVec.ofNat 32 p)
    (h4 : Vin m c (Proc.devRef .tc main_v95_4) = constantI S4x5000 1 0#1) (b : Fin 4) (O : ℕ → ℕ → Prop)
    (hO : ∀ i j : Fin 5000, thr < (Vin m c (Proc.devRef .tc main_v95_0) : FVec Ideal S4x5000x5000 .f32) (Idealize.ShloMosaic.ix3 b i j) ↔ O j i)
    (p : Fin 5000) : (Vout m c (Proc.devRef .tc main_v95_4) : IVec S4x5000 1) (Idealize.ShloMosaic.ix2 b p) = 1#1 ↔ supp O p := by
  have h := atK_agree m c 5000 main_v95_4 (by decide)
  rw [show Vout m c (Proc.devRef .tc main_v95_4) = _ from h, iter_mask (Vin m c) h3 hi h4 b O hO 5000 le_rfl p, supp_iff]
  constructor
  · rintro ⟨q, _, h⟩; exact Or.inr ⟨q, h⟩
  · rintro (h | ⟨q, h1, h⟩)
    · omega
    · exact ⟨q, by omega, h1, h⟩

/-! ### The lines after the loop -/

variable (X : Valuation τ sig (Elt Ideal))

/-- After the loop: the mask is negated, -/
theorem post_not : after hostOps0_7 X (Proc.devRef .tc main_v96) = (noti (X (Proc.devRef .tc main_v95_4) : IVec S4x5000 1) : IVec S4x5000 1) := by
  after_reads_simp
/-- the order is sorted for the ranks, -/
theorem post_ord : after hostOps0_8 X (Proc.devRef .tc main_v97) = ordI (X (Proc.devRef .tc main_v43)) := by
  after_reads_simp; rfl
/-- the mask is taken at the ranks, -/
theorem post_keep : after hostOps0_9 X (Proc.devRef .tc main_v98) = takeMask (X (Proc.devRef .tc main_v96)) (X (Proc.devRef .tc main_v97)) := by
  after_reads_simp; rfl
/-- the places past 5000 are made, -/
theorem post_iota : after hostOps0_10 X (Proc.devRef .tc main_v101) =
    (addi (broadcastInDim S5000 ![] bcast_S_S5000 (constantI S_ 32 5000#32)) (iotaInDim S5000 32 0) : IVec S5000 32) := by
  after_reads_simp
/-- the key of every box is chosen, -/
theorem post_key : after hostOps0_11 X (Proc.devRef .tc main_v102) =
    (select (X (Proc.devRef .tc main_v98) : IVec S4x5000 1) (X (Proc.devRef .tc main_v97) : IVec S4x5000 32)
      (broadcastInDim S4x5000 ![1] bcast_S5000_S4x5000_1 (X (Proc.devRef .tc main_v101) : IVec S5000 32)) : IVec S4x5000 32) := by
  after_reads_simp; rfl
/-- the keys are sorted, -/
theorem post_sel : after hostOps0_12 X (Proc.devRef .tc main_v103) = ordI (X (Proc.devRef .tc main_v102)) := by
  after_reads_simp; rfl
/-- the first hundred are cut, -/
theorem post_top : after hostOps0_13 X (Proc.devRef .tc main_v104) =
    (extractStridedSlice S4x100 ![0, 0] (X (Proc.devRef .tc main_v103) : IVec S4x5000 32) slices_S4x5000_S4x100_0_0 : IVec S4x100 32) := by
  after_reads_simp
/-- the demoted scores are made, -/
theorem post_dim : after hostOps0_13 X (Proc.devRef .tc main_v106) =
    (mulf (X (Proc.devRef .tc main_v12) : FVec Ideal S4x5000 .f32) (broadcastInDim S4x5000 ![] bcast_S_S4x5000 (constant S_ .f32 0x3C23D70A#32)) : FVec Ideal S4x5000 .f32) := by
  after_reads_simp
/-- the scores are chosen, -/
theorem post_adj : after hostOps0_14 X (Proc.devRef .tc main_v107) =
    (select (X (Proc.devRef .tc main_v98) : IVec S4x5000 1) (X (Proc.devRef .tc main_v12) : FVec Ideal S4x5000 .f32) (X (Proc.devRef .tc main_v106) : FVec Ideal S4x5000 .f32) : FVec Ideal S4x5000 .f32) := by
  after_reads_simp; rfl
/-- and gathered, -/
theorem post_108 : after hostOps0_15 X (Proc.devRef .tc main_v108) = take100 (X (Proc.devRef .tc main_v107) : FVec Ideal S4x5000 .f32) (X (Proc.devRef .tc main_v104)) := by
  after_reads_simp; rfl
/-- the classes are gathered, -/
theorem post_109 : after hostOps0_16 X (Proc.devRef .tc main_v109) = take100 (X (Proc.devRef .tc main_v14) : IVec S4x5000 32) (X (Proc.devRef .tc main_v104)) := by
  after_reads_simp; rfl
/-- the corners are gathered -/
theorem post_111 : after hostOps0_18 (after hostOps0_17 X) (Proc.devRef .tc main_v111) = takeRows100 (X (Proc.devRef .tc main_v31)) (X (Proc.devRef .tc main_v104)) := by
  after_reads_simp; rfl
/-- and scaled. -/
theorem post_125 : after hostOps0_19 X (Proc.devRef .tc main_v125) = (mulf (X (Proc.devRef .tc main_v111) : FVec Ideal S4x100x4 .f32) (scaleT (X (Proc.devRef .tc main_arg2))) : FVec Ideal S4x100x4 .f32) := by
  after_reads_simp; rfl

/-- The order passes through the host's stretch 7. -/
theorem pass_v43_7 : after hostOps0_7 X (Proc.devRef .tc main_v43) = X (Proc.devRef .tc main_v43) := by
  after_reads_simp
/-- The negated mask passes through the host's stretch 8. -/
theorem pass_v96_8 : after hostOps0_8 X (Proc.devRef .tc main_v96) = X (Proc.devRef .tc main_v96) := by
  after_reads_simp
/-- The ranks pass through the host's stretch 9. -/
theorem pass_v97_9 : after hostOps0_9 X (Proc.devRef .tc main_v97) = X (Proc.devRef .tc main_v97) := by
  after_reads_simp
/-- The ranks pass through the host's stretch 10. -/
theorem pass_v97_10 : after hostOps0_10 X (Proc.devRef .tc main_v97) = X (Proc.devRef .tc main_v97) := by
  after_reads_simp
/-- The mask of boxes kept passes through the host's stretch 10. -/
theorem pass_v98_10 : after hostOps0_10 X (Proc.devRef .tc main_v98) = X (Proc.devRef .tc main_v98) := by
  after_reads_simp
/-- The mask of boxes kept passes through the host's stretch 11. -/
theorem pass_v98_11 : after hostOps0_11 X (Proc.devRef .tc main_v98) = X (Proc.devRef .tc main_v98) := by
  after_reads_simp
/-- The mask of boxes kept passes through the host's stretch 12. -/
theorem pass_v98_12 : after hostOps0_12 X (Proc.devRef .tc main_v98) = X (Proc.devRef .tc main_v98) := by
  after_reads_simp
/-- The mask of boxes kept passes through the host's stretch 13. -/
theorem pass_v98_13 : after hostOps0_13 X (Proc.devRef .tc main_v98) = X (Proc.devRef .tc main_v98) := by
  after_reads_simp
/-- The hundred places pass through the host's stretch 14. -/
theorem pass_v104_14 : after hostOps0_14 X (Proc.devRef .tc main_v104) = X (Proc.devRef .tc main_v104) := by
  after_reads_simp
/-- The hundred places pass through the host's stretch 15. -/
theorem pass_v104_15 : after hostOps0_15 X (Proc.devRef .tc main_v104) = X (Proc.devRef .tc main_v104) := by
  after_reads_simp
/-- The hundred places pass through the host's stretch 16. -/
theorem pass_v104_16 : after hostOps0_16 X (Proc.devRef .tc main_v104) = X (Proc.devRef .tc main_v104) := by
  after_reads_simp
/-- The first result passes through the host's stretch 16. -/
theorem pass_v108_16 : after hostOps0_16 X (Proc.devRef .tc main_v108) = X (Proc.devRef .tc main_v108) := by
  after_reads_simp
/-- The first result passes through the host's stretch 17. -/
theorem pass_v108_17 : after hostOps0_17 X (Proc.devRef .tc main_v108) = X (Proc.devRef .tc main_v108) := by
  after_reads_simp
/-- The first result passes through the host's stretch 18. -/
theorem pass_v108_18 : after hostOps0_18 X (Proc.devRef .tc main_v108) = X (Proc.devRef .tc main_v108) := by
  after_reads_simp
/-- The first result passes through the host's stretch 19. -/
theorem pass_v108_19 : after hostOps0_19 X (Proc.devRef .tc main_v108) = X (Proc.devRef .tc main_v108) := by
  after_reads_simp
/-- The second result passes through the host's stretch 17. -/
theorem pass_v109_17 : after hostOps0_17 X (Proc.devRef .tc main_v109) = X (Proc.devRef .tc main_v109) := by
  after_reads_simp
/-- The second result passes through the host's stretch 18. -/
theorem pass_v109_18 : after hostOps0_18 X (Proc.devRef .tc main_v109) = X (Proc.devRef .tc main_v109) := by
  after_reads_simp
/-- The second result passes through the host's stretch 19. -/
theorem pass_v109_19 : after hostOps0_19 X (Proc.devRef .tc main_v109) = X (Proc.devRef .tc main_v109) := by
  after_reads_simp
/-- The scores pass through the lines up to their choice. -/
theorem pass_v12_A : (after hostOps0_13 (after hostOps0_12 (after hostOps0_11 (after hostOps0_10 (after hostOps0_9 (after hostOps0_8 (after hostOps0_7 X))))))) (Proc.devRef .tc main_v12) = X (Proc.devRef .tc main_v12) := by
  after_reads_simp
/-- The scores pass through the lines up to the demotion. -/
theorem pass_v12_B : (after hostOps0_12 (after hostOps0_11 (after hostOps0_10 (after hostOps0_9 (after hostOps0_8 (after hostOps0_7 X)))))) (Proc.devRef .tc main_v12) = X (Proc.devRef .tc main_v12) := by
  after_reads_simp
/-- The classes pass through the lines up to their gather. -/
theorem pass_v14 : after hostOps0_15 (after hostOps0_14 (after hostOps0_13 (after hostOps0_12 (after hostOps0_11 (after hostOps0_10 (after hostOps0_9 (after hostOps0_8 (after hostOps0_7 X)))))))) (Proc.devRef .tc main_v14) = X (Proc.devRef .tc main_v14) := by
  after_reads_simp
/-- The corners pass through the lines up to their gather. -/
theorem pass_v31 : after hostOps0_16 (after hostOps0_15 (after hostOps0_14 (after hostOps0_13 (after hostOps0_12 (after hostOps0_11 (after hostOps0_10 (after hostOps0_9 (after hostOps0_8 (after hostOps0_7 X))))))))) (Proc.devRef .tc main_v31) = X (Proc.devRef .tc main_v31) := by
  after_reads_simp
/-- The image sizes pass through the lines up to the scaling. -/
theorem pass_arg2 : after hostOps0_18 (after hostOps0_17 (after hostOps0_16 (after hostOps0_15 (after hostOps0_14 (after hostOps0_13 (after hostOps0_12 (after hostOps0_11 (after hostOps0_10 (after hostOps0_9 (after hostOps0_8 (after hostOps0_7 X))))))))))) (Proc.devRef .tc main_arg2) = X (Proc.devRef .tc main_arg2) := by
  after_reads_simp

/-- The loop's test changes no buffer of the program's. -/
theorem cond_keep (b : Ref sig .tc) (h : b ∉ condOps_W) : after condOps X (Proc.devRef .tc b) = X (Proc.devRef .tc b) :=
  after_of_writes_sub condOps X condOps_writes h

/-- Which boxes survive, as the lines after the loop leave it, -/
theorem post_keepT : after hostOps0_9 (after hostOps0_8 (after hostOps0_7 X)) (Proc.devRef .tc main_v98) =
    keepT (X (Proc.devRef .tc main_v95_4)) (X (Proc.devRef .tc main_v43)) := by
  rw [post_keep, pass_v96_8, post_not, post_ord, pass_v43_7]; rfl
/-- and the hundred places kept. -/
theorem post_selT : after hostOps0_13 (after hostOps0_12 (after hostOps0_11 (after hostOps0_10 (after hostOps0_9 (after hostOps0_8 (after hostOps0_7 X))))))
    (Proc.devRef .tc main_v104) = selT (X (Proc.devRef .tc main_v95_4)) (X (Proc.devRef .tc main_v43)) := by
  rw [post_top, post_sel, post_key, post_iota, pass_v98_10, pass_v97_10, post_keepT, pass_v97_9, post_ord, pass_v43_7]; rfl

/-- The first result, from what the loop leaves. -/
theorem end_v108 (c : Dev nD) : Vend m c (Proc.devRef .tc main_v108) =
    take100 (adjT (Vout m c (Proc.devRef .tc main_v95_4)) (Vout m c (Proc.devRef .tc main_v43)) (Vout m c (Proc.devRef .tc main_v12)))
      (selT (Vout m c (Proc.devRef .tc main_v95_4)) (Vout m c (Proc.devRef .tc main_v43))) := by
  unfold Vend
  simp only [finalContents, afterL_cons, afterL_nil]
  rw [pass_v108_19, pass_v108_18, pass_v108_17, pass_v108_16, post_108, post_adj, pass_v104_14, post_selT, pass_v98_13, pass_v98_12, pass_v98_11,
    pass_v98_10, post_keepT, post_dim]
  rw [pass_v12_A, pass_v12_B]
  rw [cond_keep _ main_v12 (by decide), cond_keep _ main_v95_4 (by decide), cond_keep _ main_v43 (by decide)]
  rfl

/-- The second result, from what the loop leaves. -/
theorem end_v109 (c : Dev nD) : Vend m c (Proc.devRef .tc main_v109) =
    take100 (Vout m c (Proc.devRef .tc main_v14) : IVec S4x5000 32) (selT (Vout m c (Proc.devRef .tc main_v95_4)) (Vout m c (Proc.devRef .tc main_v43))) := by
  unfold Vend
  simp only [finalContents, afterL_cons, afterL_nil]
  rw [pass_v109_19, pass_v109_18, pass_v109_17, post_109, pass_v104_15, pass_v104_14, post_selT, pass_v14,
    cond_keep _ main_v14 (by decide), cond_keep _ main_v95_4 (by decide), cond_keep _ main_v43 (by decide)]

/-- The third result, from what the loop leaves. -/
theorem end_v125 (c : Dev nD) : Vend m c (Proc.devRef .tc main_v125) =
    (mulf (takeRows100 (Vout m c (Proc.devRef .tc main_v31)) (selT (Vout m c (Proc.devRef .tc main_v95_4)) (Vout m c (Proc.devRef .tc main_v43))))
      (scaleT (Vout m c (Proc.devRef .tc main_arg2))) : FVec Ideal S4x100x4 .f32) := by
  unfold Vend
  simp only [finalContents, afterL_cons, afterL_nil]
  rw [post_125, post_111, pass_v104_16, pass_v104_15, pass_v104_14, post_selT, pass_v31, pass_arg2,
    cond_keep _ main_v31 (by decide), cond_keep _ main_arg2 (by decide), cond_keep _ main_v95_4 (by decide), cond_keep _ main_v43 (by decide)]

/-! ### What the loop is entered with and leaves -/

/-- The overlaps the loop starts from. -/
theorem entry_v95_0 (c : Dev nD) : Vin m c (Proc.devRef .tc main_v95_0) = iouT (Vin m c (Proc.devRef .tc main_v45)) := by
  simp only [entryContents, afterL_cons, afterL_nil]
  rw [iou_read]
  refine congrArg iouT (Eq.symm ?_)
  after_reads_simp
/-- The boxes in rank order. -/
theorem entry_v45 (c : Dev nD) : Vin m c (Proc.devRef .tc main_v45) = takeRows (Vin m c (Proc.devRef .tc main_v41)) (Vin m c (Proc.devRef .tc main_v43)) := by
  have h : ∀ Y : Valuation τ sig (Elt Ideal), after hostOps0_6 (after hostOps0_5 (after hostOps0_4 Y)) (Proc.devRef .tc main_v45) =
      takeRows (after hostOps0_6 (after hostOps0_5 (after hostOps0_4 Y)) (Proc.devRef .tc main_v41)) (after hostOps0_6 (after hostOps0_5 (after hostOps0_4 Y)) (Proc.devRef .tc main_v43)) := fun Y => by
    have h6 : ∀ Z : Valuation τ sig (Elt Ideal), after hostOps0_6 Z (Proc.devRef .tc main_v45) = Z (Proc.devRef .tc main_v45) := fun Z => by after_reads_simp
    have h41 : after hostOps0_6 (after hostOps0_5 (after hostOps0_4 Y)) (Proc.devRef .tc main_v41) = Y (Proc.devRef .tc main_v41) := by after_reads_simp
    have h43 : after hostOps0_6 (after hostOps0_5 (after hostOps0_4 Y)) (Proc.devRef .tc main_v43) = Y (Proc.devRef .tc main_v43) := by after_reads_simp
    rw [h6, box_read, h41, h43]
  simp only [entryContents, afterL_cons, afterL_nil]
  exact h _

/-- The buffers the lines before the loop leave, over any contents. -/
theorem pre_v12 : (after hostOps0_6 (after hostOps0_5 (after hostOps0_4 (after hostOps0_3 (after hostOps0_2 (after hostOps0_1 (after hostOps0 X))))))) (Proc.devRef .tc main_v12) = scoreT (X (Proc.devRef .tc main_arg0)) := by
  rw [← score_read]; generalize after hostOps0 X = Y; after_reads_simp
/-- The lines before the loop, as one: the classes, -/
theorem pre_v14 : (after hostOps0_6 (after hostOps0_5 (after hostOps0_4 (after hostOps0_3 (after hostOps0_2 (after hostOps0_1 (after hostOps0 X))))))) (Proc.devRef .tc main_v14) = labT (X (Proc.devRef .tc main_arg0)) := by
  rw [← lab_read]; generalize after hostOps0_1 (after hostOps0 X) = Y; after_reads_simp
/-- the corners, -/
theorem pre_v31 : (after hostOps0_6 (after hostOps0_5 (after hostOps0_4 (after hostOps0_3 (after hostOps0_2 (after hostOps0_1 (after hostOps0 X))))))) (Proc.devRef .tc main_v31) = cornT (X (Proc.devRef .tc main_arg1)) := by
  have h : after hostOps0_1 (after hostOps0 X) (Proc.devRef .tc main_arg1) = X (Proc.devRef .tc main_arg1) := by after_reads_simp
  rw [← h, ← corn_read]; generalize after hostOps0_2 (after hostOps0_1 (after hostOps0 X)) = Y; after_reads_simp
/-- the corners moved apart by class, -/
theorem pre_v41 : (after hostOps0_6 (after hostOps0_5 (after hostOps0_4 (after hostOps0_3 (after hostOps0_2 (after hostOps0_1 (after hostOps0 X))))))) (Proc.devRef .tc main_v41) = offT (cornT (X (Proc.devRef .tc main_arg1))) (labT (X (Proc.devRef .tc main_arg0))) := by
  have h : after hostOps0_1 (after hostOps0 X) (Proc.devRef .tc main_arg1) = X (Proc.devRef .tc main_arg1) := by after_reads_simp
  rw [← h, ← lab_read, ← off_read]; generalize after hostOps0_2 (after hostOps0_1 (after hostOps0 X)) = Y; after_reads_simp
/-- the order, -/
theorem pre_v43 : (after hostOps0_6 (after hostOps0_5 (after hostOps0_4 (after hostOps0_3 (after hostOps0_2 (after hostOps0_1 (after hostOps0 X))))))) (Proc.devRef .tc main_v43) = ordT (scoreT (X (Proc.devRef .tc main_arg0))) := by
  have h : after hostOps0_1 (after hostOps0 X) (Proc.devRef .tc main_v12) = after hostOps0 X (Proc.devRef .tc main_v12) := by
    generalize after hostOps0 X = Y; after_reads_simp
  rw [← score_read, ← h, ← ord_read]; generalize after hostOps0_3 (after hostOps0_2 (after hostOps0_1 (after hostOps0 X))) = Y; after_reads_simp
/-- the places, -/
theorem pre_v95_1 : (after hostOps0_6 (after hostOps0_5 (after hostOps0_4 (after hostOps0_3 (after hostOps0_2 (after hostOps0_1 (after hostOps0 X))))))) (Proc.devRef .tc main_v95_1) = (iotaInDim S5000 32 0 : IVec S5000 32) := by
  generalize (after hostOps0_5 (after hostOps0_4 (after hostOps0_3 (after hostOps0_2 (after hostOps0_1 (after hostOps0 X)))))) = Y; after_reads_simp; rfl
/-- the counter -/
theorem pre_v95_3 : (after hostOps0_6 (after hostOps0_5 (after hostOps0_4 (after hostOps0_3 (after hostOps0_2 (after hostOps0_1 (after hostOps0 X))))))) (Proc.devRef .tc main_v95_3) = (constantI S_ 32 0#32 : IVec S_ 32) := by
  generalize (after hostOps0_5 (after hostOps0_4 (after hostOps0_3 (after hostOps0_2 (after hostOps0_1 (after hostOps0 X)))))) = Y; after_reads_simp; rfl
/-- and the mask. -/
theorem pre_v95_4 : (after hostOps0_6 (after hostOps0_5 (after hostOps0_4 (after hostOps0_3 (after hostOps0_2 (after hostOps0_1 (after hostOps0 X))))))) (Proc.devRef .tc main_v95_4) = (constantI S4x5000 1 0#1 : IVec S4x5000 1) := by
  generalize (after hostOps0_5 (after hostOps0_4 (after hostOps0_3 (after hostOps0_2 (after hostOps0_1 (after hostOps0 X)))))) = Y; after_reads_simp; rfl

/-- The scores, from the arguments. -/
theorem entry_v12 (c : Dev nD) : Vin m c (Proc.devRef .tc main_v12) = scoreT (m ((c.tc : Thread nD τ).loc main_arg0)) := by
  simp only [entryContents, afterL_cons, afterL_nil]
  exact pre_v12 _
/-- The classes, from the arguments. -/
theorem entry_v14 (c : Dev nD) : Vin m c (Proc.devRef .tc main_v14) = labT (m ((c.tc : Thread nD τ).loc main_arg0)) := by
  simp only [entryContents, afterL_cons, afterL_nil]
  exact pre_v14 _
/-- The corners, from the arguments. -/
theorem entry_v31 (c : Dev nD) : Vin m c (Proc.devRef .tc main_v31) = cornT (m ((c.tc : Thread nD τ).loc main_arg1)) := by
  simp only [entryContents, afterL_cons, afterL_nil]
  exact pre_v31 _
/-- The corners moved apart by class, from the arguments. -/
theorem entry_v41 (c : Dev nD) : Vin m c (Proc.devRef .tc main_v41) = offT (cornT (m ((c.tc : Thread nD τ).loc main_arg1))) (labT (m ((c.tc : Thread nD τ).loc main_arg0))) := by
  simp only [entryContents, afterL_cons, afterL_nil]
  exact pre_v41 _
/-- The order, from the arguments. -/
theorem entry_v43 (c : Dev nD) : Vin m c (Proc.devRef .tc main_v43) = ordT (scoreT (m ((c.tc : Thread nD τ).loc main_arg0))) := by
  simp only [entryContents, afterL_cons, afterL_nil]
  exact pre_v43 _
/-- The places. -/
theorem entry_v95_1 (c : Dev nD) : Vin m c (Proc.devRef .tc main_v95_1) = (iotaInDim S5000 32 0 : IVec S5000 32) := by
  simp only [entryContents, afterL_cons, afterL_nil]
  exact pre_v95_1 _
/-- The counter starts from zero. -/
theorem entry_v95_3 (c : Dev nD) : Vin m c (Proc.devRef .tc main_v95_3) = (constantI S_ 32 0#32 : IVec S_ 32) := by
  simp only [entryContents, afterL_cons, afterL_nil]
  exact pre_v95_3 _
/-- The mask starts empty. -/
theorem entry_v95_4 (c : Dev nD) : Vin m c (Proc.devRef .tc main_v95_4) = (constantI S4x5000 1 0#1 : IVec S4x5000 1) := by
  simp only [entryContents, afterL_cons, afterL_nil]
  exact pre_v95_4 _
/-- The loop leaves the scores as they were, -/
theorem exit_v12 (c : Dev nD) : Vout m c (Proc.devRef .tc main_v12) = Vin m c (Proc.devRef .tc main_v12) :=
  loop_keep m c main_v12 (by decide) (by decide) (by decide) (by decide) (by decide) 5000
/-- the classes, -/
theorem exit_v14 (c : Dev nD) : Vout m c (Proc.devRef .tc main_v14) = Vin m c (Proc.devRef .tc main_v14) :=
  loop_keep m c main_v14 (by decide) (by decide) (by decide) (by decide) (by decide) 5000
/-- the corners, -/
theorem exit_v31 (c : Dev nD) : Vout m c (Proc.devRef .tc main_v31) = Vin m c (Proc.devRef .tc main_v31) :=
  loop_keep m c main_v31 (by decide) (by decide) (by decide) (by decide) (by decide) 5000
/-- the order -/
theorem exit_v43 (c : Dev nD) : Vout m c (Proc.devRef .tc main_v43) = Vin m c (Proc.devRef .tc main_v43) :=
  loop_keep m c main_v43 (by decide) (by decide) (by decide) (by decide) (by decide) 5000
/-- and the image sizes. -/
theorem exit_arg2 (c : Dev nD) : Vout m c (Proc.devRef .tc main_arg2) = m ((c.tc : Thread nD τ).loc main_arg2) :=
  (loop_keep m c main_arg2 (by decide) (by decide) (by decide) (by decide) (by decide) 5000).trans (entry_arg2 m c)

end Cert.Proof.Nms.Ref

end
-- ==== Proof.Nms.RefD.lean ====
/-
  The reference's values at an index: scores, corners and the corners moved apart by class.
-/
module

public import proofs.«01_k».proof.Proof.Nms.RefA
public import proofs.«01_k».proof.Proof.Nms.Lane

@[expose] public section

set_option maxRecDepth 16384

noncomputable section

namespace Cert.Proof.Nms.Ref

open Cert.ReferenceIdeal Cert.ReferenceIdeal.Gen Cert.ReferenceIdeal.Value
open Idealize.ShloMosaic Idealize.ShloMosaic.TcCoe Idealize.ShloMosaic.StableHlo
open Idealize.SL Idealize.SL.Sem

/-- The reference's share of a class. -/
theorem prob_at (x : FVec Ideal S4x5000x92 .f32) (b : Fin 4) (c : Fin 5000) (L : ℕ → EReal)
    (hL : ∀ k : Fin 92, x (Idealize.ShloMosaic.ix3 b c k) = L k) (j : Fin 91) :
    probT x (Idealize.ShloMosaic.ix3 b c j) = lprob L j := by
  pointwise [probT]
  rw [bot_bits, max_eq_right bot_le, show (fun k : Fin 92 => x (Idealize.ShloMosaic.ix3 b c k)) = fun k : Fin 92 => L k from funext hL,
    hL ⟨j.val, by omega⟩]
  exact congrArg (Ideal.div _) (Finset.sum_congr rfl fun k _ => by rw [hL k]; rfl)

/-- The reference's score of a box. -/
theorem score_at (x : FVec Ideal S4x5000x92 .f32) (b : Fin 4) (c : Fin 5000) (L : ℕ → EReal) {M : ℝ}
    (hP : ∀ j : Fin 91, probT x (Idealize.ShloMosaic.ix3 b c j) = lprob L j) (hM : lmax 92 L = (M : EReal)) :
    scoreT x (Idealize.ShloMosaic.ix2 b c) = lscore L := by
  rw [← lscore_eq L hM]
  pointwise [scoreT]
  rw [bot_bits, show (fun k : Fin 91 => probT x (Idealize.ShloMosaic.ix3 b c k)) = fun k : Fin 91 => lprob L k from funext hP]
  rfl

/-- The corners of a box: its centre less or plus half its size. -/
theorem corn_at (x : FVec Ideal S4x5000x4 .f32) (b : Fin 4) (c : Fin 5000) (r : Fin 4) :
    cornT x (Idealize.ShloMosaic.ix3 b c r) = if r.val = 0 then x (Idealize.ShloMosaic.ix3 b c 0) - half * x (Idealize.ShloMosaic.ix3 b c 2)
      else if r.val = 1 then x (Idealize.ShloMosaic.ix3 b c 1) - half * x (Idealize.ShloMosaic.ix3 b c 3)
      else if r.val = 2 then x (Idealize.ShloMosaic.ix3 b c 0) + half * x (Idealize.ShloMosaic.ix3 b c 2)
      else x (Idealize.ShloMosaic.ix3 b c 1) + half * x (Idealize.ShloMosaic.ix3 b c 3) := by
  pointwise [cornT]
  fin_cases r <;> rfl

/-- The reference's corner of a box, moved apart by class. -/
theorem off_at (x : FVec Ideal S4x5000x4 .f32) (l : IVec S4x5000 32) (b : Fin 4) (c : Fin 5000) (r : Fin 4) :
    offT x l (Idealize.ShloMosaic.ix3 b c r) = x (Idealize.ShloMosaic.ix3 b c r)
      + FloatOps.sitofp (F := Ideal) .f32 (l (Idealize.ShloMosaic.ix2 b c)) * (mcT x (Idealize.ShloMosaic.ix1 b) + 1) := by
  pointwise [offT]

end Cert.Proof.Nms.Ref
end
-- ==== Proof.Nms.RefE.lean ====
/-
  The reference's labels: where a box's largest class probability is first reached.
-/
module

public import proofs.«01_k».proof.Proof.Nms.RefA
public import proofs.«01_k».proof.Proof.Nms.Lane

@[expose] public section

set_option maxRecDepth 16384

noncomputable section

namespace Cert.Proof.Nms.Ref

open Cert.ReferenceIdeal Cert.ReferenceIdeal.Gen Cert.ReferenceIdeal.Value
open Idealize.ShloMosaic Idealize.ShloMosaic.TcCoe Idealize.ShloMosaic.StableHlo

/-- The better of two entries, as the reference compares them. -/
theorem red_at (u v : EReal) {a k : ℕ} (ha : a < 2 ^ 31) (hk : k < 2 ^ 31) [Decidable (v < u)] [Decidable (v < u ∨ (u = v ∧ a < k))] :
    reducer_argmax_f32_i32 (F := Ideal) (u, BitVec.ofNat 32 a) (v, BitVec.ofNat 32 k)
      = (if v < u then u else v, if v < u ∨ (u = v ∧ a < k) then BitVec.ofNat 32 a else BitVec.ofNat 32 k) := by
  have e : IntOp.cmpi .slt (BitVec.ofNat 32 a) (BitVec.ofNat 32 k) = BitVec.ofBool (decide (a < k)) := by
    show BitVec.ofBool ((BitVec.ofNat 32 a).slt (BitVec.ofNat 32 k)) = _
    rw [BitVec.slt, toInt_ofNat_of_lt ha, toInt_ofNat_of_lt hk]
    exact congrArg BitVec.ofBool (decide_eq_decide.mpr Int.ofNat_lt)
  unfold reducer_argmax_f32_i32
  simp only [e, Ideal.cmpf_def, Ideal.cmp]
  by_cases h1 : v < u
  · by_cases h2 : u = v
    · exact absurd h1 (by rw [h2]; exact lt_irrefl _)
    · by_cases h3 : a < k <;> simp [h1, h2, h3, IntOp.ori, IntOp.andi, Scalar.select]
  · by_cases h2 : u = v
    · by_cases h3 : a < k <;> simp [h1, h2, h3, IntOp.ori, IntOp.andi, Scalar.select]
    · by_cases h3 : a < k <;> simp [h1, h2, h3, IntOp.ori, IntOp.andi, Scalar.select]

/-- A run through a list keeps an entry that is at least every other and first among equals. -/
theorem red_fold (P : ℕ → EReal) : ∀ (l : List ℕ) (v : EReal) (a : ℕ), a < 2 ^ 31 → (∀ k ∈ l, k < 2 ^ 31) →
    ∃ (w : EReal) (r : ℕ), (l.map fun k => (P k, BitVec.ofNat 32 k)).foldl (reducer_argmax_f32_i32 (F := Ideal)) (v, BitVec.ofNat 32 a) = (w, BitVec.ofNat 32 r)
      ∧ ((w = v ∧ r = a) ∨ (r ∈ l ∧ w = P r)) ∧ (v < w ∨ (v = w ∧ r ≤ a)) ∧ ∀ k ∈ l, P k < w ∨ (P k = w ∧ r ≤ k)
  | [], v, a, ha, hl => ⟨v, a, rfl, Or.inl ⟨rfl, rfl⟩, Or.inr ⟨rfl, le_rfl⟩, fun k hk => absurd hk (List.not_mem_nil)⟩
  | k :: l, v, a, ha, hl => by
      classical
      have hk : k < 2 ^ 31 := hl k List.mem_cons_self
      have hl' : ∀ k ∈ l, k < 2 ^ 31 := fun k h => hl k (List.mem_cons_of_mem _ h)
      rw [List.map_cons, List.foldl_cons, red_at v (P k) ha hk]
      by_cases h : P k < v ∨ (v = P k ∧ a < k)
      · have hv : (if P k < v then v else P k) = v := by
          rcases h with h | ⟨h, _⟩
          · exact if_pos h
          · split
            · rfl
            · exact h.symm
        rw [if_pos h, hv]
        obtain ⟨w, r, h1, h2, h3, h4⟩ := red_fold P l v a ha hl'
        refine ⟨w, r, h1, ?_, h3, ?_⟩
        · rcases h2 with h2 | ⟨h2, h2'⟩
          · exact Or.inl h2
          · exact Or.inr ⟨List.mem_cons_of_mem _ h2, h2'⟩
        · intro j hj
          rcases List.mem_cons.mp hj with rfl | hj
          · rcases h with h | ⟨h, h'⟩
            · rcases h3 with h3 | ⟨h3, _⟩
              · exact Or.inl (h.trans h3)
              · exact Or.inl (h3 ▸ h)
            · rcases h3 with h3 | ⟨h3, h3'⟩
              · exact Or.inl (h ▸ h3)
              · exact Or.inr ⟨h.symm.trans h3, by omega⟩
          · exact h4 j hj
      · have hlt : ¬ P k < v := fun h' => h (Or.inl h')
        rw [if_neg h, if_neg hlt]
        obtain ⟨w, r, h1, h2, h3, h4⟩ := red_fold P l (P k) k hk hl'
        refine ⟨w, r, h1, ?_, ?_, ?_⟩
        · rcases h2 with ⟨h2, h2'⟩ | ⟨h2, h2'⟩
          · exact Or.inr ⟨by rw [h2']; exact List.mem_cons_self, by rw [h2, h2']⟩
          · exact Or.inr ⟨List.mem_cons_of_mem _ h2, h2'⟩
        · rcases lt_or_eq_of_le (not_lt.mp hlt) with h' | h'
          · rcases h3 with h3 | ⟨h3, _⟩
            · exact Or.inl (h'.trans h3)
            · exact Or.inl (h3 ▸ h')
          · have hka : k ≤ a := not_lt.mp fun h'' => h (Or.inr ⟨h', h''⟩)
            rcases h3 with h3 | ⟨h3, h3'⟩
            · exact Or.inl (h' ▸ h3)
            · exact Or.inr ⟨h'.trans h3, by omega⟩
        · intro j hj
          rcases List.mem_cons.mp hj with rfl | hj
          · exact h3
          · exact h4 j hj

/-- The entries that reduce to one box are that box's. -/
theorem drop_iff (i : S4x5000x91.Idx) (b : Fin 4) (c : Fin 5000) :
    reducesTo_S4x5000x91_S4x5000_d2.drop i = Idealize.ShloMosaic.ix2 b c ↔ i 0 = b ∧ i 1 = c := by
  have e0 : reducesTo_S4x5000x91_S4x5000_d2.drop i 0 = i 0 := rfl
  have e1 : reducesTo_S4x5000x91_S4x5000_d2.drop i 1 = i 1 := rfl
  constructor
  · intro h
    rw [h] at e0 e1
    exact ⟨e0.symm, e1.symm⟩
  · rintro ⟨h0, h1⟩
    funext a
    match a with
    | ⟨0, _⟩ => exact e0.trans h0
    | ⟨1, _⟩ => exact e1.trans h1

/-- The elements a reduction gathers at a place are those of the indices over it. -/
theorem fiber_list {α β : Type} {s t : Shape} {axes : List (Fin s.rank)} (x : s.Idx → α) (y : s.Idx → β) (h : s.ReducesTo axes t) (j : t.Idx) :
    ∃ is : List s.Idx, (∀ i, i ∈ is ↔ h.drop i = j) ∧ Host.argReduceFiber x y h j = is.map fun i => (x i, y i) := by
  refine ⟨((List.finRange s.numel).filter fun n => h.drop (s.rowMajor.symm n) = j).map fun n => s.rowMajor.symm n, fun i => ?_, ?_⟩
  · constructor
    · intro hi
      obtain ⟨n, hn, rfl⟩ := List.mem_map.mp hi
      exact of_decide_eq_true (List.mem_filter.mp hn).2
    · intro hi
      refine List.mem_map.mpr ⟨s.rowMajor i, List.mem_filter.mpr ⟨List.mem_finRange _, decide_eq_true ?_⟩, ?_⟩
      · rw [Equiv.symm_apply_apply]; exact hi
      · rw [Equiv.symm_apply_apply]
  · rw [List.map_map]; rfl

/-- The label of a box. -/
theorem lab_at (x : FVec Ideal S4x5000x92 .f32) (b : Fin 4) (c : Fin 5000) (L : ℕ → EReal) {M : ℝ}
    (hP : ∀ j : Fin 91, probT x (Idealize.ShloMosaic.ix3 b c j) = lprob L j) (hM : lmax 92 L = (M : EReal)) :
    labT x (Idealize.ShloMosaic.ix2 b c) = BitVec.ofNat 32 (llab L) := by
  unfold labT
  generalize probT x = p at hP
  rw [Ideal.argReduce_eq_reduce2, Host.reduce2_eq_foldl_fiber]
  obtain ⟨is, hmem, hf⟩ := fiber_list p (iotaInDim S4x5000x91 32 2) reducesTo_S4x5000x91_S4x5000_d2 (Idealize.ShloMosaic.ix2 b c)
  rw [hf]
  have hix : ∀ i ∈ is, i = Idealize.ShloMosaic.ix3 b c (i 2 : Fin 91) := fun i hi => by
    have h := (drop_iff _ b c).mp ((hmem i).mp hi)
    funext a
    match a with
    | ⟨0, _⟩ => exact h.1
    | ⟨1, _⟩ => exact h.2
    | ⟨2, _⟩ => rfl
  have hm : (is.map fun i => (p i, iotaInDim S4x5000x91 32 2 i))
      = (is.map fun i => (i 2).val).map fun k => (lprob L k, BitVec.ofNat 32 k) := by
    rw [List.map_map]
    refine List.map_congr_left fun i hi => ?_
    exact Prod.ext ((congrArg p (hix i hi)).trans (hP (i 2 : Fin 91))) rfl
  rw [hm]
  have hlt : ∀ k ∈ is.map (fun i => (i 2).val), k < 91 := fun k hk => by
    obtain ⟨i, _, rfl⟩ := List.mem_map.mp hk
    exact (i 2).isLt
  have hall : ∀ k, k < 91 → k ∈ is.map (fun i => (i 2).val) := fun k hk =>
    List.mem_map.mpr ⟨Idealize.ShloMosaic.ix3 b c (⟨k, hk⟩ : Fin 91), (hmem _).mpr ((drop_iff _ b c).mpr ⟨rfl, rfl⟩), rfl⟩
  generalize is.map (fun i => (i 2).val) = ks at hlt hall
  obtain ⟨w, r, h1, h2, h3, h4⟩ := red_fold (lprob L) ks (Ideal.ofBits .f32 4286578688#32) 0 (by norm_num) fun k hk => (hlt k hk).trans (by norm_num)
  refine (congrArg Prod.snd h1).trans ?_
  have hr : r ∈ ks ∧ w = lprob L r := by
    rcases h2 with ⟨h2, _⟩ | h2
    · rw [h2, bot_bits] at h4
      rcases h4 0 (hall 0 (by norm_num)) with h | ⟨h, _⟩
      · exact absurd h not_lt_bot
      · exact absurd (lprob_nonneg L hM (j := 0) (by norm_num)) (by rw [h]; exact not_le.mpr (EReal.bot_lt_coe 0))
    · exact h2
  refine congrArg (BitVec.ofNat 32) (llab_eq L (hlt r hr.1) fun k hk => ?_).symm
  have hr91 := hlt r hr.1
  rcases h4 k (hall k hk) with h | ⟨h, h'⟩
  · rw [hr.2, lprob_lt L hM (by omega) (by omega)] at h
    exact Or.inl h
  · rw [hr.2] at h
    rcases lt_trichotomy (L k) (L r) with g | g | g
    · exact Or.inl g
    · exact Or.inr ⟨g, h'⟩
    · rw [← lprob_lt L hM (by omega) (by omega), h] at g
      exact absurd g (lt_irrefl _)

end Cert.Proof.Nms.Ref
end
-- ==== Proof.Nms.Final.lean ====
/-
  The kernel's three results are the reference's.
-/
module

public import proofs.«01_k».proof.Proof.Nms.KFacts
public import proofs.«01_k».proof.Proof.Nms.Equal
public import proofs.«01_k».proof.Proof.Nms.RefB
public import proofs.«01_k».proof.Proof.Nms.RefD
public import proofs.«01_k».proof.Proof.Nms.RefE
public import proofs.«01_k».proof.Proof.Nms.RefM

@[expose] public section

set_option maxRecDepth 16384

noncomputable section

namespace Cert.Proof.Nms

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (hl : ∀ (b : Fin 4) (p : Fin 5000), ∃ M : ℝ, lmax 92 (lane (arg0 m c) b p) = (M : EReal))
  (h1 : ∀ b : Fin 4, 0 ≤ Ref.mcT (Ref.cornT (arg1 m c)) (Idealize.ShloMosaic.ix1 b)) (b : Fin 4)

include hl in
/-- The kernel's places past the last box come after every box. -/
theorem pad_last : ∀ p, p < 5000 → ∀ j, 5000 ≤ j → ¬ before (tb m c b 4) j p :=
  fun p hp j hj => tb_before m c b (tb_pos m c b (hl b)) p hp j hj

/-- The reference's share of a class, from the box's scores. -/
theorem prob_lane (p : Fin 5000) (j : Fin 91) :
    Ref.probT (arg0 m c) (Idealize.ShloMosaic.ix3 b p j) = lprob (lane (arg0 m c) b p) j :=
  Ref.prob_at (arg0 m c) b p _ (lane_at (arg0 m c) b p) j

include hl in
/-- The reference's scores are the table's fourth row, -/
theorem score_tb (p : Fin 5000) : Ref.scoreT (arg0 m c) (Idealize.ShloMosaic.ix2 b p) = tb m c b 4 p := by
  rw [tb_score]
  obtain ⟨M, h⟩ := hl b p
  exact Ref.score_at (arg0 m c) b p _ (prob_lane m c b p) h

/-- A box's class, zero past the last box. -/
def cls (p : ℕ) : ℕ := if h : p < 5000 then llab (lane (arg0 m c) b ⟨p, h⟩) else 0

/-- The class of a true box is where its largest score is first reached. -/
theorem cls_at (p : Fin 5000) : cls m c b p = llab (lane (arg0 m c) b p) := by
  unfold cls; rw [dif_pos p.isLt]

/-- A class fits in a word. -/
theorem cls_lt (p : ℕ) : cls m c b p < 2 ^ 31 := by
  unfold cls
  split
  · exact (llab_spec _).1.trans (by norm_num)
  · norm_num

include hl in
/-- its classes the fifth row, -/
theorem lab_cls (p : Fin 5000) : Ref.labT (arg0 m c) (Idealize.ShloMosaic.ix2 b p) = BitVec.ofNat 32 (cls m c b p) := by
  rw [cls_at]
  obtain ⟨M, h⟩ := hl b p
  exact Ref.lab_at (arg0 m c) b p _ (prob_lane m c b p) h

/-- The table's fifth row is the class. -/
theorem cls_tb (p : Fin 5000) : tb m c b 5 p = ((cls m c b p : ℕ) : EReal) := by
  rw [cls_at]; exact tb_label m c b p

/-- its corners the first four, -/
theorem corn_tb (p : Fin 5000) (r : Fin 4) : Ref.cornT (arg1 m c) (Idealize.ShloMosaic.ix3 b p r) = tb m c b r p := by
  rw [tb_corner]
  exact Ref.corn_at (arg1 m c) b p r

include h1 in
/-- and its largest corner the table's. -/
theorem mc_tb : Ref.mcT (Ref.cornT (arg1 m c)) (Idealize.ShloMosaic.ix1 b) = mc (tb m c b) := by
  have e := Ref.mc_at _ b (tb m c b) (corn_tb m c b)
  have h := h1 b
  rw [e] at h ⊢
  rcases Finset.le_fold_max _ |>.mp h with h | ⟨q, _, h⟩
  · exact absurd h (by simp)
  · exact (tb_max m c b ⟨q.1, q.2, h⟩).symm

/-- The reference's order, -/
abbrev ordO : IVec Cert.ReferenceIdeal.S4x5000 32 := Ref.ordT (Ref.scoreT (arg0 m c))
/-- and its mask when its loop has ended. -/
abbrev mask : IVec Cert.ReferenceIdeal.S4x5000 1 := Ref.Vout m' c (Proc.devRef .tc Cert.ReferenceIdeal.main_v95_4)

include hl in
/-- The reference's order lists the boxes by the table's ranks. -/
theorem ordO_at (p : Fin 5000) : ordO m c (Idealize.ShloMosaic.ix2 b p) = BitVec.ofNat 32 (sg (tb m c b 4) p) :=
  Ref.ord_eq (tb m c b) (pad_last m c hl b) b _ (score_tb m c hl b) p

variable (e0 : m' ((c.tc : Thread Cert.ReferenceIdeal.nD Cert.ReferenceIdeal.τ).loc Cert.ReferenceIdeal.main_arg0) = arg0 m c)
  (e1 : m' ((c.tc : Thread Cert.ReferenceIdeal.nD Cert.ReferenceIdeal.τ).loc Cert.ReferenceIdeal.main_arg1) = arg1 m c)
  (e2 : m' ((c.tc : Thread Cert.ReferenceIdeal.nD Cert.ReferenceIdeal.τ).loc Cert.ReferenceIdeal.main_arg2)
    = m ((c : Thread Cert.KernelIdeal.nD Cert.KernelIdeal.τ).loc Cert.KernelIdeal.main_arg2))

include e0 e1 in
/-- The overlaps the reference's loop starts from are those of the boxes in rank order. -/
theorem entry_iou : Ref.Vin m' c (Proc.devRef .tc Cert.ReferenceIdeal.main_v95_0)
    = Ref.iouT (Ref.takeRows (Ref.offT (Ref.cornT (arg1 m c)) (Ref.labT (arg0 m c))) (ordO m c)) := by
  rw [Ref.entry_v95_0, Ref.entry_v45, Ref.entry_v41, Ref.entry_v43, e0, e1]

include hl h1 e0 e1 in
/-- The reference's mask says which ranks are suppressed. -/
theorem mask_at (p : Fin 5000) : mask m' c (Idealize.ShloMosaic.ix2 b p) = 1#1 ↔ sup (tb m c b) p :=
  Ref.exit_mask m' c (Ref.entry_v95_3 m' c) (fun p => by rw [Ref.entry_v95_1]; rfl) (Ref.entry_v95_4 m' c) b (ovr (ob (tb m c b)))
    (fun i j => by
      rw [entry_iou m m' c e0 e1]
      rw [Ref.iou_at _ b i j (ob (tb m c b)) (fun p r => Ref.box_eq (tb m c b) (pad_last m c hl b) b _ (cls m c b)
        (lab_cls m c hl b) (cls_lt m c b) (cls_tb m c b) _ (corn_tb m c b) _ (ordO_at m c hl b)
        (fun p r => Ref.off_at _ _ b p r) (mc_tb m c h1 b) p r)]
      rfl) p

include e0 in
/-- After the loop the scores are what they were before it, -/
theorem out_v12 : Ref.Vout m' c (Proc.devRef .tc Cert.ReferenceIdeal.main_v12) = Ref.scoreT (arg0 m c) := by
  rw [Ref.exit_v12, Ref.entry_v12, e0]
include e0 in
/-- the classes too, -/
theorem out_v14 : Ref.Vout m' c (Proc.devRef .tc Cert.ReferenceIdeal.main_v14) = Ref.labT (arg0 m c) := by
  rw [Ref.exit_v14, Ref.entry_v14, e0]
include e1 in
/-- the corners too, -/
theorem out_v31 : Ref.Vout m' c (Proc.devRef .tc Cert.ReferenceIdeal.main_v31) = Ref.cornT (arg1 m c) := by
  rw [Ref.exit_v31, Ref.entry_v31, e1]
include e0 in
/-- and the order. -/
theorem out_v43 : Ref.Vout m' c (Proc.devRef .tc Cert.ReferenceIdeal.main_v43) = ordO m c := by
  rw [Ref.exit_v43, Ref.entry_v43, e0]

include hl h1 e0 e1 in
/-- The scores kept. -/
theorem res_0 : Ref.Vend m' c (Proc.devRef .tc Cert.ReferenceIdeal.main_v108) = fin m c Cert.KernelIdeal.main_v0_0 := by
  rw [Ref.end_v108, fin_0, out_v12 m m' c e0, out_v43 m m' c e0]
  funext i
  rw [Idealize.ShloMosaic.eq_ix2 i]
  exact (Ref.score_eq (tb m c (i 0)) (pad_last m c hl (i 0)) (i 0) _ (score_tb m c hl (i 0)) _ (ordO_at m c hl (i 0))
    _ (mask_at m m' c hl h1 (i 0) e0 e1) (i 1)).trans (head3_at (all3 m c) (i 0) (i 1)).symm

include hl h1 e0 e1 in
/-- Their classes. -/
theorem res_1 : Ref.Vend m' c (Proc.devRef .tc Cert.ReferenceIdeal.main_v109) = fin m c Cert.KernelIdeal.main_v0_1 := by
  rw [Ref.end_v109, fin_1, out_v14 m m' c e0, out_v43 m m' c e0]
  funext i
  rw [Idealize.ShloMosaic.eq_ix2 i]
  exact (Ref.label_eq (tb m c (i 0)) (pad_last m c hl (i 0)) (i 0) _ (cls m c (i 0)) (lab_cls m c hl (i 0)) (cls_lt m c (i 0))
    (cls_tb m c (i 0)) _ (ordO_at m c hl (i 0))
    _ (mask_at m m' c hl h1 (i 0) e0 e1) (i 1)).trans (head4_at (all4 m c) (i 0) (i 1)).symm

include hl h1 e0 e1 in
/-- The corners of the hundred boxes agree, before they are scaled to the image. -/
theorem corners_kept : Ref.takeRows100 (Ref.cornT (arg1 m c)) (Ref.selT (mask m' c) (ordO m c)) = head5 (all5 m c) := by
  funext i
  rw [show i = Idealize.ShloMosaic.ix3 (i 0 : Fin 4) (i 1 : Fin 100) (i 2 : Fin 4) from Idealize.ShloMosaic.eq_ix3 i]
  refine (Ref.corner_eq (tb m c (i 0)) (pad_last m c hl (i 0)) (i 0) _ (corn_tb m c (i 0)) _ (ordO_at m c hl (i 0))
    _ (mask_at m m' c hl h1 (i 0) e0 e1) (i 1) (i 2)).trans (Eq.trans ?_ (head5_at (all5 m c) (i 0) (i 1) (i 2)).symm)
  exact (if_pos (i 2).isLt).symm

include hl h1 e0 e1 e2 in
/-- And their boxes, in the image's own size. -/
theorem res_2 : Ref.Vend m' c (Proc.devRef .tc Cert.ReferenceIdeal.main_v125) = fin m c Cert.KernelIdeal.main_v0_2 := by
  rw [Ref.end_v125, fin_2, out_v31 m m' c e1, out_v43 m m' c e0, Ref.exit_arg2, e2]
  exact congrArg (fun z => mulf z (scaleK (m ((c : Thread Cert.KernelIdeal.nD Cert.KernelIdeal.τ).loc Cert.KernelIdeal.main_arg2))))
    (corners_kept m m' c hl h1 e0 e1)

end Cert.Proof.Nms
end
-- ==== Proof.lean ====
/-
  The certificate: both programs run to a quiet end with their arguments unchanged, and where every box's largest
  class score is a number and no image's largest corner is negative the kernel's three results are the reference's.
-/
module

public import proofs.«01_k».proof.Defs
public import proofs.«01_k».proof.Proof.Gen.Pre_finite_top_logit_corner_nonneg
public import proofs.«01_k».proof.Proof.Nms.Launch
public import proofs.«01_k».proof.Proof.Nms.RefRun
public import proofs.«01_k».proof.Proof.Nms.PreDec
public import proofs.«01_k».proof.Proof.Nms.Final

@[expose] public section

noncomputable section

namespace Cert.Proof

open Idealize.ShloMosaic Idealize.SL.Sem

/-- The kernel runs to a quiet end and leaves its arguments as they were. -/
theorem frame_kernel : Cert.quiescent_KernelIdeal (hKernelIdeal := Cert.KernelIdeal.Gen.facts) := fun m g _ =>
  (θ_run _ _ _).mono (fun _ h => ⟨fun c => (h.1 c).2.2.2, h.2⟩) (Nms.run_results m g)

/-- The reference runs to a quiet end and leaves its arguments as they were. -/
theorem frame_reference : Cert.quiescent_ReferenceIdeal (hReferenceIdeal := Cert.ReferenceIdeal.Gen.facts) := fun m g _ =>
  (θ_run _ _ _).mono (fun _ h => ⟨fun c => (h.1 c).2.2.2, h.2⟩) (Nms.Ref.run_results m g)

/-- From memories that agree on the arguments and satisfy the precondition, the kernel and the reference end with the
    same scores, the same classes and the same boxes. -/
theorem same_results : Cert.algebraic_KernelIdeal_ReferenceIdeal_pre_finite_top_logit_corner_nonneg (hKernelIdeal := Cert.KernelIdeal.Gen.facts)
    (hReferenceIdeal := Cert.ReferenceIdeal.Gen.facts) (hPre_finite_top_logit_corner_nonneg := Cert.Pre_finite_top_logit_corner_nonneg.Gen.facts) := by
  intro m g m' g' hpre hargs
  have hd := fun c => Nms.pre_dec _ _ _ (hpre c)
  have hl : ∀ c (b : Fin 4) (p : Fin 5000), ∃ M : ℝ, Nms.lmax 92 (Nms.lane (Nms.arg0 m c) b p) = (M : EReal) := fun c b p => by
    obtain ⟨M, h⟩ := (hd c).1 b p
    exact ⟨M, (Nms.Ref.top_at (Nms.arg0 m c) b p _ (Nms.lane_at (Nms.arg0 m c) b p)).symm.trans h⟩
  refine ⟨fun c => Nms.fin m c Cert.KernelIdeal.main_v0_0, fun c => Nms.fin m c Cert.KernelIdeal.main_v0_1,
    fun c => Nms.fin m c Cert.KernelIdeal.main_v0_2, (θ_run _ _ _).mono (fun _ h => h.1) (Nms.run_results m g), ?_⟩
  refine (θ_run _ _ _).mono (fun _ h c => ?_) (Nms.Ref.run_results m' g')
  obtain ⟨r0, r1, r2, ra⟩ := h.1 c
  obtain ⟨a0, a1, a2⟩ := hargs c
  exact ⟨r0.trans (Nms.res_0 m m' c (hl c) (hd c).2 a0 a1), r1.trans (Nms.res_1 m m' c (hl c) (hd c).2 a0 a1),
    r2.trans (Nms.res_2 m m' c (hl c) (hd c).2 a0 a1 a2), ra⟩

/-- Everything the certificate claims, assembled. -/
theorem claim : Cert.Claim :=
  ⟨Cert.KernelIdeal.Gen.facts, Cert.ReferenceIdeal.Gen.facts, Cert.Pre_finite_top_logit_corner_nonneg.Gen.facts, frame_kernel,
    fun m g _ => frame_kernel m g trivial, frame_reference, fun m g _ => frame_reference m g trivial, same_results⟩

end Cert.Proof

end
